-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S128x2048 : Shape := ⟨2, ![128, 2048]⟩
abbrev S2048x2048 : Shape := ⟨2, ![2048, 2048]⟩
abbrev S16x4x32x2048 : Shape := ⟨4, ![16, 4, 32, 2048]⟩
abbrev S16x32x2048 : Shape := ⟨3, ![16, 32, 2048]⟩
abbrev S16x3 : Shape := ⟨2, ![16, 3]⟩
abbrev S16x2 : Shape := ⟨2, ![16, 2]⟩
abbrev S16 : Shape := ⟨1, ![16]⟩
abbrev S512x128 : Shape := ⟨2, ![512, 128]⟩
abbrev S512x2048 : Shape := ⟨2, ![512, 2048]⟩
abbrev S32x2048 : Shape := ⟨2, ![32, 2048]⟩
abbrev S1x32x2048 : Shape := ⟨3, ![1, 32, 2048]⟩
abbrev S_ : Shape := ⟨0, ![]⟩
abbrev S1x1x32x2048 : Shape := ⟨4, ![1, 1, 32, 2048]⟩
abbrev S1x1 : Shape := ⟨2, ![1, 1]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S2048x128, .f32⟩
  | .hbm, ⟨1, _⟩ => ⟨S128x2048, .f32⟩
  | .hbm, ⟨2, _⟩ => ⟨S2048x2048, .f32⟩
  | .local _ .vmem, ⟨0, _⟩ => ⟨S2048x128, .f32⟩
  | .local _ .vmem, ⟨1, _⟩ => ⟨S128x2048, .f32⟩
  | .local _ .vmem, ⟨2, _⟩ => ⟨S2048x2048, .f32⟩
  | .local _ .vmem, ⟨3, _⟩ => ⟨S16x4x32x2048, .f32⟩
  | .local _ .vmem, ⟨4, _⟩ => ⟨S16x32x2048, .f32⟩
  | .local _ .vmem, ⟨5, _⟩ => ⟨S16x32x2048, .f32⟩
  | _, _ => ⟨S2048x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 259 → Bool
  | ⟨i, _⟩ => dmaSemScopedAt i

abbrev sig : RefSig :=
  (ofTc nBuf bufTy 17 259 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 16

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c512_i32 : BitVec 32 := 512#32
  let v79 : BitVec 32 := Scalar.muli v29 c512_i32
  let v80 : Index := Scalar.indexCast v79
  let c0 : Index := 0#32
  ![v80.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c512_i32_44 : BitVec 32 := 512#32
  let v86 : BitVec 32 := Scalar.muli v29 c512_i32_44
  let v87 : Index := Scalar.indexCast v86
  let c0_45 : Index := 0#32
  ![v87.toNat, 0]
def k0_dev1 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_48 : BitVec 32 := 1#32
  let v93 : BitVec 32 := Scalar.muli v55 c1_i32_48
  let v94 : BitVec 32 := Scalar.addi c0_i32_49 v93
  v94.toNat
def k0_dev2 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_51 : BitVec 32 := 1#32
  let v95 : BitVec 32 := Scalar.muli v42 c1_i32_51
  let v96 : BitVec 32 := Scalar.addi c0_i32_52 v95
  v96.toNat
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_54 : BitVec 32 := 1#32
  let v97 : BitVec 32 := Scalar.muli v66 c1_i32_54
  let v98 : BitVec 32 := Scalar.addi c0_i32_55 v97
  v98.toNat
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_57 : BitVec 32 := 1#32
  let v99 : BitVec 32 := Scalar.muli v78 c1_i32_57
  let v100 : BitVec 32 := Scalar.addi c0_i32_58 v99
  v100.toNat
def k0_off3 (d0 : Dev nD) (c0_i32_1101 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c512_i32_1100 : BitVec 32 := 512#32
  let v1541 : BitVec 32 := Scalar.muli v29 c512_i32_1100
  let v1542 : BitVec 32 := Scalar.addi v1541 c0_i32_1101
  let v1543 : Index := Scalar.indexCast v1542
  let c0_1102 : Index := 0#32
  ![v1543.toNat, 0]
def k0_dev5 (d0 : Dev nD) : Nat :=
  let c0_i32_1116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1115 : BitVec 32 := 1#32
  let v1549 : BitVec 32 := Scalar.muli v42 c1_i32_1115
  let v1550 : BitVec 32 := Scalar.addi c0_i32_1116 v1549
  v1550.toNat
def k0_dev6 (d0 : Dev nD) : Nat :=
  let c0_i32_1136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_1135 : BitVec 32 := 1#32
  let v1567 : BitVec 32 := Scalar.muli v55 c1_i32_1135
  let v1568 : BitVec 32 := Scalar.addi c0_i32_1136 v1567
  v1568.toNat
def k0_off4 (d0 : Dev nD) (c1_i32_1163 : BitVec 32) (c0_i32_1175 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_1162 : BitVec 32 := 4#32
  let v1591 : BitVec 32 := Scalar.addi v29 c4_i32_1162
  let v1592 : BitVec 32 := Scalar.subi v1591 c1_i32_1163
  let c4_i32_1164 : BitVec 32 := 4#32
  let c0_i32_1165 : BitVec 32 := 0#32
  let v1593 : BitVec 1 := Scalar.cmpi .eq c4_i32_1164 c0_i32_1165
  let c1_i32_1166 : BitVec 32 := 1#32
  let v1594 : BitVec 32 := Scalar.select v1593 c1_i32_1166 c4_i32_1164
  let v1595 : BitVec 32 := Scalar.remsi v1592 v1594
  let c0_i32_1168 : BitVec 32 := 0#32
  let v1597 : BitVec 1 := Scalar.cmpi .slt v1595 c0_i32_1168
  let c0_i32_1169 : BitVec 32 := 0#32
  let v1598 : BitVec 1 := Scalar.cmpi .slt v1594 c0_i32_1169
  let v1599 : BitVec 1 := Scalar.xori v1597 v1598
  let c0_i32_1167 : BitVec 32 := 0#32
  let v1596 : BitVec 1 := Scalar.cmpi .ne v1595 c0_i32_1167
  let v1600 : BitVec 1 := Scalar.andi v1599 v1596
  let v1601 : BitVec 32 := Scalar.addi v1595 v1594
  let v1602 : BitVec 32 := Scalar.select v1600 v1601 v1595
  let c512_i32_1174 : BitVec 32 := 512#32
  let v1605 : BitVec 32 := Scalar.muli v1602 c512_i32_1174
  let v1606 : BitVec 32 := Scalar.addi v1605 c0_i32_1175
  let v1607 : Index := Scalar.indexCast v1606
  let c0_1176 : Index := 0#32
  ![v1607.toNat, 0]
def k0_off4_at (r : Fin 24) : BitVec 32 × BitVec 32 :=
  if r.val < 12 then
    if r.val < 6 then
      if r.val < 3 then
        if r.val < 1 then
          (1#32, 0#32)
        else
          if r.val < 2 then
            (2#32, 0#32)
          else
            (1#32, 32#32)
      else
        if r.val < 4 then
          (1#32, 256#32)
        else
          if r.val < 5 then
            (2#32, 32#32)
          else
            (1#32, 64#32)
    else
      if r.val < 9 then
        if r.val < 7 then
          (1#32, 288#32)
        else
          if r.val < 8 then
            (2#32, 64#32)
          else
            (1#32, 96#32)
      else
        if r.val < 10 then
          (1#32, 320#32)
        else
          if r.val < 11 then
            (2#32, 96#32)
          else
            (1#32, 128#32)
  else
    if r.val < 18 then
      if r.val < 15 then
        if r.val < 13 then
          (1#32, 352#32)
        else
          if r.val < 14 then
            (2#32, 128#32)
          else
            (1#32, 160#32)
      else
        if r.val < 16 then
          (1#32, 384#32)
        else
          if r.val < 17 then
            (2#32, 160#32)
          else
            (1#32, 192#32)
    else
      if r.val < 21 then
        if r.val < 19 then
          (1#32, 416#32)
        else
          if r.val < 20 then
            (2#32, 192#32)
          else
            (1#32, 224#32)
      else
        if r.val < 22 then
          (1#32, 448#32)
        else
          if r.val < 23 then
            (2#32, 224#32)
          else
            (1#32, 480#32)
def k0_dev7 (d0 : Dev nD) : Nat :=
  let c0_i32_1190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1189 : BitVec 32 := 1#32
  let v1614 : BitVec 32 := Scalar.muli v42 c1_i32_1189
  let v1615 : BitVec 32 := Scalar.addi c0_i32_1190 v1614
  v1615.toNat
def k0_off5 (d0 : Dev nD) (c1_i32_1209 : BitVec 32) (c256_i32_1221 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1632 : BitVec 32 := Scalar.addi v29 c1_i32_1209
  let c4_i32_1210 : BitVec 32 := 4#32
  let c0_i32_1211 : BitVec 32 := 0#32
  let v1633 : BitVec 1 := Scalar.cmpi .eq c4_i32_1210 c0_i32_1211
  let c1_i32_1212 : BitVec 32 := 1#32
  let v1634 : BitVec 32 := Scalar.select v1633 c1_i32_1212 c4_i32_1210
  let v1635 : BitVec 32 := Scalar.remsi v1632 v1634
  let c0_i32_1214 : BitVec 32 := 0#32
  let v1637 : BitVec 1 := Scalar.cmpi .slt v1635 c0_i32_1214
  let c0_i32_1215 : BitVec 32 := 0#32
  let v1638 : BitVec 1 := Scalar.cmpi .slt v1634 c0_i32_1215
  let v1639 : BitVec 1 := Scalar.xori v1637 v1638
  let c0_i32_1213 : BitVec 32 := 0#32
  let v1636 : BitVec 1 := Scalar.cmpi .ne v1635 c0_i32_1213
  let v1640 : BitVec 1 := Scalar.andi v1639 v1636
  let v1641 : BitVec 32 := Scalar.addi v1635 v1634
  let v1642 : BitVec 32 := Scalar.select v1640 v1641 v1635
  let c512_i32_1220 : BitVec 32 := 512#32
  let v1645 : BitVec 32 := Scalar.muli v1642 c512_i32_1220
  let v1646 : BitVec 32 := Scalar.addi v1645 c256_i32_1221
  let v1647 : Index := Scalar.indexCast v1646
  let c0_1222 : Index := 0#32
  ![v1647.toNat, 0]
def k0_off5_at (r : Fin 24) : BitVec 32 × BitVec 32 :=
  if r.val < 12 then
    if r.val < 6 then
      if r.val < 3 then
        if r.val < 1 then
          (1#32, 256#32)
        else
          if r.val < 2 then
            (2#32, 256#32)
          else
            (1#32, 288#32)
      else
        if r.val < 4 then
          (1#32, 0#32)
        else
          if r.val < 5 then
            (2#32, 288#32)
          else
            (1#32, 320#32)
    else
      if r.val < 9 then
        if r.val < 7 then
          (1#32, 32#32)
        else
          if r.val < 8 then
            (2#32, 320#32)
          else
            (1#32, 352#32)
      else
        if r.val < 10 then
          (1#32, 64#32)
        else
          if r.val < 11 then
            (2#32, 352#32)
          else
            (1#32, 384#32)
  else
    if r.val < 18 then
      if r.val < 15 then
        if r.val < 13 then
          (1#32, 96#32)
        else
          if r.val < 14 then
            (2#32, 384#32)
          else
            (1#32, 416#32)
      else
        if r.val < 16 then
          (1#32, 128#32)
        else
          if r.val < 17 then
            (2#32, 416#32)
          else
            (1#32, 448#32)
    else
      if r.val < 21 then
        if r.val < 19 then
          (1#32, 160#32)
        else
          if r.val < 20 then
            (2#32, 448#32)
          else
            (1#32, 480#32)
      else
        if r.val < 22 then
          (1#32, 192#32)
        else
          if r.val < 23 then
            (2#32, 480#32)
          else
            (1#32, 224#32)
def k0_dev8 (d0 : Dev nD) : Nat :=
  let c0_i32_1236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_1235 : BitVec 32 := 1#32
  let v1654 : BitVec 32 := Scalar.muli v55 c1_i32_1235
  let v1655 : BitVec 32 := Scalar.addi c0_i32_1236 v1654
  v1655.toNat
def k0_dev9 (d0 : Dev nD) : Nat :=
  let c0_i32_1256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1255 : BitVec 32 := 1#32
  let v1672 : BitVec 32 := Scalar.muli v42 c1_i32_1255
  let v1673 : BitVec 32 := Scalar.addi c0_i32_1256 v1672
  v1673.toNat
def k0_dev10 (d0 : Dev nD) : Nat :=
  let c0_i32_1276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_1275 : BitVec 32 := 1#32
  let v1690 : BitVec 32 := Scalar.muli v55 c1_i32_1275
  let v1691 : BitVec 32 := Scalar.addi c0_i32_1276 v1690
  v1691.toNat
def k0_dev11 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1322 : BitVec 32 := 1#32
  let v1731 : BitVec 32 := Scalar.muli v42 c1_i32_1322
  let v1732 : BitVec 32 := Scalar.addi c0_i32_1323 v1731
  v1732.toNat
def k0_dev12 (d0 : Dev nD) : Nat :=
  let c0_i32_1331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_1330 : BitVec 32 := 1#32
  let v1743 : BitVec 32 := Scalar.muli v55 c1_i32_1330
  let v1744 : BitVec 32 := Scalar.addi c0_i32_1331 v1743
  v1744.toNat
def k0_dev13 (d0 : Dev nD) : Nat :=
  let c0_i32_1373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_1372 : BitVec 32 := 1#32
  let v1775 : BitVec 32 := Scalar.muli v55 c1_i32_1372
  let v1776 : BitVec 32 := Scalar.addi c0_i32_1373 v1775
  v1776.toNat
def k0_dev14 (d0 : Dev nD) : Nat :=
  let c0_i32_1381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1380 : BitVec 32 := 1#32
  let v1787 : BitVec 32 := Scalar.muli v42 c1_i32_1380
  let v1788 : BitVec 32 := Scalar.addi c0_i32_1381 v1787
  v1788.toNat
def k0_dev15 (d0 : Dev nD) : Nat :=
  let c0_i32_1424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1423 : BitVec 32 := 1#32
  let v1820 : BitVec 32 := Scalar.muli v42 c1_i32_1423
  let v1821 : BitVec 32 := Scalar.addi c0_i32_1424 v1820
  v1821.toNat
def k0_dev16 (d0 : Dev nD) : Nat :=
  let c0_i32_1470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_1469 : BitVec 32 := 1#32
  let v1860 : BitVec 32 := Scalar.muli v55 c1_i32_1469
  let v1861 : BitVec 32 := Scalar.addi c0_i32_1470 v1860
  v1861.toNat
def k0_dev17 (d0 : Dev nD) : Nat :=
  let c0_i32_1490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1489 : BitVec 32 := 1#32
  let v1878 : BitVec 32 := Scalar.muli v42 c1_i32_1489
  let v1879 : BitVec 32 := Scalar.addi c0_i32_1490 v1878
  v1879.toNat
def k0_dev18 (d0 : Dev nD) : Nat :=
  let c0_i32_1509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_1508 : BitVec 32 := 1#32
  let v1896 : BitVec 32 := Scalar.muli v55 c1_i32_1508
  let v1897 : BitVec 32 := Scalar.addi c0_i32_1509 v1896
  v1897.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_1572 : BitVec 32 := 0#32
  let v1948 : BitVec 1 := Scalar.cmpi .eq v19 c0_i32_1572
  let v1949 : BitVec 32 := Scalar.extui v1948
  let c0_i32_1580 : BitVec 32 := 0#32
  let v1950 : BitVec 1 := Scalar.cmpi .ne v1949 c0_i32_1580
  v1950

def k0_dev19 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6833 : BitVec 32 := 1#32
  let v5712 : BitVec 32 := Scalar.muli v66 c1_i32_6833
  let v5713 : BitVec 32 := Scalar.addi c0_i32_6834 v5712
  v5713.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1581 : BitVec 32 := 3#32
  let v1951 : BitVec 1 := Scalar.cmpi .eq v19 c3_i32_1581
  let v1952 : BitVec 32 := Scalar.extui v1951
  let c0_i32_1589 : BitVec 32 := 0#32
  let v1953 : BitVec 1 := Scalar.cmpi .ne v1952 c0_i32_1589
  v1953

def k0_dev20 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6833 : BitVec 32 := 1#32
  let v5712 : BitVec 32 := Scalar.muli v78 c1_i32_6833
  let v5713 : BitVec 32 := Scalar.addi c0_i32_6834 v5712
  v5713.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_1649 : BitVec 32 := 0#32
  let v1997 : BitVec 1 := Scalar.cmpi .eq v19 c0_i32_1649
  let v1998 : BitVec 32 := Scalar.extui v1997
  let c0_i32_1657 : BitVec 32 := 0#32
  let v1999 : BitVec 1 := Scalar.cmpi .ne v1998 c0_i32_1657
  v1999

def k0_dev21 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6833 : BitVec 32 := 1#32
  let v5712 : BitVec 32 := Scalar.muli v66 c1_i32_6833
  let v5713 : BitVec 32 := Scalar.addi c0_i32_6834 v5712
  v5713.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1658 : BitVec 32 := 3#32
  let v2000 : BitVec 1 := Scalar.cmpi .eq v19 c3_i32_1658
  let v2001 : BitVec 32 := Scalar.extui v2000
  let c0_i32_1666 : BitVec 32 := 0#32
  let v2002 : BitVec 1 := Scalar.cmpi .ne v2001 c0_i32_1666
  v2002

def k0_dev22 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6833 : BitVec 32 := 1#32
  let v5712 : BitVec 32 := Scalar.muli v78 c1_i32_6833
  let v5713 : BitVec 32 := Scalar.addi c0_i32_6834 v5712
  v5713.toNat
def k0_dev23 (d0 : Dev nD) : Nat :=
  let c0_i32_1709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1708 : BitVec 32 := 1#32
  let v2034 : BitVec 32 := Scalar.muli v42 c1_i32_1708
  let v2035 : BitVec 32 := Scalar.addi c0_i32_1709 v2034
  v2035.toNat
def k0_dev24 (d0 : Dev nD) : Nat :=
  let c0_i32_1717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_1716 : BitVec 32 := 1#32
  let v2046 : BitVec 32 := Scalar.muli v55 c1_i32_1716
  let v2047 : BitVec 32 := Scalar.addi c0_i32_1717 v2046
  v2047.toNat
def k0_dev25 (d0 : Dev nD) : Nat :=
  let c0_i32_1759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_1758 : BitVec 32 := 1#32
  let v2078 : BitVec 32 := Scalar.muli v55 c1_i32_1758
  let v2079 : BitVec 32 := Scalar.addi c0_i32_1759 v2078
  v2079.toNat
def k0_dev26 (d0 : Dev nD) : Nat :=
  let c0_i32_1767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1766 : BitVec 32 := 1#32
  let v2090 : BitVec 32 := Scalar.muli v42 c1_i32_1766
  let v2091 : BitVec 32 := Scalar.addi c0_i32_1767 v2090
  v2091.toNat
def k0_dev27 (d0 : Dev nD) : Nat :=
  let c0_i32_1810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1809 : BitVec 32 := 1#32
  let v2123 : BitVec 32 := Scalar.muli v42 c1_i32_1809
  let v2124 : BitVec 32 := Scalar.addi c0_i32_1810 v2123
  v2124.toNat
def k0_dev28 (d0 : Dev nD) : Nat :=
  let c0_i32_1856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_1855 : BitVec 32 := 1#32
  let v2163 : BitVec 32 := Scalar.muli v55 c1_i32_1855
  let v2164 : BitVec 32 := Scalar.addi c0_i32_1856 v2163
  v2164.toNat
def k0_dev29 (d0 : Dev nD) : Nat :=
  let c0_i32_1875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1874 : BitVec 32 := 1#32
  let v2181 : BitVec 32 := Scalar.muli v42 c1_i32_1874
  let v2182 : BitVec 32 := Scalar.addi c0_i32_1875 v2181
  v2182.toNat
def k0_dev30 (d0 : Dev nD) : Nat :=
  let c0_i32_1894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_1893 : BitVec 32 := 1#32
  let v2199 : BitVec 32 := Scalar.muli v55 c1_i32_1893
  let v2200 : BitVec 32 := Scalar.addi c0_i32_1894 v2199
  v2200.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_1908 : BitVec 32 := 0#32
  let v2212 : BitVec 1 := Scalar.cmpi .sgt v19 c0_i32_1908
  let c3_i32_1909 : BitVec 32 := 3#32
  let v2213 : BitVec 1 := Scalar.cmpi .slt v19 c3_i32_1909
  let v2214 : BitVec 1 := Scalar.andi v2212 v2213
  let v2215 : BitVec 32 := Scalar.extui v2214
  let c0_i32_1917 : BitVec 32 := 0#32
  let v2216 : BitVec 1 := Scalar.cmpi .ne v2215 c0_i32_1917
  v2216

def k0_dev31 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6825 : BitVec 32 := 1#32
  let v5707 : BitVec 32 := Scalar.muli v66 c1_i32_6825
  let v5708 : BitVec 32 := Scalar.addi c0_i32_6826 v5707
  v5708.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_1927 : BitVec 32 := 0#32
  let v2220 : BitVec 1 := Scalar.cmpi .sgt v19 c0_i32_1927
  let c3_i32_1928 : BitVec 32 := 3#32
  let v2221 : BitVec 1 := Scalar.cmpi .slt v19 c3_i32_1928
  let v2222 : BitVec 1 := Scalar.andi v2220 v2221
  let v2223 : BitVec 32 := Scalar.extui v2222
  let c0_i32_1936 : BitVec 32 := 0#32
  let v2224 : BitVec 1 := Scalar.cmpi .ne v2223 c0_i32_1936
  v2224

def k0_dev32 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6825 : BitVec 32 := 1#32
  let v5707 : BitVec 32 := Scalar.muli v66 c1_i32_6825
  let v5708 : BitVec 32 := Scalar.addi c0_i32_6826 v5707
  v5708.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_1995 : BitVec 32 := 0#32
  let v2267 : BitVec 1 := Scalar.cmpi .eq v19 c0_i32_1995
  let v2268 : BitVec 32 := Scalar.extui v2267
  let c0_i32_2003 : BitVec 32 := 0#32
  let v2269 : BitVec 1 := Scalar.cmpi .ne v2268 c0_i32_2003
  v2269

def k0_dev33 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6833 : BitVec 32 := 1#32
  let v5712 : BitVec 32 := Scalar.muli v66 c1_i32_6833
  let v5713 : BitVec 32 := Scalar.addi c0_i32_6834 v5712
  v5713.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_2004 : BitVec 32 := 3#32
  let v2270 : BitVec 1 := Scalar.cmpi .eq v19 c3_i32_2004
  let v2271 : BitVec 32 := Scalar.extui v2270
  let c0_i32_2012 : BitVec 32 := 0#32
  let v2272 : BitVec 1 := Scalar.cmpi .ne v2271 c0_i32_2012
  v2272

def k0_dev34 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6833 : BitVec 32 := 1#32
  let v5712 : BitVec 32 := Scalar.muli v78 c1_i32_6833
  let v5713 : BitVec 32 := Scalar.addi c0_i32_6834 v5712
  v5713.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_2072 : BitVec 32 := 0#32
  let v2316 : BitVec 1 := Scalar.cmpi .eq v19 c0_i32_2072
  let v2317 : BitVec 32 := Scalar.extui v2316
  let c0_i32_2080 : BitVec 32 := 0#32
  let v2318 : BitVec 1 := Scalar.cmpi .ne v2317 c0_i32_2080
  v2318

def k0_dev35 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6833 : BitVec 32 := 1#32
  let v5712 : BitVec 32 := Scalar.muli v66 c1_i32_6833
  let v5713 : BitVec 32 := Scalar.addi c0_i32_6834 v5712
  v5713.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_2081 : BitVec 32 := 3#32
  let v2319 : BitVec 1 := Scalar.cmpi .eq v19 c3_i32_2081
  let v2320 : BitVec 32 := Scalar.extui v2319
  let c0_i32_2089 : BitVec 32 := 0#32
  let v2321 : BitVec 1 := Scalar.cmpi .ne v2320 c0_i32_2089
  v2321

def k0_dev36 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6833 : BitVec 32 := 1#32
  let v5712 : BitVec 32 := Scalar.muli v78 c1_i32_6833
  let v5713 : BitVec 32 := Scalar.addi c0_i32_6834 v5712
  v5713.toNat
def k0_dev37 (d0 : Dev nD) : Nat :=
  let c0_i32_2132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2131 : BitVec 32 := 1#32
  let v2353 : BitVec 32 := Scalar.muli v42 c1_i32_2131
  let v2354 : BitVec 32 := Scalar.addi c0_i32_2132 v2353
  v2354.toNat
def k0_dev38 (d0 : Dev nD) : Nat :=
  let c0_i32_2140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_2139 : BitVec 32 := 1#32
  let v2365 : BitVec 32 := Scalar.muli v55 c1_i32_2139
  let v2366 : BitVec 32 := Scalar.addi c0_i32_2140 v2365
  v2366.toNat
def k0_dev39 (d0 : Dev nD) : Nat :=
  let c0_i32_2182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_2181 : BitVec 32 := 1#32
  let v2397 : BitVec 32 := Scalar.muli v55 c1_i32_2181
  let v2398 : BitVec 32 := Scalar.addi c0_i32_2182 v2397
  v2398.toNat
def k0_dev40 (d0 : Dev nD) : Nat :=
  let c0_i32_2190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2189 : BitVec 32 := 1#32
  let v2409 : BitVec 32 := Scalar.muli v42 c1_i32_2189
  let v2410 : BitVec 32 := Scalar.addi c0_i32_2190 v2409
  v2410.toNat
def k0_dev41 (d0 : Dev nD) : Nat :=
  let c0_i32_2233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2232 : BitVec 32 := 1#32
  let v2442 : BitVec 32 := Scalar.muli v42 c1_i32_2232
  let v2443 : BitVec 32 := Scalar.addi c0_i32_2233 v2442
  v2443.toNat
def k0_dev42 (d0 : Dev nD) : Nat :=
  let c0_i32_2279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_2278 : BitVec 32 := 1#32
  let v2482 : BitVec 32 := Scalar.muli v55 c1_i32_2278
  let v2483 : BitVec 32 := Scalar.addi c0_i32_2279 v2482
  v2483.toNat
def k0_dev43 (d0 : Dev nD) : Nat :=
  let c0_i32_2298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2297 : BitVec 32 := 1#32
  let v2500 : BitVec 32 := Scalar.muli v42 c1_i32_2297
  let v2501 : BitVec 32 := Scalar.addi c0_i32_2298 v2500
  v2501.toNat
def k0_dev44 (d0 : Dev nD) : Nat :=
  let c0_i32_2317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_2316 : BitVec 32 := 1#32
  let v2518 : BitVec 32 := Scalar.muli v55 c1_i32_2316
  let v2519 : BitVec 32 := Scalar.addi c0_i32_2317 v2518
  v2519.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_2331 : BitVec 32 := 0#32
  let v2531 : BitVec 1 := Scalar.cmpi .sgt v19 c0_i32_2331
  let c3_i32_2332 : BitVec 32 := 3#32
  let v2532 : BitVec 1 := Scalar.cmpi .slt v19 c3_i32_2332
  let v2533 : BitVec 1 := Scalar.andi v2531 v2532
  let v2534 : BitVec 32 := Scalar.extui v2533
  let c0_i32_2340 : BitVec 32 := 0#32
  let v2535 : BitVec 1 := Scalar.cmpi .ne v2534 c0_i32_2340
  v2535

def k0_dev45 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6825 : BitVec 32 := 1#32
  let v5707 : BitVec 32 := Scalar.muli v78 c1_i32_6825
  let v5708 : BitVec 32 := Scalar.addi c0_i32_6826 v5707
  v5708.toNat
def k0_off6 (d0 : Dev nD) (c0_i32_73 : BitVec 32) (c0_i32_81 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_71 : BitVec 32 := 4#32
  let v116 : BitVec 32 := Scalar.addi v29 c4_i32_71
  let c1_i32_72 : BitVec 32 := 1#32
  let v117 : BitVec 32 := Scalar.addi v116 c1_i32_72
  let v118 : BitVec 32 := Scalar.subi v117 c0_i32_73
  let c4_i32_74 : BitVec 32 := 4#32
  let c0_i32_75 : BitVec 32 := 0#32
  let v119 : BitVec 1 := Scalar.cmpi .eq c4_i32_74 c0_i32_75
  let c1_i32_76 : BitVec 32 := 1#32
  let v120 : BitVec 32 := Scalar.select v119 c1_i32_76 c4_i32_74
  let v121 : BitVec 32 := Scalar.remsi v118 v120
  let c0_i32_78 : BitVec 32 := 0#32
  let v123 : BitVec 1 := Scalar.cmpi .slt v121 c0_i32_78
  let c0_i32_79 : BitVec 32 := 0#32
  let v124 : BitVec 1 := Scalar.cmpi .slt v120 c0_i32_79
  let v125 : BitVec 1 := Scalar.xori v123 v124
  let c0_i32_77 : BitVec 32 := 0#32
  let v122 : BitVec 1 := Scalar.cmpi .ne v121 c0_i32_77
  let v126 : BitVec 1 := Scalar.andi v125 v122
  let v127 : BitVec 32 := Scalar.addi v121 v120
  let v128 : BitVec 32 := Scalar.select v126 v127 v121
  let c512_i32_80 : BitVec 32 := 512#32
  let v129 : BitVec 32 := Scalar.muli v128 c512_i32_80
  let v130 : BitVec 32 := Scalar.addi v129 c0_i32_81
  let c0_i32_2367 : BitVec 32 := 0#32
  ![v130.toNat, 0]
def k0_dev46 (d0 : Dev nD) : Nat :=
  let c0_i32_2366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2365 : BitVec 32 := 1#32
  let v2558 : BitVec 32 := Scalar.muli v42 c1_i32_2365
  let v2559 : BitVec 32 := Scalar.addi c0_i32_2366 v2558
  v2559.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_2378 : BitVec 32 := 0#32
  let v2569 : BitVec 1 := Scalar.cmpi .sgt v19 c0_i32_2378
  let c3_i32_2379 : BitVec 32 := 3#32
  let v2570 : BitVec 1 := Scalar.cmpi .slt v19 c3_i32_2379
  let v2571 : BitVec 1 := Scalar.andi v2569 v2570
  let v2572 : BitVec 32 := Scalar.extui v2571
  let c0_i32_2387 : BitVec 32 := 0#32
  let v2573 : BitVec 1 := Scalar.cmpi .ne v2572 c0_i32_2387
  v2573

def k0_dev47 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6825 : BitVec 32 := 1#32
  let v5707 : BitVec 32 := Scalar.muli v78 c1_i32_6825
  let v5708 : BitVec 32 := Scalar.addi c0_i32_6826 v5707
  v5708.toNat
def k0_off7 (d0 : Dev nD) (c0_i32_137 : BitVec 32) (c256_i32_145 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_135 : BitVec 32 := 4#32
  let v206 : BitVec 32 := Scalar.addi v29 c4_i32_135
  let c1_i32_136 : BitVec 32 := 1#32
  let v207 : BitVec 32 := Scalar.subi v206 c1_i32_136
  let v208 : BitVec 32 := Scalar.addi v207 c0_i32_137
  let c4_i32_138 : BitVec 32 := 4#32
  let c0_i32_139 : BitVec 32 := 0#32
  let v209 : BitVec 1 := Scalar.cmpi .eq c4_i32_138 c0_i32_139
  let c1_i32_140 : BitVec 32 := 1#32
  let v210 : BitVec 32 := Scalar.select v209 c1_i32_140 c4_i32_138
  let v211 : BitVec 32 := Scalar.remsi v208 v210
  let c0_i32_142 : BitVec 32 := 0#32
  let v213 : BitVec 1 := Scalar.cmpi .slt v211 c0_i32_142
  let c0_i32_143 : BitVec 32 := 0#32
  let v214 : BitVec 1 := Scalar.cmpi .slt v210 c0_i32_143
  let v215 : BitVec 1 := Scalar.xori v213 v214
  let c0_i32_141 : BitVec 32 := 0#32
  let v212 : BitVec 1 := Scalar.cmpi .ne v211 c0_i32_141
  let v216 : BitVec 1 := Scalar.andi v215 v212
  let v217 : BitVec 32 := Scalar.addi v211 v210
  let v218 : BitVec 32 := Scalar.select v216 v217 v211
  let c512_i32_144 : BitVec 32 := 512#32
  let v219 : BitVec 32 := Scalar.muli v218 c512_i32_144
  let v220 : BitVec 32 := Scalar.addi v219 c256_i32_145
  let c0_i32_2415 : BitVec 32 := 0#32
  ![v220.toNat, 0]
def k0_dev48 (d0 : Dev nD) : Nat :=
  let c0_i32_2414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_2413 : BitVec 32 := 1#32
  let v2597 : BitVec 32 := Scalar.muli v55 c1_i32_2413
  let v2598 : BitVec 32 := Scalar.addi c0_i32_2414 v2597
  v2598.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_2426 : BitVec 32 := 0#32
  let v2608 : BitVec 1 := Scalar.cmpi .sgt v19 c0_i32_2426
  let c3_i32_2427 : BitVec 32 := 3#32
  let v2609 : BitVec 1 := Scalar.cmpi .slt v19 c3_i32_2427
  let v2610 : BitVec 1 := Scalar.andi v2608 v2609
  let v2611 : BitVec 32 := Scalar.extui v2610
  let c0_i32_2435 : BitVec 32 := 0#32
  let v2612 : BitVec 1 := Scalar.cmpi .ne v2611 c0_i32_2435
  v2612

def k0_dev49 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6825 : BitVec 32 := 1#32
  let v5707 : BitVec 32 := Scalar.muli v66 c1_i32_6825
  let v5708 : BitVec 32 := Scalar.addi c0_i32_6826 v5707
  v5708.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_2445 : BitVec 32 := 0#32
  let v2616 : BitVec 1 := Scalar.cmpi .sgt v19 c0_i32_2445
  let c3_i32_2446 : BitVec 32 := 3#32
  let v2617 : BitVec 1 := Scalar.cmpi .slt v19 c3_i32_2446
  let v2618 : BitVec 1 := Scalar.andi v2616 v2617
  let v2619 : BitVec 32 := Scalar.extui v2618
  let c0_i32_2454 : BitVec 32 := 0#32
  let v2620 : BitVec 1 := Scalar.cmpi .ne v2619 c0_i32_2454
  v2620

def k0_dev50 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6825 : BitVec 32 := 1#32
  let v5707 : BitVec 32 := Scalar.muli v66 c1_i32_6825
  let v5708 : BitVec 32 := Scalar.addi c0_i32_6826 v5707
  v5708.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_2513 : BitVec 32 := 0#32
  let v2663 : BitVec 1 := Scalar.cmpi .eq v19 c0_i32_2513
  let v2664 : BitVec 32 := Scalar.extui v2663
  let c0_i32_2521 : BitVec 32 := 0#32
  let v2665 : BitVec 1 := Scalar.cmpi .ne v2664 c0_i32_2521
  v2665

def k0_dev51 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6833 : BitVec 32 := 1#32
  let v5712 : BitVec 32 := Scalar.muli v66 c1_i32_6833
  let v5713 : BitVec 32 := Scalar.addi c0_i32_6834 v5712
  v5713.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_2522 : BitVec 32 := 3#32
  let v2666 : BitVec 1 := Scalar.cmpi .eq v19 c3_i32_2522
  let v2667 : BitVec 32 := Scalar.extui v2666
  let c0_i32_2530 : BitVec 32 := 0#32
  let v2668 : BitVec 1 := Scalar.cmpi .ne v2667 c0_i32_2530
  v2668

def k0_dev52 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6833 : BitVec 32 := 1#32
  let v5712 : BitVec 32 := Scalar.muli v78 c1_i32_6833
  let v5713 : BitVec 32 := Scalar.addi c0_i32_6834 v5712
  v5713.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_2590 : BitVec 32 := 0#32
  let v2712 : BitVec 1 := Scalar.cmpi .eq v19 c0_i32_2590
  let v2713 : BitVec 32 := Scalar.extui v2712
  let c0_i32_2598 : BitVec 32 := 0#32
  let v2714 : BitVec 1 := Scalar.cmpi .ne v2713 c0_i32_2598
  v2714

def k0_dev53 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6833 : BitVec 32 := 1#32
  let v5712 : BitVec 32 := Scalar.muli v66 c1_i32_6833
  let v5713 : BitVec 32 := Scalar.addi c0_i32_6834 v5712
  v5713.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_2599 : BitVec 32 := 3#32
  let v2715 : BitVec 1 := Scalar.cmpi .eq v19 c3_i32_2599
  let v2716 : BitVec 32 := Scalar.extui v2715
  let c0_i32_2607 : BitVec 32 := 0#32
  let v2717 : BitVec 1 := Scalar.cmpi .ne v2716 c0_i32_2607
  v2717

def k0_dev54 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6833 : BitVec 32 := 1#32
  let v5712 : BitVec 32 := Scalar.muli v78 c1_i32_6833
  let v5713 : BitVec 32 := Scalar.addi c0_i32_6834 v5712
  v5713.toNat
def k0_dev55 (d0 : Dev nD) : Nat :=
  let c0_i32_2650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2649 : BitVec 32 := 1#32
  let v2749 : BitVec 32 := Scalar.muli v42 c1_i32_2649
  let v2750 : BitVec 32 := Scalar.addi c0_i32_2650 v2749
  v2750.toNat
def k0_dev56 (d0 : Dev nD) : Nat :=
  let c0_i32_2658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_2657 : BitVec 32 := 1#32
  let v2761 : BitVec 32 := Scalar.muli v55 c1_i32_2657
  let v2762 : BitVec 32 := Scalar.addi c0_i32_2658 v2761
  v2762.toNat
def k0_dev57 (d0 : Dev nD) : Nat :=
  let c0_i32_2700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_2699 : BitVec 32 := 1#32
  let v2793 : BitVec 32 := Scalar.muli v55 c1_i32_2699
  let v2794 : BitVec 32 := Scalar.addi c0_i32_2700 v2793
  v2794.toNat
def k0_dev58 (d0 : Dev nD) : Nat :=
  let c0_i32_2708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2707 : BitVec 32 := 1#32
  let v2805 : BitVec 32 := Scalar.muli v42 c1_i32_2707
  let v2806 : BitVec 32 := Scalar.addi c0_i32_2708 v2805
  v2806.toNat
def k0_dev59 (d0 : Dev nD) : Nat :=
  let c0_i32_2751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2750 : BitVec 32 := 1#32
  let v2838 : BitVec 32 := Scalar.muli v42 c1_i32_2750
  let v2839 : BitVec 32 := Scalar.addi c0_i32_2751 v2838
  v2839.toNat
def k0_dev60 (d0 : Dev nD) : Nat :=
  let c0_i32_2797 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_2796 : BitVec 32 := 1#32
  let v2878 : BitVec 32 := Scalar.muli v55 c1_i32_2796
  let v2879 : BitVec 32 := Scalar.addi c0_i32_2797 v2878
  v2879.toNat
def k0_dev61 (d0 : Dev nD) : Nat :=
  let c0_i32_2816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2815 : BitVec 32 := 1#32
  let v2896 : BitVec 32 := Scalar.muli v42 c1_i32_2815
  let v2897 : BitVec 32 := Scalar.addi c0_i32_2816 v2896
  v2897.toNat
def k0_dev62 (d0 : Dev nD) : Nat :=
  let c0_i32_2835 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_2834 : BitVec 32 := 1#32
  let v2914 : BitVec 32 := Scalar.muli v55 c1_i32_2834
  let v2915 : BitVec 32 := Scalar.addi c0_i32_2835 v2914
  v2915.toNat
def k0_dev63 (d0 : Dev nD) : Nat :=
  let c0_i32_2856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2855 : BitVec 32 := 1#32
  let v2932 : BitVec 32 := Scalar.muli v42 c1_i32_2855
  let v2933 : BitVec 32 := Scalar.addi c0_i32_2856 v2932
  v2933.toNat
def k0_dev64 (d0 : Dev nD) : Nat :=
  let c0_i32_2875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_2874 : BitVec 32 := 1#32
  let v2948 : BitVec 32 := Scalar.muli v55 c1_i32_2874
  let v2949 : BitVec 32 := Scalar.addi c0_i32_2875 v2948
  v2949.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_2887 : BitVec 32 := 0#32
  let v2959 : BitVec 1 := Scalar.cmpi .sgt v19 c0_i32_2887
  let c3_i32_2888 : BitVec 32 := 3#32
  let v2960 : BitVec 1 := Scalar.cmpi .slt v19 c3_i32_2888
  let v2961 : BitVec 1 := Scalar.andi v2959 v2960
  let v2962 : BitVec 32 := Scalar.extui v2961
  let c0_i32_2896 : BitVec 32 := 0#32
  let v2963 : BitVec 1 := Scalar.cmpi .ne v2962 c0_i32_2896
  v2963

def k0_dev65 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6825 : BitVec 32 := 1#32
  let v5707 : BitVec 32 := Scalar.muli v78 c1_i32_6825
  let v5708 : BitVec 32 := Scalar.addi c0_i32_6826 v5707
  v5708.toNat
def k0_dev66 (d0 : Dev nD) : Nat :=
  let c0_i32_2922 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2921 : BitVec 32 := 1#32
  let v2986 : BitVec 32 := Scalar.muli v42 c1_i32_2921
  let v2987 : BitVec 32 := Scalar.addi c0_i32_2922 v2986
  v2987.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_2934 : BitVec 32 := 0#32
  let v2997 : BitVec 1 := Scalar.cmpi .sgt v19 c0_i32_2934
  let c3_i32_2935 : BitVec 32 := 3#32
  let v2998 : BitVec 1 := Scalar.cmpi .slt v19 c3_i32_2935
  let v2999 : BitVec 1 := Scalar.andi v2997 v2998
  let v3000 : BitVec 32 := Scalar.extui v2999
  let c0_i32_2943 : BitVec 32 := 0#32
  let v3001 : BitVec 1 := Scalar.cmpi .ne v3000 c0_i32_2943
  v3001

def k0_dev67 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6825 : BitVec 32 := 1#32
  let v5707 : BitVec 32 := Scalar.muli v78 c1_i32_6825
  let v5708 : BitVec 32 := Scalar.addi c0_i32_6826 v5707
  v5708.toNat
def k0_dev68 (d0 : Dev nD) : Nat :=
  let c0_i32_2970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_2969 : BitVec 32 := 1#32
  let v3025 : BitVec 32 := Scalar.muli v55 c1_i32_2969
  let v3026 : BitVec 32 := Scalar.addi c0_i32_2970 v3025
  v3026.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_2982 : BitVec 32 := 0#32
  let v3036 : BitVec 1 := Scalar.cmpi .sgt v19 c0_i32_2982
  let c3_i32_2983 : BitVec 32 := 3#32
  let v3037 : BitVec 1 := Scalar.cmpi .slt v19 c3_i32_2983
  let v3038 : BitVec 1 := Scalar.andi v3036 v3037
  let v3039 : BitVec 32 := Scalar.extui v3038
  let c0_i32_2991 : BitVec 32 := 0#32
  let v3040 : BitVec 1 := Scalar.cmpi .ne v3039 c0_i32_2991
  v3040

def k0_dev69 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6825 : BitVec 32 := 1#32
  let v5707 : BitVec 32 := Scalar.muli v66 c1_i32_6825
  let v5708 : BitVec 32 := Scalar.addi c0_i32_6826 v5707
  v5708.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_3001 : BitVec 32 := 0#32
  let v3044 : BitVec 1 := Scalar.cmpi .sgt v19 c0_i32_3001
  let c3_i32_3002 : BitVec 32 := 3#32
  let v3045 : BitVec 1 := Scalar.cmpi .slt v19 c3_i32_3002
  let v3046 : BitVec 1 := Scalar.andi v3044 v3045
  let v3047 : BitVec 32 := Scalar.extui v3046
  let c0_i32_3010 : BitVec 32 := 0#32
  let v3048 : BitVec 1 := Scalar.cmpi .ne v3047 c0_i32_3010
  v3048

def k0_dev70 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6825 : BitVec 32 := 1#32
  let v5707 : BitVec 32 := Scalar.muli v66 c1_i32_6825
  let v5708 : BitVec 32 := Scalar.addi c0_i32_6826 v5707
  v5708.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_3069 : BitVec 32 := 0#32
  let v3091 : BitVec 1 := Scalar.cmpi .eq v19 c0_i32_3069
  let v3092 : BitVec 32 := Scalar.extui v3091
  let c0_i32_3077 : BitVec 32 := 0#32
  let v3093 : BitVec 1 := Scalar.cmpi .ne v3092 c0_i32_3077
  v3093

def k0_dev71 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6833 : BitVec 32 := 1#32
  let v5712 : BitVec 32 := Scalar.muli v66 c1_i32_6833
  let v5713 : BitVec 32 := Scalar.addi c0_i32_6834 v5712
  v5713.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_3078 : BitVec 32 := 3#32
  let v3094 : BitVec 1 := Scalar.cmpi .eq v19 c3_i32_3078
  let v3095 : BitVec 32 := Scalar.extui v3094
  let c0_i32_3086 : BitVec 32 := 0#32
  let v3096 : BitVec 1 := Scalar.cmpi .ne v3095 c0_i32_3086
  v3096

def k0_dev72 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6833 : BitVec 32 := 1#32
  let v5712 : BitVec 32 := Scalar.muli v78 c1_i32_6833
  let v5713 : BitVec 32 := Scalar.addi c0_i32_6834 v5712
  v5713.toNat
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_3146 : BitVec 32 := 0#32
  let v3140 : BitVec 1 := Scalar.cmpi .eq v19 c0_i32_3146
  let v3141 : BitVec 32 := Scalar.extui v3140
  let c0_i32_3154 : BitVec 32 := 0#32
  let v3142 : BitVec 1 := Scalar.cmpi .ne v3141 c0_i32_3154
  v3142

def k0_dev73 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6833 : BitVec 32 := 1#32
  let v5712 : BitVec 32 := Scalar.muli v66 c1_i32_6833
  let v5713 : BitVec 32 := Scalar.addi c0_i32_6834 v5712
  v5713.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_3155 : BitVec 32 := 3#32
  let v3143 : BitVec 1 := Scalar.cmpi .eq v19 c3_i32_3155
  let v3144 : BitVec 32 := Scalar.extui v3143
  let c0_i32_3163 : BitVec 32 := 0#32
  let v3145 : BitVec 1 := Scalar.cmpi .ne v3144 c0_i32_3163
  v3145

def k0_dev74 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6833 : BitVec 32 := 1#32
  let v5712 : BitVec 32 := Scalar.muli v78 c1_i32_6833
  let v5713 : BitVec 32 := Scalar.addi c0_i32_6834 v5712
  v5713.toNat
def k0_dev75 (d0 : Dev nD) : Nat :=
  let c0_i32_3206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_3205 : BitVec 32 := 1#32
  let v3177 : BitVec 32 := Scalar.muli v42 c1_i32_3205
  let v3178 : BitVec 32 := Scalar.addi c0_i32_3206 v3177
  v3178.toNat
def k0_dev76 (d0 : Dev nD) : Nat :=
  let c0_i32_3214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_3213 : BitVec 32 := 1#32
  let v3189 : BitVec 32 := Scalar.muli v55 c1_i32_3213
  let v3190 : BitVec 32 := Scalar.addi c0_i32_3214 v3189
  v3190.toNat
def k0_dev77 (d0 : Dev nD) : Nat :=
  let c0_i32_3256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_3255 : BitVec 32 := 1#32
  let v3221 : BitVec 32 := Scalar.muli v55 c1_i32_3255
  let v3222 : BitVec 32 := Scalar.addi c0_i32_3256 v3221
  v3222.toNat
def k0_dev78 (d0 : Dev nD) : Nat :=
  let c0_i32_3264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_3263 : BitVec 32 := 1#32
  let v3233 : BitVec 32 := Scalar.muli v42 c1_i32_3263
  let v3234 : BitVec 32 := Scalar.addi c0_i32_3264 v3233
  v3234.toNat
def k0_dev79 (d0 : Dev nD) : Nat :=
  let c0_i32_3307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_3306 : BitVec 32 := 1#32
  let v3266 : BitVec 32 := Scalar.muli v42 c1_i32_3306
  let v3267 : BitVec 32 := Scalar.addi c0_i32_3307 v3266
  v3267.toNat
def k0_dev80 (d0 : Dev nD) : Nat :=
  let c0_i32_3353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_3352 : BitVec 32 := 1#32
  let v3306 : BitVec 32 := Scalar.muli v55 c1_i32_3352
  let v3307 : BitVec 32 := Scalar.addi c0_i32_3353 v3306
  v3307.toNat
def k0_dev81 (d0 : Dev nD) : Nat :=
  let c0_i32_3372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_3371 : BitVec 32 := 1#32
  let v3324 : BitVec 32 := Scalar.muli v42 c1_i32_3371
  let v3325 : BitVec 32 := Scalar.addi c0_i32_3372 v3324
  v3325.toNat
def k0_dev82 (d0 : Dev nD) : Nat :=
  let c0_i32_3391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_3390 : BitVec 32 := 1#32
  let v3342 : BitVec 32 := Scalar.muli v55 c1_i32_3390
  let v3343 : BitVec 32 := Scalar.addi c0_i32_3391 v3342
  v3343.toNat
def k0_dev83 (d0 : Dev nD) : Nat :=
  let c0_i32_3412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_3411 : BitVec 32 := 1#32
  let v3360 : BitVec 32 := Scalar.muli v42 c1_i32_3411
  let v3361 : BitVec 32 := Scalar.addi c0_i32_3412 v3360
  v3361.toNat
def k0_dev84 (d0 : Dev nD) : Nat :=
  let c0_i32_3431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_3430 : BitVec 32 := 1#32
  let v3376 : BitVec 32 := Scalar.muli v55 c1_i32_3430
  let v3377 : BitVec 32 := Scalar.addi c0_i32_3431 v3376
  v3377.toNat
def k0_dev85 (d0 : Dev nD) : Nat :=
  let c0_i32_3450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_3449 : BitVec 32 := 1#32
  let v3392 : BitVec 32 := Scalar.muli v42 c1_i32_3449
  let v3393 : BitVec 32 := Scalar.addi c0_i32_3450 v3392
  v3393.toNat
def k0_dev86 (d0 : Dev nD) : Nat :=
  let c0_i32_3469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_3468 : BitVec 32 := 1#32
  let v3408 : BitVec 32 := Scalar.muli v55 c1_i32_3468
  let v3409 : BitVec 32 := Scalar.addi c0_i32_3469 v3408
  v3409.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_3481 : BitVec 32 := 0#32
  let v3419 : BitVec 1 := Scalar.cmpi .sgt v19 c0_i32_3481
  let c3_i32_3482 : BitVec 32 := 3#32
  let v3420 : BitVec 1 := Scalar.cmpi .slt v19 c3_i32_3482
  let v3421 : BitVec 1 := Scalar.andi v3419 v3420
  let v3422 : BitVec 32 := Scalar.extui v3421
  let c0_i32_3490 : BitVec 32 := 0#32
  let v3423 : BitVec 1 := Scalar.cmpi .ne v3422 c0_i32_3490
  v3423

def k0_dev87 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6825 : BitVec 32 := 1#32
  let v5707 : BitVec 32 := Scalar.muli v78 c1_i32_6825
  let v5708 : BitVec 32 := Scalar.addi c0_i32_6826 v5707
  v5708.toNat
def k0_dev88 (d0 : Dev nD) : Nat :=
  let c0_i32_3516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_3515 : BitVec 32 := 1#32
  let v3446 : BitVec 32 := Scalar.muli v42 c1_i32_3515
  let v3447 : BitVec 32 := Scalar.addi c0_i32_3516 v3446
  v3447.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_3528 : BitVec 32 := 0#32
  let v3457 : BitVec 1 := Scalar.cmpi .sgt v19 c0_i32_3528
  let c3_i32_3529 : BitVec 32 := 3#32
  let v3458 : BitVec 1 := Scalar.cmpi .slt v19 c3_i32_3529
  let v3459 : BitVec 1 := Scalar.andi v3457 v3458
  let v3460 : BitVec 32 := Scalar.extui v3459
  let c0_i32_3537 : BitVec 32 := 0#32
  let v3461 : BitVec 1 := Scalar.cmpi .ne v3460 c0_i32_3537
  v3461

def k0_dev89 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6825 : BitVec 32 := 1#32
  let v5707 : BitVec 32 := Scalar.muli v78 c1_i32_6825
  let v5708 : BitVec 32 := Scalar.addi c0_i32_6826 v5707
  v5708.toNat
def k0_dev90 (d0 : Dev nD) : Nat :=
  let c0_i32_3564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_3563 : BitVec 32 := 1#32
  let v3485 : BitVec 32 := Scalar.muli v55 c1_i32_3563
  let v3486 : BitVec 32 := Scalar.addi c0_i32_3564 v3485
  v3486.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_3576 : BitVec 32 := 0#32
  let v3496 : BitVec 1 := Scalar.cmpi .sgt v19 c0_i32_3576
  let c3_i32_3577 : BitVec 32 := 3#32
  let v3497 : BitVec 1 := Scalar.cmpi .slt v19 c3_i32_3577
  let v3498 : BitVec 1 := Scalar.andi v3496 v3497
  let v3499 : BitVec 32 := Scalar.extui v3498
  let c0_i32_3585 : BitVec 32 := 0#32
  let v3500 : BitVec 1 := Scalar.cmpi .ne v3499 c0_i32_3585
  v3500

def k0_dev91 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6825 : BitVec 32 := 1#32
  let v5707 : BitVec 32 := Scalar.muli v66 c1_i32_6825
  let v5708 : BitVec 32 := Scalar.addi c0_i32_6826 v5707
  v5708.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_3595 : BitVec 32 := 0#32
  let v3504 : BitVec 1 := Scalar.cmpi .sgt v19 c0_i32_3595
  let c3_i32_3596 : BitVec 32 := 3#32
  let v3505 : BitVec 1 := Scalar.cmpi .slt v19 c3_i32_3596
  let v3506 : BitVec 1 := Scalar.andi v3504 v3505
  let v3507 : BitVec 32 := Scalar.extui v3506
  let c0_i32_3604 : BitVec 32 := 0#32
  let v3508 : BitVec 1 := Scalar.cmpi .ne v3507 c0_i32_3604
  v3508

def k0_dev92 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6825 : BitVec 32 := 1#32
  let v5707 : BitVec 32 := Scalar.muli v66 c1_i32_6825
  let v5708 : BitVec 32 := Scalar.addi c0_i32_6826 v5707
  v5708.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_3663 : BitVec 32 := 0#32
  let v3551 : BitVec 1 := Scalar.cmpi .eq v19 c0_i32_3663
  let v3552 : BitVec 32 := Scalar.extui v3551
  let c0_i32_3671 : BitVec 32 := 0#32
  let v3553 : BitVec 1 := Scalar.cmpi .ne v3552 c0_i32_3671
  v3553

def k0_dev93 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6833 : BitVec 32 := 1#32
  let v5712 : BitVec 32 := Scalar.muli v66 c1_i32_6833
  let v5713 : BitVec 32 := Scalar.addi c0_i32_6834 v5712
  v5713.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_3672 : BitVec 32 := 3#32
  let v3554 : BitVec 1 := Scalar.cmpi .eq v19 c3_i32_3672
  let v3555 : BitVec 32 := Scalar.extui v3554
  let c0_i32_3680 : BitVec 32 := 0#32
  let v3556 : BitVec 1 := Scalar.cmpi .ne v3555 c0_i32_3680
  v3556

def k0_dev94 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6833 : BitVec 32 := 1#32
  let v5712 : BitVec 32 := Scalar.muli v78 c1_i32_6833
  let v5713 : BitVec 32 := Scalar.addi c0_i32_6834 v5712
  v5713.toNat
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_3740 : BitVec 32 := 0#32
  let v3600 : BitVec 1 := Scalar.cmpi .eq v19 c0_i32_3740
  let v3601 : BitVec 32 := Scalar.extui v3600
  let c0_i32_3748 : BitVec 32 := 0#32
  let v3602 : BitVec 1 := Scalar.cmpi .ne v3601 c0_i32_3748
  v3602

def k0_dev95 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6833 : BitVec 32 := 1#32
  let v5712 : BitVec 32 := Scalar.muli v66 c1_i32_6833
  let v5713 : BitVec 32 := Scalar.addi c0_i32_6834 v5712
  v5713.toNat
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_3749 : BitVec 32 := 3#32
  let v3603 : BitVec 1 := Scalar.cmpi .eq v19 c3_i32_3749
  let v3604 : BitVec 32 := Scalar.extui v3603
  let c0_i32_3757 : BitVec 32 := 0#32
  let v3605 : BitVec 1 := Scalar.cmpi .ne v3604 c0_i32_3757
  v3605

def k0_dev96 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6833 : BitVec 32 := 1#32
  let v5712 : BitVec 32 := Scalar.muli v78 c1_i32_6833
  let v5713 : BitVec 32 := Scalar.addi c0_i32_6834 v5712
  v5713.toNat
def k0_dev97 (d0 : Dev nD) : Nat :=
  let c0_i32_3800 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_3799 : BitVec 32 := 1#32
  let v3637 : BitVec 32 := Scalar.muli v42 c1_i32_3799
  let v3638 : BitVec 32 := Scalar.addi c0_i32_3800 v3637
  v3638.toNat
def k0_dev98 (d0 : Dev nD) : Nat :=
  let c0_i32_3808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_3807 : BitVec 32 := 1#32
  let v3649 : BitVec 32 := Scalar.muli v55 c1_i32_3807
  let v3650 : BitVec 32 := Scalar.addi c0_i32_3808 v3649
  v3650.toNat
def k0_dev99 (d0 : Dev nD) : Nat :=
  let c0_i32_3850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_3849 : BitVec 32 := 1#32
  let v3681 : BitVec 32 := Scalar.muli v55 c1_i32_3849
  let v3682 : BitVec 32 := Scalar.addi c0_i32_3850 v3681
  v3682.toNat
def k0_dev100 (d0 : Dev nD) : Nat :=
  let c0_i32_3858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_3857 : BitVec 32 := 1#32
  let v3693 : BitVec 32 := Scalar.muli v42 c1_i32_3857
  let v3694 : BitVec 32 := Scalar.addi c0_i32_3858 v3693
  v3694.toNat
def k0_dev101 (d0 : Dev nD) : Nat :=
  let c0_i32_3901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_3900 : BitVec 32 := 1#32
  let v3726 : BitVec 32 := Scalar.muli v42 c1_i32_3900
  let v3727 : BitVec 32 := Scalar.addi c0_i32_3901 v3726
  v3727.toNat
def k0_dev102 (d0 : Dev nD) : Nat :=
  let c0_i32_3947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_3946 : BitVec 32 := 1#32
  let v3766 : BitVec 32 := Scalar.muli v55 c1_i32_3946
  let v3767 : BitVec 32 := Scalar.addi c0_i32_3947 v3766
  v3767.toNat
def k0_dev103 (d0 : Dev nD) : Nat :=
  let c0_i32_3966 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_3965 : BitVec 32 := 1#32
  let v3784 : BitVec 32 := Scalar.muli v42 c1_i32_3965
  let v3785 : BitVec 32 := Scalar.addi c0_i32_3966 v3784
  v3785.toNat
def k0_dev104 (d0 : Dev nD) : Nat :=
  let c0_i32_3985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_3984 : BitVec 32 := 1#32
  let v3802 : BitVec 32 := Scalar.muli v55 c1_i32_3984
  let v3803 : BitVec 32 := Scalar.addi c0_i32_3985 v3802
  v3803.toNat
def k0_dev105 (d0 : Dev nD) : Nat :=
  let c0_i32_4022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_4021 : BitVec 32 := 1#32
  let v3832 : BitVec 32 := Scalar.muli v42 c1_i32_4021
  let v3833 : BitVec 32 := Scalar.addi c0_i32_4022 v3832
  v3833.toNat
def k0_dev106 (d0 : Dev nD) : Nat :=
  let c0_i32_4041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_4040 : BitVec 32 := 1#32
  let v3848 : BitVec 32 := Scalar.muli v55 c1_i32_4040
  let v3849 : BitVec 32 := Scalar.addi c0_i32_4041 v3848
  v3849.toNat
def k0_dev107 (d0 : Dev nD) : Nat :=
  let c0_i32_4060 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_4059 : BitVec 32 := 1#32
  let v3864 : BitVec 32 := Scalar.muli v42 c1_i32_4059
  let v3865 : BitVec 32 := Scalar.addi c0_i32_4060 v3864
  v3865.toNat
def k0_dev108 (d0 : Dev nD) : Nat :=
  let c0_i32_4079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_4078 : BitVec 32 := 1#32
  let v3880 : BitVec 32 := Scalar.muli v55 c1_i32_4078
  let v3881 : BitVec 32 := Scalar.addi c0_i32_4079 v3880
  v3881.toNat
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_4091 : BitVec 32 := 0#32
  let v3891 : BitVec 1 := Scalar.cmpi .sgt v19 c0_i32_4091
  let c3_i32_4092 : BitVec 32 := 3#32
  let v3892 : BitVec 1 := Scalar.cmpi .slt v19 c3_i32_4092
  let v3893 : BitVec 1 := Scalar.andi v3891 v3892
  let v3894 : BitVec 32 := Scalar.extui v3893
  let c0_i32_4100 : BitVec 32 := 0#32
  let v3895 : BitVec 1 := Scalar.cmpi .ne v3894 c0_i32_4100
  v3895

def k0_dev109 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6825 : BitVec 32 := 1#32
  let v5707 : BitVec 32 := Scalar.muli v78 c1_i32_6825
  let v5708 : BitVec 32 := Scalar.addi c0_i32_6826 v5707
  v5708.toNat
def k0_dev110 (d0 : Dev nD) : Nat :=
  let c0_i32_4126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_4125 : BitVec 32 := 1#32
  let v3918 : BitVec 32 := Scalar.muli v42 c1_i32_4125
  let v3919 : BitVec 32 := Scalar.addi c0_i32_4126 v3918
  v3919.toNat
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_4138 : BitVec 32 := 0#32
  let v3929 : BitVec 1 := Scalar.cmpi .sgt v19 c0_i32_4138
  let c3_i32_4139 : BitVec 32 := 3#32
  let v3930 : BitVec 1 := Scalar.cmpi .slt v19 c3_i32_4139
  let v3931 : BitVec 1 := Scalar.andi v3929 v3930
  let v3932 : BitVec 32 := Scalar.extui v3931
  let c0_i32_4147 : BitVec 32 := 0#32
  let v3933 : BitVec 1 := Scalar.cmpi .ne v3932 c0_i32_4147
  v3933

def k0_dev111 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6825 : BitVec 32 := 1#32
  let v5707 : BitVec 32 := Scalar.muli v78 c1_i32_6825
  let v5708 : BitVec 32 := Scalar.addi c0_i32_6826 v5707
  v5708.toNat
def k0_dev112 (d0 : Dev nD) : Nat :=
  let c0_i32_4174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_4173 : BitVec 32 := 1#32
  let v3957 : BitVec 32 := Scalar.muli v55 c1_i32_4173
  let v3958 : BitVec 32 := Scalar.addi c0_i32_4174 v3957
  v3958.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_4186 : BitVec 32 := 0#32
  let v3968 : BitVec 1 := Scalar.cmpi .sgt v19 c0_i32_4186
  let c3_i32_4187 : BitVec 32 := 3#32
  let v3969 : BitVec 1 := Scalar.cmpi .slt v19 c3_i32_4187
  let v3970 : BitVec 1 := Scalar.andi v3968 v3969
  let v3971 : BitVec 32 := Scalar.extui v3970
  let c0_i32_4195 : BitVec 32 := 0#32
  let v3972 : BitVec 1 := Scalar.cmpi .ne v3971 c0_i32_4195
  v3972

def k0_dev113 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6825 : BitVec 32 := 1#32
  let v5707 : BitVec 32 := Scalar.muli v66 c1_i32_6825
  let v5708 : BitVec 32 := Scalar.addi c0_i32_6826 v5707
  v5708.toNat
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_4205 : BitVec 32 := 0#32
  let v3976 : BitVec 1 := Scalar.cmpi .sgt v19 c0_i32_4205
  let c3_i32_4206 : BitVec 32 := 3#32
  let v3977 : BitVec 1 := Scalar.cmpi .slt v19 c3_i32_4206
  let v3978 : BitVec 1 := Scalar.andi v3976 v3977
  let v3979 : BitVec 32 := Scalar.extui v3978
  let c0_i32_4214 : BitVec 32 := 0#32
  let v3980 : BitVec 1 := Scalar.cmpi .ne v3979 c0_i32_4214
  v3980

def k0_dev114 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6825 : BitVec 32 := 1#32
  let v5707 : BitVec 32 := Scalar.muli v66 c1_i32_6825
  let v5708 : BitVec 32 := Scalar.addi c0_i32_6826 v5707
  v5708.toNat
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_4273 : BitVec 32 := 0#32
  let v4023 : BitVec 1 := Scalar.cmpi .eq v19 c0_i32_4273
  let v4024 : BitVec 32 := Scalar.extui v4023
  let c0_i32_4281 : BitVec 32 := 0#32
  let v4025 : BitVec 1 := Scalar.cmpi .ne v4024 c0_i32_4281
  v4025

def k0_dev115 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6833 : BitVec 32 := 1#32
  let v5712 : BitVec 32 := Scalar.muli v66 c1_i32_6833
  let v5713 : BitVec 32 := Scalar.addi c0_i32_6834 v5712
  v5713.toNat
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_4282 : BitVec 32 := 3#32
  let v4026 : BitVec 1 := Scalar.cmpi .eq v19 c3_i32_4282
  let v4027 : BitVec 32 := Scalar.extui v4026
  let c0_i32_4290 : BitVec 32 := 0#32
  let v4028 : BitVec 1 := Scalar.cmpi .ne v4027 c0_i32_4290
  v4028

def k0_dev116 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6833 : BitVec 32 := 1#32
  let v5712 : BitVec 32 := Scalar.muli v78 c1_i32_6833
  let v5713 : BitVec 32 := Scalar.addi c0_i32_6834 v5712
  v5713.toNat
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_4350 : BitVec 32 := 0#32
  let v4072 : BitVec 1 := Scalar.cmpi .eq v19 c0_i32_4350
  let v4073 : BitVec 32 := Scalar.extui v4072
  let c0_i32_4358 : BitVec 32 := 0#32
  let v4074 : BitVec 1 := Scalar.cmpi .ne v4073 c0_i32_4358
  v4074

def k0_dev117 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6833 : BitVec 32 := 1#32
  let v5712 : BitVec 32 := Scalar.muli v66 c1_i32_6833
  let v5713 : BitVec 32 := Scalar.addi c0_i32_6834 v5712
  v5713.toNat
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_4359 : BitVec 32 := 3#32
  let v4075 : BitVec 1 := Scalar.cmpi .eq v19 c3_i32_4359
  let v4076 : BitVec 32 := Scalar.extui v4075
  let c0_i32_4367 : BitVec 32 := 0#32
  let v4077 : BitVec 1 := Scalar.cmpi .ne v4076 c0_i32_4367
  v4077

def k0_dev118 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6833 : BitVec 32 := 1#32
  let v5712 : BitVec 32 := Scalar.muli v78 c1_i32_6833
  let v5713 : BitVec 32 := Scalar.addi c0_i32_6834 v5712
  v5713.toNat
def k0_dev119 (d0 : Dev nD) : Nat :=
  let c0_i32_4410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_4409 : BitVec 32 := 1#32
  let v4109 : BitVec 32 := Scalar.muli v42 c1_i32_4409
  let v4110 : BitVec 32 := Scalar.addi c0_i32_4410 v4109
  v4110.toNat
def k0_dev120 (d0 : Dev nD) : Nat :=
  let c0_i32_4418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_4417 : BitVec 32 := 1#32
  let v4121 : BitVec 32 := Scalar.muli v55 c1_i32_4417
  let v4122 : BitVec 32 := Scalar.addi c0_i32_4418 v4121
  v4122.toNat
def k0_dev121 (d0 : Dev nD) : Nat :=
  let c0_i32_4460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_4459 : BitVec 32 := 1#32
  let v4153 : BitVec 32 := Scalar.muli v55 c1_i32_4459
  let v4154 : BitVec 32 := Scalar.addi c0_i32_4460 v4153
  v4154.toNat
def k0_dev122 (d0 : Dev nD) : Nat :=
  let c0_i32_4468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_4467 : BitVec 32 := 1#32
  let v4165 : BitVec 32 := Scalar.muli v42 c1_i32_4467
  let v4166 : BitVec 32 := Scalar.addi c0_i32_4468 v4165
  v4166.toNat
def k0_dev123 (d0 : Dev nD) : Nat :=
  let c0_i32_4511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_4510 : BitVec 32 := 1#32
  let v4198 : BitVec 32 := Scalar.muli v42 c1_i32_4510
  let v4199 : BitVec 32 := Scalar.addi c0_i32_4511 v4198
  v4199.toNat
def k0_dev124 (d0 : Dev nD) : Nat :=
  let c0_i32_4557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_4556 : BitVec 32 := 1#32
  let v4238 : BitVec 32 := Scalar.muli v55 c1_i32_4556
  let v4239 : BitVec 32 := Scalar.addi c0_i32_4557 v4238
  v4239.toNat
def k0_dev125 (d0 : Dev nD) : Nat :=
  let c0_i32_4594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_4593 : BitVec 32 := 1#32
  let v4268 : BitVec 32 := Scalar.muli v42 c1_i32_4593
  let v4269 : BitVec 32 := Scalar.addi c0_i32_4594 v4268
  v4269.toNat
def k0_dev126 (d0 : Dev nD) : Nat :=
  let c0_i32_4613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_4612 : BitVec 32 := 1#32
  let v4284 : BitVec 32 := Scalar.muli v55 c1_i32_4612
  let v4285 : BitVec 32 := Scalar.addi c0_i32_4613 v4284
  v4285.toNat
def k0_dev127 (d0 : Dev nD) : Nat :=
  let c0_i32_4632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_4631 : BitVec 32 := 1#32
  let v4300 : BitVec 32 := Scalar.muli v42 c1_i32_4631
  let v4301 : BitVec 32 := Scalar.addi c0_i32_4632 v4300
  v4301.toNat
def k0_dev128 (d0 : Dev nD) : Nat :=
  let c0_i32_4651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_4650 : BitVec 32 := 1#32
  let v4316 : BitVec 32 := Scalar.muli v55 c1_i32_4650
  let v4317 : BitVec 32 := Scalar.addi c0_i32_4651 v4316
  v4317.toNat
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_4663 : BitVec 32 := 0#32
  let v4327 : BitVec 1 := Scalar.cmpi .sgt v19 c0_i32_4663
  let c3_i32_4664 : BitVec 32 := 3#32
  let v4328 : BitVec 1 := Scalar.cmpi .slt v19 c3_i32_4664
  let v4329 : BitVec 1 := Scalar.andi v4327 v4328
  let v4330 : BitVec 32 := Scalar.extui v4329
  let c0_i32_4672 : BitVec 32 := 0#32
  let v4331 : BitVec 1 := Scalar.cmpi .ne v4330 c0_i32_4672
  v4331

def k0_dev129 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6825 : BitVec 32 := 1#32
  let v5707 : BitVec 32 := Scalar.muli v78 c1_i32_6825
  let v5708 : BitVec 32 := Scalar.addi c0_i32_6826 v5707
  v5708.toNat
def k0_dev130 (d0 : Dev nD) : Nat :=
  let c0_i32_4698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_4697 : BitVec 32 := 1#32
  let v4354 : BitVec 32 := Scalar.muli v42 c1_i32_4697
  let v4355 : BitVec 32 := Scalar.addi c0_i32_4698 v4354
  v4355.toNat
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_4710 : BitVec 32 := 0#32
  let v4365 : BitVec 1 := Scalar.cmpi .sgt v19 c0_i32_4710
  let c3_i32_4711 : BitVec 32 := 3#32
  let v4366 : BitVec 1 := Scalar.cmpi .slt v19 c3_i32_4711
  let v4367 : BitVec 1 := Scalar.andi v4365 v4366
  let v4368 : BitVec 32 := Scalar.extui v4367
  let c0_i32_4719 : BitVec 32 := 0#32
  let v4369 : BitVec 1 := Scalar.cmpi .ne v4368 c0_i32_4719
  v4369

def k0_dev131 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6825 : BitVec 32 := 1#32
  let v5707 : BitVec 32 := Scalar.muli v78 c1_i32_6825
  let v5708 : BitVec 32 := Scalar.addi c0_i32_6826 v5707
  v5708.toNat
def k0_dev132 (d0 : Dev nD) : Nat :=
  let c0_i32_4746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_4745 : BitVec 32 := 1#32
  let v4393 : BitVec 32 := Scalar.muli v55 c1_i32_4745
  let v4394 : BitVec 32 := Scalar.addi c0_i32_4746 v4393
  v4394.toNat
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_4758 : BitVec 32 := 0#32
  let v4404 : BitVec 1 := Scalar.cmpi .sgt v19 c0_i32_4758
  let c3_i32_4759 : BitVec 32 := 3#32
  let v4405 : BitVec 1 := Scalar.cmpi .slt v19 c3_i32_4759
  let v4406 : BitVec 1 := Scalar.andi v4404 v4405
  let v4407 : BitVec 32 := Scalar.extui v4406
  let c0_i32_4767 : BitVec 32 := 0#32
  let v4408 : BitVec 1 := Scalar.cmpi .ne v4407 c0_i32_4767
  v4408

def k0_dev133 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6825 : BitVec 32 := 1#32
  let v5707 : BitVec 32 := Scalar.muli v66 c1_i32_6825
  let v5708 : BitVec 32 := Scalar.addi c0_i32_6826 v5707
  v5708.toNat
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_4777 : BitVec 32 := 0#32
  let v4412 : BitVec 1 := Scalar.cmpi .sgt v19 c0_i32_4777
  let c3_i32_4778 : BitVec 32 := 3#32
  let v4413 : BitVec 1 := Scalar.cmpi .slt v19 c3_i32_4778
  let v4414 : BitVec 1 := Scalar.andi v4412 v4413
  let v4415 : BitVec 32 := Scalar.extui v4414
  let c0_i32_4786 : BitVec 32 := 0#32
  let v4416 : BitVec 1 := Scalar.cmpi .ne v4415 c0_i32_4786
  v4416

def k0_dev134 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6825 : BitVec 32 := 1#32
  let v5707 : BitVec 32 := Scalar.muli v66 c1_i32_6825
  let v5708 : BitVec 32 := Scalar.addi c0_i32_6826 v5707
  v5708.toNat
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_4845 : BitVec 32 := 0#32
  let v4459 : BitVec 1 := Scalar.cmpi .eq v19 c0_i32_4845
  let v4460 : BitVec 32 := Scalar.extui v4459
  let c0_i32_4853 : BitVec 32 := 0#32
  let v4461 : BitVec 1 := Scalar.cmpi .ne v4460 c0_i32_4853
  v4461

def k0_dev135 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6833 : BitVec 32 := 1#32
  let v5712 : BitVec 32 := Scalar.muli v66 c1_i32_6833
  let v5713 : BitVec 32 := Scalar.addi c0_i32_6834 v5712
  v5713.toNat
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_4854 : BitVec 32 := 3#32
  let v4462 : BitVec 1 := Scalar.cmpi .eq v19 c3_i32_4854
  let v4463 : BitVec 32 := Scalar.extui v4462
  let c0_i32_4862 : BitVec 32 := 0#32
  let v4464 : BitVec 1 := Scalar.cmpi .ne v4463 c0_i32_4862
  v4464

def k0_dev136 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6833 : BitVec 32 := 1#32
  let v5712 : BitVec 32 := Scalar.muli v78 c1_i32_6833
  let v5713 : BitVec 32 := Scalar.addi c0_i32_6834 v5712
  v5713.toNat
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_4922 : BitVec 32 := 0#32
  let v4508 : BitVec 1 := Scalar.cmpi .eq v19 c0_i32_4922
  let v4509 : BitVec 32 := Scalar.extui v4508
  let c0_i32_4930 : BitVec 32 := 0#32
  let v4510 : BitVec 1 := Scalar.cmpi .ne v4509 c0_i32_4930
  v4510

def k0_dev137 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6833 : BitVec 32 := 1#32
  let v5712 : BitVec 32 := Scalar.muli v66 c1_i32_6833
  let v5713 : BitVec 32 := Scalar.addi c0_i32_6834 v5712
  v5713.toNat
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_4931 : BitVec 32 := 3#32
  let v4511 : BitVec 1 := Scalar.cmpi .eq v19 c3_i32_4931
  let v4512 : BitVec 32 := Scalar.extui v4511
  let c0_i32_4939 : BitVec 32 := 0#32
  let v4513 : BitVec 1 := Scalar.cmpi .ne v4512 c0_i32_4939
  v4513

def k0_dev138 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6833 : BitVec 32 := 1#32
  let v5712 : BitVec 32 := Scalar.muli v78 c1_i32_6833
  let v5713 : BitVec 32 := Scalar.addi c0_i32_6834 v5712
  v5713.toNat
def k0_dev139 (d0 : Dev nD) : Nat :=
  let c0_i32_4982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_4981 : BitVec 32 := 1#32
  let v4545 : BitVec 32 := Scalar.muli v42 c1_i32_4981
  let v4546 : BitVec 32 := Scalar.addi c0_i32_4982 v4545
  v4546.toNat
def k0_dev140 (d0 : Dev nD) : Nat :=
  let c0_i32_4990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_4989 : BitVec 32 := 1#32
  let v4557 : BitVec 32 := Scalar.muli v55 c1_i32_4989
  let v4558 : BitVec 32 := Scalar.addi c0_i32_4990 v4557
  v4558.toNat
def k0_dev141 (d0 : Dev nD) : Nat :=
  let c0_i32_5032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_5031 : BitVec 32 := 1#32
  let v4589 : BitVec 32 := Scalar.muli v55 c1_i32_5031
  let v4590 : BitVec 32 := Scalar.addi c0_i32_5032 v4589
  v4590.toNat
def k0_dev142 (d0 : Dev nD) : Nat :=
  let c0_i32_5040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_5039 : BitVec 32 := 1#32
  let v4601 : BitVec 32 := Scalar.muli v42 c1_i32_5039
  let v4602 : BitVec 32 := Scalar.addi c0_i32_5040 v4601
  v4602.toNat
def k0_dev143 (d0 : Dev nD) : Nat :=
  let c0_i32_5073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_5072 : BitVec 32 := 1#32
  let v4623 : BitVec 32 := Scalar.muli v42 c1_i32_5072
  let v4624 : BitVec 32 := Scalar.addi c0_i32_5073 v4623
  v4624.toNat
def k0_dev144 (d0 : Dev nD) : Nat :=
  let c0_i32_5092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_5091 : BitVec 32 := 1#32
  let v4639 : BitVec 32 := Scalar.muli v55 c1_i32_5091
  let v4640 : BitVec 32 := Scalar.addi c0_i32_5092 v4639
  v4640.toNat
def k0_dev145 (d0 : Dev nD) : Nat :=
  let c0_i32_5111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_5110 : BitVec 32 := 1#32
  let v4655 : BitVec 32 := Scalar.muli v42 c1_i32_5110
  let v4656 : BitVec 32 := Scalar.addi c0_i32_5111 v4655
  v4656.toNat
def k0_dev146 (d0 : Dev nD) : Nat :=
  let c0_i32_5130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_5129 : BitVec 32 := 1#32
  let v4671 : BitVec 32 := Scalar.muli v55 c1_i32_5129
  let v4672 : BitVec 32 := Scalar.addi c0_i32_5130 v4671
  v4672.toNat
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_5142 : BitVec 32 := 0#32
  let v4682 : BitVec 1 := Scalar.cmpi .sgt v19 c0_i32_5142
  let c3_i32_5143 : BitVec 32 := 3#32
  let v4683 : BitVec 1 := Scalar.cmpi .slt v19 c3_i32_5143
  let v4684 : BitVec 1 := Scalar.andi v4682 v4683
  let v4685 : BitVec 32 := Scalar.extui v4684
  let c0_i32_5151 : BitVec 32 := 0#32
  let v4686 : BitVec 1 := Scalar.cmpi .ne v4685 c0_i32_5151
  v4686

def k0_dev147 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6825 : BitVec 32 := 1#32
  let v5707 : BitVec 32 := Scalar.muli v78 c1_i32_6825
  let v5708 : BitVec 32 := Scalar.addi c0_i32_6826 v5707
  v5708.toNat
def k0_dev148 (d0 : Dev nD) : Nat :=
  let c0_i32_5177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_5176 : BitVec 32 := 1#32
  let v4709 : BitVec 32 := Scalar.muli v42 c1_i32_5176
  let v4710 : BitVec 32 := Scalar.addi c0_i32_5177 v4709
  v4710.toNat
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_5189 : BitVec 32 := 0#32
  let v4720 : BitVec 1 := Scalar.cmpi .sgt v19 c0_i32_5189
  let c3_i32_5190 : BitVec 32 := 3#32
  let v4721 : BitVec 1 := Scalar.cmpi .slt v19 c3_i32_5190
  let v4722 : BitVec 1 := Scalar.andi v4720 v4721
  let v4723 : BitVec 32 := Scalar.extui v4722
  let c0_i32_5198 : BitVec 32 := 0#32
  let v4724 : BitVec 1 := Scalar.cmpi .ne v4723 c0_i32_5198
  v4724

def k0_dev149 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6825 : BitVec 32 := 1#32
  let v5707 : BitVec 32 := Scalar.muli v78 c1_i32_6825
  let v5708 : BitVec 32 := Scalar.addi c0_i32_6826 v5707
  v5708.toNat
def k0_dev150 (d0 : Dev nD) : Nat :=
  let c0_i32_5225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_5224 : BitVec 32 := 1#32
  let v4748 : BitVec 32 := Scalar.muli v55 c1_i32_5224
  let v4749 : BitVec 32 := Scalar.addi c0_i32_5225 v4748
  v4749.toNat
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_5237 : BitVec 32 := 0#32
  let v4759 : BitVec 1 := Scalar.cmpi .sgt v19 c0_i32_5237
  let c3_i32_5238 : BitVec 32 := 3#32
  let v4760 : BitVec 1 := Scalar.cmpi .slt v19 c3_i32_5238
  let v4761 : BitVec 1 := Scalar.andi v4759 v4760
  let v4762 : BitVec 32 := Scalar.extui v4761
  let c0_i32_5246 : BitVec 32 := 0#32
  let v4763 : BitVec 1 := Scalar.cmpi .ne v4762 c0_i32_5246
  v4763

def k0_dev151 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6825 : BitVec 32 := 1#32
  let v5707 : BitVec 32 := Scalar.muli v66 c1_i32_6825
  let v5708 : BitVec 32 := Scalar.addi c0_i32_6826 v5707
  v5708.toNat
def k0_cond81 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_5256 : BitVec 32 := 0#32
  let v4767 : BitVec 1 := Scalar.cmpi .sgt v19 c0_i32_5256
  let c3_i32_5257 : BitVec 32 := 3#32
  let v4768 : BitVec 1 := Scalar.cmpi .slt v19 c3_i32_5257
  let v4769 : BitVec 1 := Scalar.andi v4767 v4768
  let v4770 : BitVec 32 := Scalar.extui v4769
  let c0_i32_5265 : BitVec 32 := 0#32
  let v4771 : BitVec 1 := Scalar.cmpi .ne v4770 c0_i32_5265
  v4771

def k0_dev152 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6825 : BitVec 32 := 1#32
  let v5707 : BitVec 32 := Scalar.muli v66 c1_i32_6825
  let v5708 : BitVec 32 := Scalar.addi c0_i32_6826 v5707
  v5708.toNat
def k0_cond82 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_5324 : BitVec 32 := 0#32
  let v4814 : BitVec 1 := Scalar.cmpi .eq v19 c0_i32_5324
  let v4815 : BitVec 32 := Scalar.extui v4814
  let c0_i32_5332 : BitVec 32 := 0#32
  let v4816 : BitVec 1 := Scalar.cmpi .ne v4815 c0_i32_5332
  v4816

def k0_dev153 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6833 : BitVec 32 := 1#32
  let v5712 : BitVec 32 := Scalar.muli v66 c1_i32_6833
  let v5713 : BitVec 32 := Scalar.addi c0_i32_6834 v5712
  v5713.toNat
def k0_cond83 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_5333 : BitVec 32 := 3#32
  let v4817 : BitVec 1 := Scalar.cmpi .eq v19 c3_i32_5333
  let v4818 : BitVec 32 := Scalar.extui v4817
  let c0_i32_5341 : BitVec 32 := 0#32
  let v4819 : BitVec 1 := Scalar.cmpi .ne v4818 c0_i32_5341
  v4819

def k0_dev154 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6833 : BitVec 32 := 1#32
  let v5712 : BitVec 32 := Scalar.muli v78 c1_i32_6833
  let v5713 : BitVec 32 := Scalar.addi c0_i32_6834 v5712
  v5713.toNat
def k0_cond84 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_5401 : BitVec 32 := 0#32
  let v4863 : BitVec 1 := Scalar.cmpi .eq v19 c0_i32_5401
  let v4864 : BitVec 32 := Scalar.extui v4863
  let c0_i32_5409 : BitVec 32 := 0#32
  let v4865 : BitVec 1 := Scalar.cmpi .ne v4864 c0_i32_5409
  v4865

def k0_dev155 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6833 : BitVec 32 := 1#32
  let v5712 : BitVec 32 := Scalar.muli v66 c1_i32_6833
  let v5713 : BitVec 32 := Scalar.addi c0_i32_6834 v5712
  v5713.toNat
def k0_cond85 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_5410 : BitVec 32 := 3#32
  let v4866 : BitVec 1 := Scalar.cmpi .eq v19 c3_i32_5410
  let v4867 : BitVec 32 := Scalar.extui v4866
  let c0_i32_5418 : BitVec 32 := 0#32
  let v4868 : BitVec 1 := Scalar.cmpi .ne v4867 c0_i32_5418
  v4868

def k0_dev156 (d0 : Dev nD) : Nat :=
  let c0_i32_6834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6833 : BitVec 32 := 1#32
  let v5712 : BitVec 32 := Scalar.muli v78 c1_i32_6833
  let v5713 : BitVec 32 := Scalar.addi c0_i32_6834 v5712
  v5713.toNat
def k0_dev157 (d0 : Dev nD) : Nat :=
  let c0_i32_5451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_5450 : BitVec 32 := 1#32
  let v4889 : BitVec 32 := Scalar.muli v42 c1_i32_5450
  let v4890 : BitVec 32 := Scalar.addi c0_i32_5451 v4889
  v4890.toNat
def k0_dev158 (d0 : Dev nD) : Nat :=
  let c0_i32_5470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_5469 : BitVec 32 := 1#32
  let v4905 : BitVec 32 := Scalar.muli v55 c1_i32_5469
  let v4906 : BitVec 32 := Scalar.addi c0_i32_5470 v4905
  v4906.toNat
def k0_dev159 (d0 : Dev nD) : Nat :=
  let c0_i32_5489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_5488 : BitVec 32 := 1#32
  let v4921 : BitVec 32 := Scalar.muli v42 c1_i32_5488
  let v4922 : BitVec 32 := Scalar.addi c0_i32_5489 v4921
  v4922.toNat
def k0_dev160 (d0 : Dev nD) : Nat :=
  let c0_i32_5508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_5507 : BitVec 32 := 1#32
  let v4937 : BitVec 32 := Scalar.muli v55 c1_i32_5507
  let v4938 : BitVec 32 := Scalar.addi c0_i32_5508 v4937
  v4938.toNat
def k0_cond87 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_5520 : BitVec 32 := 0#32
  let v4948 : BitVec 1 := Scalar.cmpi .sgt v19 c0_i32_5520
  let c3_i32_5521 : BitVec 32 := 3#32
  let v4949 : BitVec 1 := Scalar.cmpi .slt v19 c3_i32_5521
  let v4950 : BitVec 1 := Scalar.andi v4948 v4949
  let v4951 : BitVec 32 := Scalar.extui v4950
  let c0_i32_5529 : BitVec 32 := 0#32
  let v4952 : BitVec 1 := Scalar.cmpi .ne v4951 c0_i32_5529
  v4952

def k0_dev161 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6825 : BitVec 32 := 1#32
  let v5707 : BitVec 32 := Scalar.muli v78 c1_i32_6825
  let v5708 : BitVec 32 := Scalar.addi c0_i32_6826 v5707
  v5708.toNat
def k0_dev162 (d0 : Dev nD) : Nat :=
  let c0_i32_5555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_5554 : BitVec 32 := 1#32
  let v4975 : BitVec 32 := Scalar.muli v42 c1_i32_5554
  let v4976 : BitVec 32 := Scalar.addi c0_i32_5555 v4975
  v4976.toNat
def k0_cond89 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_5567 : BitVec 32 := 0#32
  let v4986 : BitVec 1 := Scalar.cmpi .sgt v19 c0_i32_5567
  let c3_i32_5568 : BitVec 32 := 3#32
  let v4987 : BitVec 1 := Scalar.cmpi .slt v19 c3_i32_5568
  let v4988 : BitVec 1 := Scalar.andi v4986 v4987
  let v4989 : BitVec 32 := Scalar.extui v4988
  let c0_i32_5576 : BitVec 32 := 0#32
  let v4990 : BitVec 1 := Scalar.cmpi .ne v4989 c0_i32_5576
  v4990

def k0_dev163 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6825 : BitVec 32 := 1#32
  let v5707 : BitVec 32 := Scalar.muli v78 c1_i32_6825
  let v5708 : BitVec 32 := Scalar.addi c0_i32_6826 v5707
  v5708.toNat
def k0_dev164 (d0 : Dev nD) : Nat :=
  let c0_i32_5603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_5602 : BitVec 32 := 1#32
  let v5014 : BitVec 32 := Scalar.muli v55 c1_i32_5602
  let v5015 : BitVec 32 := Scalar.addi c0_i32_5603 v5014
  v5015.toNat
def k0_cond91 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_5615 : BitVec 32 := 0#32
  let v5025 : BitVec 1 := Scalar.cmpi .sgt v19 c0_i32_5615
  let c3_i32_5616 : BitVec 32 := 3#32
  let v5026 : BitVec 1 := Scalar.cmpi .slt v19 c3_i32_5616
  let v5027 : BitVec 1 := Scalar.andi v5025 v5026
  let v5028 : BitVec 32 := Scalar.extui v5027
  let c0_i32_5624 : BitVec 32 := 0#32
  let v5029 : BitVec 1 := Scalar.cmpi .ne v5028 c0_i32_5624
  v5029

def k0_dev165 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6825 : BitVec 32 := 1#32
  let v5707 : BitVec 32 := Scalar.muli v66 c1_i32_6825
  let v5708 : BitVec 32 := Scalar.addi c0_i32_6826 v5707
  v5708.toNat
def k0_cond93 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_5634 : BitVec 32 := 0#32
  let v5033 : BitVec 1 := Scalar.cmpi .sgt v19 c0_i32_5634
  let c3_i32_5635 : BitVec 32 := 3#32
  let v5034 : BitVec 1 := Scalar.cmpi .slt v19 c3_i32_5635
  let v5035 : BitVec 1 := Scalar.andi v5033 v5034
  let v5036 : BitVec 32 := Scalar.extui v5035
  let c0_i32_5643 : BitVec 32 := 0#32
  let v5037 : BitVec 1 := Scalar.cmpi .ne v5036 c0_i32_5643
  v5037

def k0_dev166 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c16_i32_28 : BitVec 32 := 16#32
  let c0_i32_29 : BitVec 32 := 0#32
  let v57 : BitVec 1 := Scalar.cmpi .eq c16_i32_28 c0_i32_29
  let c1_i32_30 : BitVec 32 := 1#32
  let v58 : BitVec 32 := Scalar.select v57 c1_i32_30 c16_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c1_i32_6825 : BitVec 32 := 1#32
  let v5707 : BitVec 32 := Scalar.muli v66 c1_i32_6825
  let v5708 : BitVec 32 := Scalar.addi c0_i32_6826 v5707
  v5708.toNat
def k0_dev167 (d0 : Dev nD) : Nat :=
  let c0_i32_5676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_5675 : BitVec 32 := 1#32
  let v5058 : BitVec 32 := Scalar.muli v42 c1_i32_5675
  let v5059 : BitVec 32 := Scalar.addi c0_i32_5676 v5058
  v5059.toNat
def k0_dev168 (d0 : Dev nD) : Nat :=
  let c0_i32_5695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_5694 : BitVec 32 := 1#32
  let v5074 : BitVec 32 := Scalar.muli v55 c1_i32_5694
  let v5075 : BitVec 32 := Scalar.addi c0_i32_5695 v5074
  v5075.toNat
def k0_dev169 (d0 : Dev nD) : Nat :=
  let c0_i32_5714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_5713 : BitVec 32 := 1#32
  let v5090 : BitVec 32 := Scalar.muli v42 c1_i32_5713
  let v5091 : BitVec 32 := Scalar.addi c0_i32_5714 v5090
  v5091.toNat
def k0_dev170 (d0 : Dev nD) : Nat :=
  let c0_i32_5733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_5732 : BitVec 32 := 1#32
  let v5106 : BitVec 32 := Scalar.muli v55 c1_i32_5732
  let v5107 : BitVec 32 := Scalar.addi c0_i32_5733 v5106
  v5107.toNat
def k0_cond95 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_5745 : BitVec 32 := 0#32
  let v5117 : BitVec 1 := Scalar.cmpi .sgt v19 c0_i32_5745
  let c3_i32_5746 : BitVec 32 := 3#32
  let v5118 : BitVec 1 := Scalar.cmpi .slt v19 c3_i32_5746
  let v5119 : BitVec 1 := Scalar.andi v5117 v5118
  let v5120 : BitVec 32 := Scalar.extui v5119
  let c0_i32_5754 : BitVec 32 := 0#32
  let v5121 : BitVec 1 := Scalar.cmpi .ne v5120 c0_i32_5754
  v5121

def k0_dev171 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6825 : BitVec 32 := 1#32
  let v5707 : BitVec 32 := Scalar.muli v78 c1_i32_6825
  let v5708 : BitVec 32 := Scalar.addi c0_i32_6826 v5707
  v5708.toNat
def k0_dev172 (d0 : Dev nD) : Nat :=
  let c0_i32_5780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_5779 : BitVec 32 := 1#32
  let v5144 : BitVec 32 := Scalar.muli v42 c1_i32_5779
  let v5145 : BitVec 32 := Scalar.addi c0_i32_5780 v5144
  v5145.toNat
def k0_cond97 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_5792 : BitVec 32 := 0#32
  let v5155 : BitVec 1 := Scalar.cmpi .sgt v19 c0_i32_5792
  let c3_i32_5793 : BitVec 32 := 3#32
  let v5156 : BitVec 1 := Scalar.cmpi .slt v19 c3_i32_5793
  let v5157 : BitVec 1 := Scalar.andi v5155 v5156
  let v5158 : BitVec 32 := Scalar.extui v5157
  let c0_i32_5801 : BitVec 32 := 0#32
  let v5159 : BitVec 1 := Scalar.cmpi .ne v5158 c0_i32_5801
  v5159

def k0_dev173 (d0 : Dev nD) : Nat :=
  let c0_i32_6826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_34 : BitVec 32 := 16#32
  let v67 : BitVec 32 := Scalar.addi v2 c16_i32_34
  let c4_i32_35 : BitVec 32 := 4#32
  let v68 : BitVec 32 := Scalar.subi v67 c4_i32_35
  let c16_i32_36 : BitVec 32 := 16#32
  let c0_i32_37 : BitVec 32 := 0#32
  let v69 : BitVec 1 := Scalar.cmpi .eq c16_i32_36 c0_i32_37
  let c1_i32_38 : BitVec 32 := 1#32
  let v70 : BitVec 32 := Scalar.select v69 c1_i32_38 c16_i32_36
  let v71 : BitVec 32 := Scalar.remsi v68 v70
  let c0_i32_40 : BitVec 32 := 0#32
  let v73 : BitVec 1 := Scalar.cmpi .slt v71 c0_i32_40
  let c0_i32_41 : BitVec 32 := 0#32
  let v74 : BitVec 1 := Scalar.cmpi .slt v70 c0_i32_41
  let v75 : BitVec 1 := Scalar.xori v73 v74
  let c0_i32_39 : BitVec 32 := 0#32
  let v72 : BitVec 1 := Scalar.cmpi .ne v71 c0_i32_39
  let v76 : BitVec 1 := Scalar.andi v75 v72
  let v77 : BitVec 32 := Scalar.addi v71 v70
  let v78 : BitVec 32 := Scalar.select v76 v77 v71
  let c1_i32_6825 : BitVec 32 := 1#32
  let v5707 : BitVec 32 := Scalar.muli v78 c1_i32_6825
  let v5708 : BitVec 32 := Scalar.addi c0_i32_6826 v5707
  v5708.toNat
def k0_dev174 (d0 : Dev nD) : Nat :=
  let c0_i32_5828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_5827 : BitVec 32 := 1#32
  let v5183 : BitVec 32 := Scalar.muli v55 c1_i32_5827
  let v5184 : BitVec 32 := Scalar.addi c0_i32_5828 v5183
  v5184.toNat
def k0_dev175 (d0 : Dev nD) : Nat :=
  let c0_i32_5863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_5862 : BitVec 32 := 1#32
  let v5211 : BitVec 32 := Scalar.muli v42 c1_i32_5862
  let v5212 : BitVec 32 := Scalar.addi c0_i32_5863 v5211
  v5212.toNat
def k0_dev176 (d0 : Dev nD) : Nat :=
  let c0_i32_5882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_5881 : BitVec 32 := 1#32
  let v5227 : BitVec 32 := Scalar.muli v55 c1_i32_5881
  let v5228 : BitVec 32 := Scalar.addi c0_i32_5882 v5227
  v5228.toNat
def k0_dev177 (d0 : Dev nD) : Nat :=
  let c0_i32_5901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_5900 : BitVec 32 := 1#32
  let v5243 : BitVec 32 := Scalar.muli v42 c1_i32_5900
  let v5244 : BitVec 32 := Scalar.addi c0_i32_5901 v5243
  v5244.toNat
def k0_dev178 (d0 : Dev nD) : Nat :=
  let c0_i32_5920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_5919 : BitVec 32 := 1#32
  let v5259 : BitVec 32 := Scalar.muli v55 c1_i32_5919
  let v5260 : BitVec 32 := Scalar.addi c0_i32_5920 v5259
  v5260.toNat
def k0_dev179 (d0 : Dev nD) : Nat :=
  let c0_i32_5955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_5954 : BitVec 32 := 1#32
  let v5287 : BitVec 32 := Scalar.muli v42 c1_i32_5954
  let v5288 : BitVec 32 := Scalar.addi c0_i32_5955 v5287
  v5288.toNat
def k0_dev180 (d0 : Dev nD) : Nat :=
  let c0_i32_5974 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_19 : BitVec 32 := 4#32
  let v43 : BitVec 32 := Scalar.addi v29 c4_i32_19
  let c1_i32_20 : BitVec 32 := 1#32
  let v44 : BitVec 32 := Scalar.subi v43 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v30 v54
  let c1_i32_5973 : BitVec 32 := 1#32
  let v5303 : BitVec 32 := Scalar.muli v55 c1_i32_5973
  let v5304 : BitVec 32 := Scalar.addi c0_i32_5974 v5303
  v5304.toNat
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Prog.lean ====
/-
The kernel's body as a list of stages.

Each stream of rows runs through nine stages; the printed body interleaves the stages of the sixteen streams. Here a
stage is one program over a stream number, and the body is the stages in their order.
-/
module

public import proofs.«01_k».proof.Proof.Gen.KernelIdeal
public import proofs.«01_k».proof.Proof.Gen.KernelIdeal.Skeleton

@[expose] public section

noncomputable section

namespace Cert.AllReduce

open Cert.KernelIdeal Cert.KernelIdeal.Gen
open Idealize.ShloMosaic Idealize.SL.Sem

variable {F : FTy → Type} [FloatOps F]

/-- The body's programs. -/
abbrev PT (F : FTy → Type) [FloatOps F] : Type 1 := Prog (TpuEff nD τ sig (Elt F) Λ₀ .tc) PUnit

/-! ## Words of the body -/

/-- Whether a stream goes to the right neighbour. -/
def fwd (st : Fin 16) : Bool := st.val % 2 == 0

/-- The first row of a stream within a quarter. -/
def rowBase (st : Fin 16) : ℕ := 32 * (st.val / 2 + 8 * (st.val % 2))

/-- The row word of the device's plane. -/
def pWord (d : Dev nD) : BitVec 32 :=
  let v2 : BitVec 32 := Scalar.remsi (Scalar.divsi (Dev.word d) 1#32) 16#32
  Scalar.select (Scalar.andi (Scalar.cmpi .ne (Scalar.subi (Scalar.extui (Scalar.cmpi .sgt v2 0#32)) (Scalar.extui (Scalar.cmpi .slt v2 0#32)))
    (Scalar.subi (Scalar.extui (Scalar.cmpi .sgt 4#32 0#32)) (Scalar.extui (Scalar.cmpi .slt 4#32 0#32)))) (Scalar.cmpi .ne (Scalar.remsi v2 4#32) 0#32))
    (Scalar.subi (Scalar.divsi v2 4#32) 1#32) (Scalar.divsi v2 4#32)

def cFirst (d : Dev nD) : BitVec 1 := Scalar.cmpi .ne (Scalar.extui (Scalar.cmpi .eq (pWord d) 0#32) : BitVec 32) 0#32
def cLast (d : Dev nD) : BitVec 1 := Scalar.cmpi .ne (Scalar.extui (Scalar.cmpi .eq (pWord d) 3#32) : BitVec 32) 0#32
def cPos (d : Dev nD) : BitVec 1 := Scalar.cmpi .ne (Scalar.extui (Scalar.cmpi .sgt (pWord d) 0#32) : BitVec 32) 0#32
def cBelow (d : Dev nD) : BitVec 1 := Scalar.cmpi .ne (Scalar.extui (Scalar.cmpi .slt (pWord d) 3#32) : BitVec 32) 0#32
def cMid (d : Dev nD) : BitVec 1 :=
  Scalar.cmpi .ne (Scalar.extui (Scalar.andi (Scalar.cmpi .sgt (pWord d) 0#32) (Scalar.cmpi .slt (pWord d) 3#32)) : BitVec 32) 0#32

/-- The four devices the body speaks to. -/
def rgtD (d : Dev nD) : Dev nD := ⟨k0_dev2 d, k0_dev2_lt d⟩
def lftD (d : Dev nD) : Dev nD := ⟨k0_dev1 d, k0_dev1_lt d⟩
def upD (d : Dev nD) : Dev nD := ⟨k0_dev3 d, k0_dev3_lt d⟩
def dnD (d : Dev nD) : Dev nD := ⟨k0_dev4 d, k0_dev4_lt d⟩

/-- The device a stream is sent to, and the device it comes from. -/
def nextD (d : Dev nD) (st : Fin 16) : Dev nD := bif fwd st then rgtD d else lftD d
def prevD (d : Dev nD) (st : Fin 16) : Dev nD := bif fwd st then lftD d else rgtD d

/-- The rows of a stream in the device's own quarter, in the quarter `a` before or after it, in the quarter a stream
    ends in, and in the quarter of the copy `a`. -/
def offOwn0 (d : Dev nD) (st : Fin 16) : Fin 2 → ℕ := k0_off3 d (BitVec.ofNat 32 (rowBase st))
def offBack (d : Dev nD) (st : Fin 16) (a : ℕ) : Fin 2 → ℕ :=
  bif fwd st then k0_off4 d (BitVec.ofNat 32 a) (BitVec.ofNat 32 (rowBase st)) else k0_off5 d (BitVec.ofNat 32 a) (BitVec.ofNat 32 (rowBase st))
def offAhead (d : Dev nD) (st : Fin 16) : Fin 2 → ℕ :=
  bif fwd st then k0_off5 d 1#32 (BitVec.ofNat 32 (rowBase st)) else k0_off4 d 1#32 (BitVec.ofNat 32 (rowBase st))
def offC (d : Dev nD) (st : Fin 16) (a : ℕ) : Fin 2 → ℕ :=
  bif fwd st then k0_off6 d (BitVec.ofNat 32 a) (BitVec.ofNat 32 (rowBase st)) else k0_off7 d (BitVec.ofNat 32 a) (BitVec.ofNat 32 (rowBase st))

/-- The quarter after (`true`) or before the device's own by `a`. -/
def qAt (d : Dev nD) (up : Bool) (a : ℕ) : ℕ := bif up then (d.val % 4 + a) % 4 else (d.val % 4 + 4 - a) % 4

theorem offOwn0_eq : ∀ (d : Dev nD) (st : Fin 16), offOwn0 d st 0 = 512 * (d.val % 4) + rowBase st ∧ offOwn0 d st 1 = 0 := by decide +kernel
theorem offBack_eq : ∀ (d : Dev nD) (st : Fin 16) (a : Fin 3), 1 ≤ a.val →
    offBack d st a.val 0 = 512 * qAt d (!fwd st) a.val + rowBase st ∧ offBack d st a.val 1 = 0 := by decide +kernel
theorem offAhead_eq : ∀ (d : Dev nD) (st : Fin 16), offAhead d st 0 = 512 * qAt d (fwd st) 1 + rowBase st ∧ offAhead d st 1 = 0 := by decide +kernel
theorem offC_eq : ∀ (d : Dev nD) (st : Fin 16) (a : Fin 3),
    offC d st a.val 0 = 512 * ((bif fwd st then d.val % 4 + 5 - a.val else d.val % 4 + 3 + a.val) % 4) + rowBase st ∧ offC d st a.val 1 = 0 := by decide +kernel

theorem offOwn0_inb (d : Dev nD) (st : Fin 16) : ∀ a, offOwn0 d st a + S32x2048.size a ≤ S2048x2048.size a := by
  revert d st; decide +kernel
theorem offBack_inb (d : Dev nD) (st : Fin 16) (j : Fin 3) (h : 1 ≤ j.val) : ∀ a, offBack d st j.val a + S32x2048.size a ≤ S2048x2048.size a := by
  revert d st j; decide +kernel
theorem offAhead_inb (d : Dev nD) (st : Fin 16) : ∀ a, offAhead d st a + S32x2048.size a ≤ S2048x2048.size a := by
  revert d st; decide +kernel
theorem offC_inb (d : Dev nD) (st : Fin 16) (j : Fin 3) : ∀ a, offC d st j.val a + S32x2048.size a ≤ S2048x2048.size a := by
  revert d st j; decide +kernel

theorem rgtD_val : ∀ d : Dev nD, (rgtD d).val = 4 * (d.val / 4) + (d.val + 1) % 4 := by decide +kernel
theorem lftD_val : ∀ d : Dev nD, (lftD d).val = 4 * (d.val / 4) + (d.val + 3) % 4 := by decide +kernel
theorem upD_val : ∀ d : Dev nD, (upD d).val = (d.val + 4) % 16 := by decide +kernel
theorem dnD_val : ∀ d : Dev nD, (dnD d).val = (d.val + 12) % 16 := by decide +kernel
theorem cFirst_iff : ∀ d : Dev nD, cFirst d = 1#1 ↔ d.val / 4 = 0 := by decide +kernel
theorem cLast_iff : ∀ d : Dev nD, cLast d = 1#1 ↔ d.val / 4 = 3 := by decide +kernel
theorem cPos_iff : ∀ d : Dev nD, cPos d = 1#1 ↔ 0 < d.val / 4 := by decide +kernel
theorem cBelow_iff : ∀ d : Dev nD, cBelow d = 1#1 ↔ d.val / 4 < 3 := by decide +kernel
theorem cMid_iff : ∀ d : Dev nD, cMid d = 1#1 ↔ 0 < d.val / 4 ∧ d.val / 4 < 3 := by decide +kernel

/-! ## Buffers and semaphores of a stream -/

theorem aRect_inb (st : Fin 16) (s : Fin 4) : ∀ a, (![st.val, s.val, 0, 0] : Fin 4 → ℕ) a + S1x1x32x2048.size a ≤ S16x4x32x2048.size a := by
  revert st s; decide
theorem bRect_inb (st : Fin 16) : ∀ a, (![st.val, 0, 0] : Fin 3 → ℕ) a + S1x32x2048.size a ≤ S16x32x2048.size a := by
  revert st; decide
theorem s3_inb (st : Fin 16) (s : Fin 3) : ∀ a, (![st.val, s.val] : Fin 2 → ℕ) a + S1x1.size a ≤ S16x3.size a := by
  revert st s; decide
theorem s2_inb (st : Fin 16) (s : Fin 2) : ∀ a, (![st.val, s.val] : Fin 2 → ℕ) a + S1x1.size a ≤ S16x2.size a := by
  revert st s; decide
theorem s1_inb (st : Fin 16) : ∀ a, (![st.val] : Fin 1 → ℕ) a + S1.size a ≤ S16.size a := by
  revert st; decide

abbrev x0 : Memref sig .tc .vmem S2048x128 .f32 := Memref.whole cc0_stg0_0
abbrev w0 : Memref sig .tc .vmem S128x2048 .f32 := Memref.whole cc0_stg1_0
abbrev out : Memref sig .tc .vmem S2048x2048 .f32 := Memref.whole cc0_stg2_0
abbrev acomm : Memref sig .tc .vmem S16x4x32x2048 .f32 := Memref.whole cc0_scratch0
abbrev bpre : Memref sig .tc .vmem S16x32x2048 .f32 := Memref.whole cc0_scratch1
abbrev bsuf : Memref sig .tc .vmem S16x32x2048 .f32 := Memref.whole cc0_scratch2

abbrev aRect (st : Fin 16) (s : Fin 4) : Rect S16x4x32x2048 := Rect.unit (s := S16x4x32x2048) ![st.val, s.val, 0, 0] S1x1x32x2048.size (aRect_inb st s)
abbrev bRect (st : Fin 16) : Rect S16x32x2048 := Rect.unit (s := S16x32x2048) ![st.val, 0, 0] S1x32x2048.size (bRect_inb st)
abbrev oRect (off : Fin 2 → ℕ) (h : ∀ a, off a + S32x2048.size a ≤ S2048x2048.size a) : Rect S2048x2048 := Rect.unit (s := S2048x2048) off S32x2048.size h

/-- Slot `s` of a stream, its two landing buffers and a block of rows of the result, as the transfers name them. -/
abbrev aMem (st : Fin 16) (s : Fin 4) : Memref sig .tc .vmem S32x2048 .f32 := (acomm.slice (aRect st s) (fun _ => rfl)).squeeze S32x2048 squeezes_S1x1x32x2048_S32x2048
abbrev preMem (st : Fin 16) : Memref sig .tc .vmem S32x2048 .f32 := (bpre.slice (bRect st) (fun _ => rfl)).squeeze S32x2048 squeezes_S1x32x2048_S32x2048
abbrev sufMem (st : Fin 16) : Memref sig .tc .vmem S32x2048 .f32 := (bsuf.slice (bRect st) (fun _ => rfl)).squeeze S32x2048 squeezes_S1x32x2048_S32x2048
abbrev oMem (off : Fin 2 → ℕ) (h : ∀ a, off a + S32x2048.size a ≤ S2048x2048.size a) : Memref sig .tc .vmem S32x2048 .f32 := out.slice (oRect off h) (fun _ => rfl)

def sem3 (a : DmaSems sig S16x3) (st : Fin 16) (s : Fin 3) : DmaSem sig :=
  ((a.slice (Rect.unit (s := S16x3) ![st.val, s.val] S1x1.size (s3_inb st s))).squeeze S_ squeezes_S1x1_S_).sem
def sem2 (a : DmaSems sig S16x2) (st : Fin 16) (s : Fin 2) : DmaSem sig :=
  ((a.slice (Rect.unit (s := S16x2) ![st.val, s.val] S1x1.size (s2_inb st s))).squeeze S_ squeezes_S1x1_S_).sem
def aSend := sem3 cc0_scratch3
def aRecv := sem3 cc0_scratch4
def bSend := sem2 cc0_scratch5
def bRecv := sem2 cc0_scratch6
def cSend := sem3 cc0_scratch7
def cRecv := sem3 cc0_scratch8
def credS (st : Fin 16) : Sem sig := ((cc0_scratch9.slice (Rect.unit (s := S16) ![st.val] S1.size (s1_inb st))).squeeze S_ squeezes_S1_S_).sem
def barS : Sem sig := (SemArray.scalar (sig.barrier 0 rfl) : Sems sig S_).sem

/-! ## Operations, each followed by the rest -/

def ldA (st : Fin 16) (s : Fin 4) (k : Vec F S1x1x32x2048 .f32 → PT F) : PT F :=
  .op (.load acomm (aRect st s).toLoadRect (View.loadsAt_vmem h_S1x1x32x2048)) k
def stA (st : Fin 16) (s : Fin 4) (v : Vec F S1x1x32x2048 .f32) (k : PT F) : PT F :=
  .op (.store acomm (aRect st s) v Finset.univ (View.stores_vmem_bits_univ h_S1x1x32x2048 rfl) (.inl rfl)) fun _ => k
def ldB (m : Memref sig .tc .vmem S16x32x2048 .f32) (st : Fin 16) (k : Vec F S1x32x2048 .f32 → PT F) : PT F :=
  .op (.load m (bRect st).toLoadRect (View.loadsAt_vmem h_S1x32x2048)) k
def stB (st : Fin 16) (v : Vec F S1x32x2048 .f32) (k : PT F) : PT F :=
  .op (.store bsuf (bRect st) v Finset.univ (View.stores_vmem_bits_univ h_S1x32x2048 rfl) (.inl rfl)) fun _ => k
def ldO (off : Fin 2 → ℕ) (h : ∀ a, off a + S32x2048.size a ≤ S2048x2048.size a) (k : Vec F S32x2048 .f32 → PT F) : PT F :=
  .op (.load out (oRect off h).toLoadRect (View.loadsAt_vmem h_S32x2048)) k
def stO (off : Fin 2 → ℕ) (h : ∀ a, off a + S32x2048.size a ≤ S2048x2048.size a) (v : Vec F S32x2048 .f32) (k : PT F) : PT F :=
  .op (.store out (oRect off h) v Finset.univ (View.stores_vmem_bits_univ h_S32x2048 rfl) (.inl rfl)) fun _ => k
def sendTo (src dst : Memref sig .tc .vmem S32x2048 .f32) (n : Dev nD) (ss rs : DmaSem sig) (k : PT F) : PT F :=
  .op (.enqueueDma src (.remote (Dev.tc n) dst (.dma ss)) (.dma rs) (View.wordExact_bits rfl) (View.wordExact_bits rfl) ⟨⟨rfl, Or.inl rfl⟩, trivial⟩) fun _ => k
def waitOn (s : DmaSem sig) (m : Memref sig .tc .vmem S32x2048 .f32) (k : PT F) : PT F :=
  .op (.waitDma2 s m m (View.wordExact_bits rfl) (View.wordExact_bits rfl)) fun _ => k
def signal (n : Dev nD) (s : Sem sig) (w : BitVec 32) (k : PT F) : PT F := .op (.semSignal (n, .tc) s w.toInt) fun _ => k
def await (s : Sem sig) (w : BitVec 32) (k : PT F) : PT F := .op (.semWait s w.toInt) fun _ => k
@[irreducible] def whenP (c : BitVec 1) (A : PT F → PT F) (k : PT F) : PT F := if _h : c = 1#1 then A k else k

/-! ## Values -/

abbrev V32 (F : FTy → Type) [FloatOps F] := FVec F S32x2048 .f32
def unA (v : Vec F S1x1x32x2048 .f32) : V32 F := shapeCast S32x2048 v shapeCasts_S1x1x32x2048_S32x2048
def mkA (v : V32 F) : Vec F S1x1x32x2048 .f32 := shapeCast S1x1x32x2048 v shapeCasts_S32x2048_S1x1x32x2048
def unB (v : Vec F S1x32x2048 .f32) : V32 F := shapeCast S32x2048 v shapeCasts_S1x32x2048_S32x2048
def mkB (v : V32 F) : Vec F S1x32x2048 .f32 := shapeCast S1x32x2048 v shapeCasts_S32x2048_S1x32x2048
def unO (v : Vec F S32x2048 .f32) : V32 F := shapeCast S32x2048 v shapeCasts_S32x2048_S32x2048
def zero32 : V32 F := broadcast S32x2048 (Scalar.ofBits .f32 0x00000000#32)

/-! ## Stages -/

def stage0 (d : Dev nD) (st : Fin 16) (k : PT F) : PT F :=
  ldO (offOwn0 d st) (offOwn0_inb d st) fun v => ldA st 0 fun _ => stA st 0 (mkA (unO v)) <|
  sendTo (aMem st 0) (aMem st 1) (nextD d st) (aSend st 0) (aRecv st 0) k

def stage12 (d : Dev nD) (st : Fin 16) (s : Fin 3) (hs : 1 ≤ s.val) (k : PT F) : PT F :=
  waitOn (aRecv st ⟨s.val - 1, by omega⟩) (aMem st s.castSucc) <|
  ldA st s.castSucc fun a => ldO (offBack d st s.val) (offBack_inb d st s hs) fun v => ldA st s.castSucc fun _ => stA st s.castSucc (mkA (addf (unA a) (unO v))) <|
  sendTo (aMem st s.castSucc) (aMem st s.succ) (nextD d st) (aSend st s) (aRecv st s) k

def stage1 (d : Dev nD) (st : Fin 16) (k : PT F) : PT F := stage12 d st 1 (by decide) k
def stage2 (d : Dev nD) (st : Fin 16) (k : PT F) : PT F := stage12 d st 2 (by decide) (signal (prevD d st) (credS st) 3#32 k)

def stage3 (d : Dev nD) (st : Fin 16) (k : PT F) : PT F :=
  waitOn (aRecv st 2) (aMem st 3) <|
  ldA st 3 fun a => ldO (offAhead d st) (offAhead_inb d st) fun v => ldA st 3 fun _ => stA st 3 (mkA (addf (unA a) (unO v))) <|
  waitOn (aSend st 0) (aMem st 0) <| waitOn (aSend st 1) (aMem st 1) <|
  whenP (cFirst d) (fun k => ldA st 3 fun a => ldA st 0 fun _ => stA st 0 (mkA (unA a)) <|
    sendTo (aMem st 0) (preMem st) (upD d) (bSend st 0) (bRecv st 0) k) <|
  whenP (cLast d) (fun k => ldA st 3 fun a => ldA st 1 fun _ => stA st 1 (mkA (unA a)) <|
    sendTo (aMem st 1) (sufMem st) (dnD d) (bSend st 1) (bRecv st 1) k) k

def stage4 (d : Dev nD) (st : Fin 16) (k : PT F) : PT F :=
  whenP (cPos d) (fun k => waitOn (bRecv st 0) (preMem st) <| ldB bpre st fun b => ldA st 3 fun a => ldA st 0 fun _ =>
    stA st 0 (mkA (addf (unB b) (unA a))) k) <|
  whenP (cMid d) (fun k => sendTo (aMem st 0) (preMem st) (upD d) (bSend st 0) (bRecv st 0) k) k

def stage5 (d : Dev nD) (st : Fin 16) (k : PT F) : PT F :=
  whenP (cBelow d) (fun k => waitOn (bRecv st 1) (sufMem st) <| ldB bsuf st fun b => ldA st 3 fun a => ldA st 1 fun _ =>
    stA st 1 (mkA (addf (unB b) (unA a))) k) <|
  whenP (cMid d) (fun k => sendTo (aMem st 1) (sufMem st) (dnD d) (bSend st 1) (bRecv st 1) k) <|
  ldA st 0 fun a => ldB bsuf st fun b => ldO (offAhead d st) (offAhead_inb d st) fun _ =>
  stO (offAhead d st) (offAhead_inb d st) (addf (unA a) (unB b)) <|
  await (credS st) 1#32 <|
  sendTo (oMem (offC d st 0) (offC_inb d st 0)) (oMem (offC d st 0) (offC_inb d st 0)) (nextD d st) (cSend st 0) (cRecv st 0) k

def stage67 (d : Dev nD) (st : Fin 16) (a : Fin 3) (k : PT F) : PT F :=
  waitOn (cRecv st ⟨a.val - 1, by omega⟩) (oMem (offC d st (a.val - 1)) (offC_inb d st ⟨a.val - 1, by omega⟩)) <|
  await (credS st) 1#32 <|
  sendTo (oMem (offC d st a.val) (offC_inb d st a)) (oMem (offC d st a.val) (offC_inb d st a)) (nextD d st) (cSend st a) (cRecv st a) k

def stage8 (d : Dev nD) (st : Fin 16) (k : PT F) : PT F :=
  waitOn (cRecv st 2) (oMem (offC d st 2) (offC_inb d st 2)) k

/-- A stream's stage `j`. -/
def stage (d : Dev nD) (st : Fin 16) : ℕ → PT F → PT F
  | 0 => stage0 d st | 1 => stage1 d st | 2 => stage2 d st | 3 => stage3 d st | 4 => stage4 d st | 5 => stage5 d st
  | 6 => stage67 d st 1 | 7 => stage67 d st 2 | _ => stage8 d st

/-- A stream's last waits. -/
def lastWaits (d : Dev nD) (st : Fin 16) (k : PT F) : PT F :=
  waitOn (aSend st 2) (aMem st 2) <|
  waitOn (cSend st 0) (oMem (offC d st 0) (offC_inb d st 0)) <| waitOn (cSend st 1) (oMem (offC d st 1) (offC_inb d st 1)) <|
  waitOn (cSend st 2) (oMem (offC d st 2) (offC_inb d st 2)) <|
  whenP (cBelow d) (fun k => waitOn (bSend st 0) (aMem st 0) k) <| whenP (cPos d) (fun k => waitOn (bSend st 1) (aMem st 1) k) k

/-- The product of the device's own quarter, stored. -/
def quarter (d : Dev nD) (k : PT F) : PT F :=
  .op (.load x0 (Rect.unit (s := S2048x128) (k0_off1 d) S512x128.size (k0_off1_inb d)).toLoadRect (View.loadsAt_vmem h_S512x128)) fun v =>
  .op (.load w0 (Rect.unit (s := S128x2048) ![0, 0] S128x2048.size inb_S128x2048_S128x2048_0_0).toLoadRect (View.loadsAt_vmem h_S128x2048)) fun w =>
  .op (.load out (Rect.unit (s := S2048x2048) (k0_off2 d) S512x2048.size (k0_off2_inb d)).toLoadRect (View.loadsAt_vmem h_S512x2048)) fun _ =>
  .op (.store out (Rect.unit (s := S2048x2048) (k0_off2 d) S512x2048.size (k0_off2_inb d)) (k0_pay16 v w) Finset.univ (View.stores_vmem_bits_univ h_S512x2048 rfl) (.inl rfl)) fun _ => k

/-- The whole product, stored. -/
def product (k : PT F) : PT F :=
  .op (.load x0 (Rect.unit (s := S2048x128) ![0, 0] S2048x128.size inb_S2048x128_S2048x128_0_0).toLoadRect (View.loadsAt_vmem h_S2048x128)) fun v =>
  .op (.load w0 (Rect.unit (s := S128x2048) ![0, 0] S128x2048.size inb_S128x2048_S128x2048_0_0).toLoadRect (View.loadsAt_vmem h_S128x2048)) fun w =>
  .op (.load out (Rect.unit (s := S2048x2048) ![0, 0] S2048x2048.size inb_S2048x2048_S2048x2048_0_0).toLoadRect (View.loadsAt_vmem h_S2048x2048)) fun _ =>
  .op (.store out (Rect.unit (s := S2048x2048) ![0, 0] S2048x2048.size inb_S2048x2048_S2048x2048_0_0) (k0_pay23 (k0_pay22 v) w) Finset.univ (View.stores_vmem_bits_univ h_S2048x2048 rfl) (.inl rfl)) fun _ => k

/-- Every stream's suffix buffer set to zero. -/
def zeroFrom : ℕ → PT F → PT F
  | 0, k => k
  | n + 1, k => ldB bsuf ⟨15 - n, by omega⟩ fun _ => stB ⟨15 - n, by omega⟩ (mkB zero32) (zeroFrom n k)

/-- What precedes the stages. -/
def prologue (d : Dev nD) (k : PT F) : PT F :=
  quarter d <| whenP (cLast d) (zeroFrom 16) <|
  signal (lftD d) barS 1#32 <| signal (rgtD d) barS 1#32 <| signal (upD d) barS 1#32 <| signal (dnD d) barS 1#32 <| await barS 4#32 k

/-- The stages of one round in order: stream `st`'s stage `r - st / 2`, where it has one. -/
def roundFrom (d : Dev nD) (r : ℕ) : ℕ → PT F → PT F
  | 0, k => k
  | n + 1, k => (bif (Nat.ble ((15 - n) / 2) r && Nat.ble (r - (15 - n) / 2) 8) then stage d ⟨15 - n, by omega⟩ (r - (15 - n) / 2) (roundFrom d r n k) else roundFrom d r n k)

def roundsFrom (d : Dev nD) : ℕ → PT F → PT F
  | 0, k => k
  | n + 1, k => roundFrom d (15 - n) 16 (roundsFrom d n k)

def lastFrom (d : Dev nD) : ℕ → PT F → PT F
  | 0, k => k
  | n + 1, k => lastWaits d ⟨15 - n, by omega⟩ (lastFrom d n k)

/-- The body after the device has learnt its number. -/
def bodyAt (d : Dev nD) : PT F :=
  prologue d <| roundFrom d 0 16 <| product <| roundsFrom d 15 <| lastFrom d 16 (.ret ⟨⟩)

/-! ## The printed body is that program -/

theorem op_step {E : Type → Type} {α β : Type} {e e' : E β} {k k' : β → Prog E α} (he : e = e') (hk : ∀ v, k v = k' v) : Prog.op e k = Prog.op e' k' := by
  subst he; exact congrArg _ (funext hk)

variable {α β : Type}

theorem dite_step0 {c : BitVec 1} {T : c = 1#1 → PT F} {J : PT F} {A : PT F → PT F} {k : PT F} (hJ : J = k) (hT : ∀ h, T h = A J) :
    (dite (c = 1#1) T fun _ => J) = whenP c A k := by
  subst hJ; unfold whenP; by_cases h : c = 1#1
  · rw [dif_pos h, dif_pos h]; exact hT h
  · rw [dif_neg h, dif_neg h]

theorem dite_step1 {c : BitVec 1} {T : c = 1#1 → Prog (TpuEff nD τ sig (Elt F) Λ₀ .tc) α} {J : Prog (TpuEff nD τ sig (Elt F) Λ₀ .tc) α}
    {g : α → PT F} {A : PT F → PT F} {k : PT F} (hJ : Prog.bind J g = k) (hT : ∀ h, Prog.bind (T h) g = A (Prog.bind J g)) :
    Prog.bind (dite (c = 1#1) T fun _ => J) g = whenP c A k := by
  subst hJ; unfold whenP; by_cases h : c = 1#1
  · rw [dif_pos h, dif_pos h]; exact hT h
  · rw [dif_neg h, dif_neg h]

theorem dite_step2 {c : BitVec 1} {T : c = 1#1 → Prog (TpuEff nD τ sig (Elt F) Λ₀ .tc) α} {J : Prog (TpuEff nD τ sig (Elt F) Λ₀ .tc) α}
    {g : α → Prog (TpuEff nD τ sig (Elt F) Λ₀ .tc) β} {g' : β → PT F} {A : PT F → PT F} {k : PT F} (hJ : Prog.bind (Prog.bind J g) g' = k)
    (hT : ∀ h, Prog.bind (Prog.bind (T h) g) g' = A (Prog.bind (Prog.bind J g) g')) :
    Prog.bind (Prog.bind (dite (c = 1#1) T fun _ => J) g) g' = whenP c A k := by
  subst hJ; unfold whenP; by_cases h : c = 1#1
  · rw [dif_pos h, dif_pos h]; exact hT h
  · rw [dif_neg h, dif_neg h]

end Cert.AllReduce
-- ==== Proof.Sched.lean ====
/-
The protocol of the kernel: its cells, who pays them, with what, and in which order of levels.

Every device has one barrier cell and, for every stream of rows, seventeen cells of its own: the send and receive
cells of the ring's three hops, of the two transfers between planes, of the three copies of the result, and a credit
cell counting the permissions to write the next device's result rows.
-/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

/-! ## Cells -/

/-- The kinds of a stream's cells. -/
inductive Kind where
  | aS (s : Fin 3) | aR (s : Fin 3) | bS (s : Fin 2) | bR (s : Fin 2) | cS (s : Fin 3) | cR (s : Fin 3) | cr
deriving DecidableEq

/-- The kinds numbered. -/
def Kind.num : Kind → Fin 17
  | .aS s => ⟨s.val, by omega⟩ | .aR s => ⟨3 + s.val, by omega⟩ | .bS s => ⟨6 + s.val, by omega⟩ | .bR s => ⟨8 + s.val, by omega⟩
  | .cS s => ⟨10 + s.val, by omega⟩ | .cR s => ⟨13 + s.val, by omega⟩ | .cr => 16

def Kind.ofNum (n : Fin 17) : Kind :=
  if h : n.val < 3 then .aS ⟨n.val, h⟩ else if h : n.val < 6 then .aR ⟨n.val - 3, by omega⟩ else if h : n.val < 8 then .bS ⟨n.val - 6, by omega⟩
  else if h : n.val < 10 then .bR ⟨n.val - 8, by omega⟩ else if h : n.val < 13 then .cS ⟨n.val - 10, by omega⟩
  else if h : n.val < 16 then .cR ⟨n.val - 13, by omega⟩ else .cr

def Kind.equiv : Kind ≃ Fin 17 where
  toFun := Kind.num
  invFun := Kind.ofNum
  left_inv k := by
    cases k with
    | cr => rfl
    | _ s => revert s; decide
  right_inv n := by revert n; decide

instance : Fintype Kind := Fintype.ofEquiv _ Kind.equiv.symm

theorem Kind.univ_eq : (Finset.univ : Finset Kind)
    = [Kind.aS 0, .aS 1, .aS 2, .aR 0, .aR 1, .aR 2, .bS 0, .bS 1, .bR 0, .bR 1, .cS 0, .cS 1, .cS 2, .cR 0, .cR 1, .cR 2, .cr].toFinset := by decide

/-- A stream's cell. -/
abbrev SK : Type := Fin 16 × Kind

/-- The semaphore of a stream's cell. -/
def semOf : SK → SemLoc sig
  | (st, .aS s) => .dma (aSend st s) | (st, .aR s) => .dma (aRecv st s) | (st, .bS s) => .dma (bSend st s) | (st, .bR s) => .dma (bRecv st s)
  | (st, .cS s) => .dma (cSend st s) | (st, .cR s) => .dma (cRecv st s) | (st, .cr) => .reg (credS st)

/-- The same with the barrier, `none`. -/
def semOf' : Option SK → SemLoc sig
  | none => .reg barS
  | some k => semOf k

/-- Which of a device's cells a semaphore is. -/
def skOf : SemLoc sig → Option (Option SK)
  | .reg s => if h : s.val < 16 then some (some (⟨s.val, h⟩, .cr)) else some none
  | .dma s =>
    if s.val < 3 then none
    else if s.val < 51 then some (some (⟨(s.val - 3) / 3 % 16, by omega⟩, .aS ⟨s.val % 3, by omega⟩))
    else if s.val < 99 then some (some (⟨(s.val - 51) / 3 % 16, by omega⟩, .aR ⟨s.val % 3, by omega⟩))
    else if s.val < 131 then some (some (⟨(s.val - 99) / 2 % 16, by omega⟩, .bS ⟨(s.val + 1) % 2, by omega⟩))
    else if s.val < 163 then some (some (⟨(s.val - 131) / 2 % 16, by omega⟩, .bR ⟨(s.val + 1) % 2, by omega⟩))
    else if s.val < 211 then some (some (⟨(s.val - 163) / 3 % 16, by omega⟩, .cS ⟨(s.val + 2) % 3, by omega⟩))
    else some (some (⟨(s.val - 211) / 3 % 16, by omega⟩, .cR ⟨(s.val + 2) % 3, by omega⟩))

theorem skOf_dma : ∀ (st : Fin 16) (s : Fin 3),
    skOf (.dma (aSend st s)) = some (some (st, .aS s)) ∧ skOf (.dma (aRecv st s)) = some (some (st, .aR s))
      ∧ skOf (.dma (cSend st s)) = some (some (st, .cS s)) ∧ skOf (.dma (cRecv st s)) = some (some (st, .cR s)) := by decide +kernel
theorem skOf_dma2 : ∀ (st : Fin 16) (s : Fin 2),
    skOf (.dma (bSend st s)) = some (some (st, .bS s)) ∧ skOf (.dma (bRecv st s)) = some (some (st, .bR s)) := by decide +kernel
theorem skOf_cr : ∀ st : Fin 16, skOf (.reg (credS st)) = some (some (st, .cr)) := by decide +kernel
theorem skOf_bar : skOf (.reg barS) = some none := by decide +kernel

theorem skOf_semOf' (k : Option SK) : skOf (semOf' k) = some k := by
  rcases k with _ | ⟨st, k⟩
  · exact skOf_bar
  · cases k with
    | aS s => exact (skOf_dma st s).1
    | aR s => exact (skOf_dma st s).2.1
    | cS s => exact (skOf_dma st s).2.2.1
    | cR s => exact (skOf_dma st s).2.2.2
    | bS s => exact (skOf_dma2 st s).1
    | bR s => exact (skOf_dma2 st s).2
    | cr => exact skOf_cr st

theorem semOf'_inj : Function.Injective semOf' := fun a b h => by
  have := congrArg skOf h; rw [skOf_semOf', skOf_semOf'] at this; exact Option.some.inj this

/-- A device's cell. -/
abbrev cell (ck : Dev nD × Option SK) : GSem nD τ sig := ((ck.1 : Thread nD τ), semOf' ck.2)

theorem cell_inj : Function.Injective cell := by
  rintro ⟨c, k⟩ ⟨c', k'⟩ h
  have h1 : c = c' := congrArg (fun g : GSem nD τ sig => g.1.1) h
  have h2 : k = k' := semOf'_inj (congrArg Prod.snd h)
  rw [h1, h2]

/-! ## Devices -/

theorem prev_next : ∀ (c : Dev nD) (st : Fin 16), prevD (nextD c st) st = c := by decide +kernel
theorem next_prev : ∀ (c : Dev nD) (st : Fin 16), nextD (prevD c st) st = c := by decide +kernel
theorem lft_rgt : ∀ c : Dev nD, lftD (rgtD c) = c := by decide +kernel
theorem rgt_lft : ∀ c : Dev nD, rgtD (lftD c) = c := by decide +kernel
theorem dn_up : ∀ c : Dev nD, dnD (upD c) = c := by decide +kernel
theorem up_dn : ∀ c : Dev nD, upD (dnD c) = c := by decide +kernel

/-- The device `a` places back along a stream. -/
def back (c : Dev nD) (st : Fin 16) : ℕ → Dev nD
  | 0 => c
  | a + 1 => back (prevD c st) st a

/-- A device's plane. -/
abbrev row (c : Dev nD) : ℕ := c.val / 4

theorem row_lt (c : Dev nD) : row c < 4 := by have := c.isLt; simp only [row, nD] at *; omega
theorem row_next : ∀ (c : Dev nD) (st : Fin 16), row (nextD c st) = row c := by decide +kernel
theorem row_prev : ∀ (c : Dev nD) (st : Fin 16), row (prevD c st) = row c := by decide +kernel
theorem row_up : ∀ c : Dev nD, row c < 3 → row (upD c) = row c + 1 := by decide +kernel
theorem row_up3 : ∀ c : Dev nD, row c = 3 → row (upD c) = 0 := by decide +kernel
theorem row_dn : ∀ c : Dev nD, 0 < row c → row (dnD c) + 1 = row c := by decide +kernel
theorem row_dn0 : ∀ c : Dev nD, row c = 0 → row (dnD c) = 3 := by decide +kernel

/-! ## Rows of the result -/

/-- The quarter a stream's stage `i` reads: a device's own, then going back along the stream. -/
def ob (c : Dev nD) (st : Fin 16) (i : Fin 4) : Fin 4 :=
  ⟨(bif fwd st then c.val % 4 + 4 - i.val else c.val % 4 + i.val) % 4, Nat.mod_lt _ (by decide)⟩

/-- The offsets of a stream's rows in a quarter. -/
def offB (r : Fin 4) (st : Fin 16) : Fin 2 → ℕ := ![512 * r.val + rowBase st, 0]

theorem offB_inb : ∀ (r : Fin 4) (st : Fin 16), ∀ a, offB r st a + S32x2048.size a ≤ S2048x2048.size a := by decide +kernel

/-- A stream's rows of a quarter of the result. -/
abbrev oB (r : Fin 4) (st : Fin 16) : Memref sig .tc .vmem S32x2048 .f32 := oMem (offB r st) (offB_inb r st)

theorem ob_next : ∀ (c : Dev nD) (st : Fin 16) (i : Fin 4), ob (nextD c st) st i = ob c st (i + 3) := by decide +kernel
theorem ob_prev : ∀ (c : Dev nD) (st : Fin 16) (i : Fin 4), ob (prevD c st) st (i + 3) = ob c st i := by decide +kernel
theorem ob_inj : ∀ (c : Dev nD) (st : Fin 16), Function.Bijective (ob c st) := by decide +kernel

theorem off_fun (f g : Fin 2 → ℕ) (h0 : f 0 = g 0) (h1 : f 1 = g 1) : f = g := by
  funext i; fin_cases i; exacts [h0, h1]

theorem offOwn0_ob (c : Dev nD) (st : Fin 16) : offOwn0 c st = offB (ob c st 0) st := by
  refine off_fun _ _ ?_ (offOwn0_eq c st).2
  rw [(offOwn0_eq c st).1]; revert c st; decide +kernel
theorem offBack_ob : ∀ (c : Dev nD) (st : Fin 16) (s : Fin 3), 1 ≤ s.val → offBack c st s.val = offB (ob c st s.castSucc) st := by
  intro c st s hs
  refine off_fun _ _ ?_ (offBack_eq c st s hs).2
  rw [(offBack_eq c st s hs).1]; revert c st s; decide +kernel
theorem offAhead_ob (c : Dev nD) (st : Fin 16) : offAhead c st = offB (ob c st 3) st := by
  refine off_fun _ _ ?_ (offAhead_eq c st).2
  rw [(offAhead_eq c st).1]; revert c st; decide +kernel
theorem offC_ob (c : Dev nD) (st : Fin 16) (a : Fin 3) : offC c st a.val = offB (ob c st (a.castSucc + 3)) st := by
  refine off_fun _ _ ?_ (offC_eq c st a).2
  rw [(offC_eq c st a).1]; revert c st a; decide +kernel

/-! ## Values -/

variable {F : FTy → Type} [FloatOps F]

/-- The devices' blocks of the operands, as the body's loads read them. -/
structure Args (F : FTy → Type) [FloatOps F] where
  x : Dev nD → (cc0_stg0_0 : Ref sig .tc).ty.Contents (Elt F)
  w : Dev nD → (cc0_stg1_0 : Ref sig .tc).ty.Contents (Elt F)

variable (A : Args F)

/-- A device's whole product. -/
def prodC (c : Dev nD) : (cc0_stg2_0 : Ref sig .tc).ty.Contents (Elt F) := k0_pay23 (k0_pay22 (A.x c)) (A.w c)

/-- Its rows of a stream in a quarter. -/
def U (c : Dev nD) (st : Fin 16) (r : Fin 4) : V32 F := (oB r st).view.read (Elt F) (prodC A c)

theorem qB_inb (st : Fin 16) : ∀ a, (![rowBase st, 0] : Fin 2 → ℕ) a + S32x2048.size a ≤ S512x2048.size a := by
  revert st; decide +kernel

/-- The product of a device's own quarter, by the rows it loads for it. -/
def quarterC (c : Dev nD) : FVec F S512x2048 .f32 :=
  k0_pay16 ((x0 : Memref sig .tc .vmem S2048x128 .f32).view.readAt (Elt F) (Rect.unit (s := S2048x128) (k0_off1 c) S512x128.size (k0_off1_inb c)).toLoadRect (A.x c)) (A.w c)

/-- Its rows of a stream. -/
def Uq (c : Dev nD) (st : Fin 16) : V32 F := fun j => quarterC A c ((Rect.unit (s := S512x2048) ![rowBase st, 0] S32x2048.size (qB_inb st)).emb j)

/-- What a stream's slot `j` holds when sent: the sum over the devices back along the stream. -/
def Av (st : Fin 16) : ℕ → Dev nD → V32 F
  | 0, c => unO (bif Nat.ble 2 st.val then U A c st (ob c st 0) else Uq A c st)
  | j + 1, c => addf (Av st j (prevD c st)) (unO (U A c st (ob c st (Fin.ofNat 4 (j + 1)))))

/-- The sums over the planes below and including the device's own, and above and including it. -/
def preN (st : Fin 16) : ℕ → Dev nD → V32 F
  | 0, c => Av A st 3 c
  | n + 1, c => addf (preN st n (dnD c)) (Av A st 3 c)
def preV (c : Dev nD) (st : Fin 16) : V32 F := preN A st (row c) c
def sufN (st : Fin 16) : ℕ → Dev nD → V32 F
  | 0, c => Av A st 3 c
  | n + 1, c => addf (sufN st n (upD c)) (Av A st 3 c)
def sufV (c : Dev nD) (st : Fin 16) : V32 F := sufN A st (3 - row c) c
/-- What a device's suffix buffer holds in the end: the sum over the planes above its own. -/
def sufIn (c : Dev nD) (st : Fin 16) : V32 F := if row c = 3 then zero32 else sufV A (upD c) st
/-- A stream's total. -/
def tot (c : Dev nD) (st : Fin 16) : V32 F := addf (preV A c st) (sufIn A c st)

theorem preV_first (c : Dev nD) (st : Fin 16) (h : row c = 0) : preV A c st = Av A st 3 c := by unfold preV; rw [h]; rfl
theorem preV_succ (c : Dev nD) (st : Fin 16) (h : 0 < row c) : preV A c st = addf (preV A (dnD c) st) (Av A st 3 c) := by
  unfold preV; rw [← row_dn c h]; rfl
theorem sufV_last (c : Dev nD) (st : Fin 16) (h : row c = 3) : sufV A c st = Av A st 3 c := by unfold sufV; rw [h]; rfl
theorem sufV_succ (c : Dev nD) (st : Fin 16) (h : row c < 3) : sufV A c st = addf (sufV A (upD c) st) (Av A st 3 c) := by
  unfold sufV; rw [row_up c h, show 3 - row c = (3 - (row c + 1)) + 1 by omega]; rfl
theorem sufIn_last (c : Dev nD) (st : Fin 16) (h : row c = 3) : sufIn A c st = zero32 := if_pos h
theorem sufIn_below (c : Dev nD) (st : Fin 16) (h : row c < 3) : sufIn A c st = sufV A (upD c) st := if_neg (by omega)

/-! ## Ghost state -/

/-- A slot waiting for its writer: a device's rows of a stream. -/
abbrev Key : Type := Dev nD × Fin 16
abbrev UB : Type := URounds (GSem nD τ sig) (Fin 4) × USlots Key
abbrev UU : Type := UR sig nD τ × UB

local notation "𝕄" => MT nD τ sig Unit (Elt F) ℕ UU ℕ

abbrev EP : Emb (UR sig nD τ) (MT nD τ sig Unit (Elt F) ℕ UU ℕ) := embL
abbrev EB : Emb UB (MT nD τ sig Unit (Elt F) ℕ UU ℕ) := embR
def ER : Emb (URounds (GSem nD τ sig) (Fin 4)) (MT nD τ sig Unit (Elt F) ℕ UU ℕ) := (Emb.inl : Emb _ UB).trans EB
def ES : Emb (USlots Key) (MT nD τ sig Unit (Elt F) ℕ UU ℕ) := (Emb.inr : Emb _ UB).trans EB
instance : (ER (F := F)).LandsIn (upEmb : UEmb _ 𝕄) := by unfold ER; infer_instance
instance : (ES (F := F)).LandsIn (upEmb : UEmb _ 𝕄) := by unfold ES; infer_instance

/-- The amount of a transfer of thirty-two rows. -/
def N : ℕ := (oB 0 0).view.dmaCredit
theorem N_pos : 0 < N := View.dmaCredit_pos _ (by decide)

/-- Ownership of thirty-two rows at some contents. -/
def anyOf (c : Dev nD) (m : Memref sig .tc .vmem S32x2048 .f32) (q : PosShare TreeShare) : sProp 𝕄 := iprop(∃ v : V32 F, owns (c : Thread nD τ) m q v)
instance (c : Dev nD) (m : Memref sig .tc .vmem S32x2048 .f32) (q : PosShare TreeShare) : BI.Storable (upEmb : UEmb _ 𝕄) (anyOf (F := F) c m q) := by
  unfold anyOf; infer_instance

theorem any_intro (c : Dev nD) (m : Memref sig .tc .vmem S32x2048 .f32) (q : PosShare TreeShare) (v : V32 F) :
    (owns (c : Thread nD τ) m q v : sProp 𝕄) ⊢ anyOf c m q := by
  unfold anyOf; iintro H; iexists v; iexact H

/-- The resource only where a condition holds. -/
def onP (P : Prop) [Decidable P] (X : sProp 𝕄) : sProp 𝕄 := if P then X else iprop(emp)
instance (P : Prop) [Decidable P] (X : sProp 𝕄) [BI.Storable (upEmb : UEmb _ 𝕄) X] : BI.Storable (upEmb : UEmb _ 𝕄) (onP (F := F) P X) := by
  unfold onP; split <;> infer_instance
theorem onP_pos {P : Prop} [Decidable P] {X : sProp 𝕄} (h : P) : onP (F := F) P X = X := if_pos h
theorem onP_neg {P : Prop} [Decidable P] {X : sProp 𝕄} (h : ¬P) : onP (F := F) P X = iprop(emp) := if_neg h

/-- The rows of a stream the next device's copies go to: all but those a device totals itself. -/
def slotS (k : Key) : sProp 𝕄 :=
  iprop(anyOf k.1 (oB (ob k.1 k.2 0) k.2) fullShare ∗ anyOf k.1 (oB (ob k.1 k.2 1) k.2) fullShare ∗ anyOf k.1 (oB (ob k.1 k.2 2) k.2) fullShare)
instance (k : Key) : BI.Storable (upEmb : UEmb _ 𝕄) (slotS (F := F) k) := by unfold slotS; infer_instance

/-! ## The schedule -/

/-- A device's ring slots of a stream, at any contents. -/
def slotsA (c : Dev nD) (st : Fin 16) : sProp 𝕄 :=
  iprop(anyOf c (aMem st 1) fullShare ∗ anyOf c (aMem st 2) fullShare ∗ anyOf c (aMem st 3) fullShare)
instance (c : Dev nD) (st : Fin 16) : BI.Storable (upEmb : UEmb _ 𝕄) (slotsA (F := F) c st) := by unfold slotsA; infer_instance

/-- What a neighbour's barrier signal hands over: the buffers of it a device may write. -/
def barPay (c : Dev nD) : Fin 4 → sProp 𝕄
  | 0 => bigSep Finset.univ fun st : Fin 16 => onP (fwd st = true) (slotsA (rgtD c) st)
  | 1 => bigSep Finset.univ fun st : Fin 16 => onP (fwd st = false) (slotsA (lftD c) st)
  | 2 => bigSep Finset.univ fun st : Fin 16 => onP (row c < 3) (anyOf (upD c) (preMem st) fullShare)
  | 3 => bigSep Finset.univ fun st : Fin 16 => onP (0 < row c) (anyOf (dnD c) (sufMem st) fullShare)

/-- What the units of a cell hand over. -/
def pay (c : Dev nD) : Option SK → Fin 4 → sProp 𝕄
  | none, d => barPay c d
  | some (st, .aS s), _ => anyOf c (aMem st s.castSucc) fullShare
  | some (st, .aR s), _ => owns (c : Thread nD τ) (aMem st s.succ) fullShare (Av A st s.val (prevD c st))
  | some (st, .bS 0), _ => owns (c : Thread nD τ) (aMem st 0) fullShare.right (preV A c st)
  | some (st, .bS 1), _ => anyOf c (aMem st 1) fullShare
  | some (st, .bR 0), _ => owns (c : Thread nD τ) (preMem st) fullShare (preV A (dnD c) st)
  | some (st, .bR 1), _ => owns (c : Thread nD τ) (sufMem st) fullShare (sufV A (upD c) st)
  | some (st, .cS a), _ => owns (c : Thread nD τ) (oB (ob c st (a.castSucc + 3)) st) fullShare (tot A (back c st a.val) st)
  | some (st, .cR a), _ => owns (c : Thread nD τ) (oB (ob c st a.castSucc) st) fullShare (tot A (back c st (a.val + 1)) st)
  | some (st, .cr), _ => released ES (nextD c st, st) 1

instance pay_storable (c : Dev nD) (k : Option SK) (d : Fin 4) : BI.Storable (upEmb : UEmb _ 𝕄) (pay A c k d) := by
  rcases k with _ | ⟨st, k⟩
  · fin_cases d <;> (simp only [pay, barPay]; infer_instance)
  · cases k with
    | bS s => fin_cases s <;> (simp only [pay]; infer_instance)
    | bR s => fin_cases s <;> (simp only [pay]; infer_instance)
    | _ => simp only [pay]; infer_instance

/-- The duties of a cell. -/
def duts (c : Dev nD) : Option SK → Finset (Fin 4)
  | none => Finset.univ
  | some (_, .bS 0) => if row c < 3 then {0} else ∅
  | some (_, .bS 1) => if 0 < row c then {0} else ∅
  | some (_, .bR 0) => if 0 < row c then {0} else ∅
  | some (_, .bR 1) => if row c < 3 then {0} else ∅
  | some (_, .cr) => {0, 1, 2}
  | some _ => {0}

def amt : Option SK → ℕ
  | none => 1
  | some (_, .cr) => 1
  | some _ => N

theorem amt_pos (k : Option SK) : 0 < amt k := by
  unfold amt; split <;> first | exact Nat.one_pos | exact N_pos

/-- One round. -/
def Rd : Rounds.Schedule (GSem nD τ sig) (Fin 4) 𝕄 where
  duties g r := if r = 0 ∧ g.1.2 = .tc then (match skOf g.2 with | some k => duts g.1.1 k | none => ∅) else ∅
  unitless _ := False
  amount g _ _ := match skOf g.2 with | some k => amt k | none => 1
  payload g _ d := match skOf g.2 with | some k => pay A g.1.1 k d | none => iprop(emp)
  amount_pos g _ _ _ := by
    split
    · exact amt_pos _
    · exact Nat.one_pos

instance Rd_storable (g : GSem nD τ sig) (r : ℕ) (d : Fin 4) : BI.Storable (upEmb : UEmb _ 𝕄) ((Rd A).payload g r d) := by
  dsimp only [Rd]; split <;> infer_instance

theorem Rd_duties (c : Dev nD) (k : Option SK) : (Rd A).duties (cell (c, k)) 0 = duts c k := by
  dsimp only [Rd]; rw [if_pos ⟨rfl, rfl⟩, skOf_semOf']
theorem Rd_later (g : GSem nD τ sig) : ∀ r, 1 ≤ r → (Rd A).duties g r = ∅ := fun r hr => by
  dsimp only [Rd]; rw [if_neg fun h => by omega]
theorem Rd_amount (c : Dev nD) (k : Option SK) (d : Fin 4) : (Rd A).amount (cell (c, k)) 0 d = amt k := by
  dsimp only [Rd]; rw [skOf_semOf']
theorem Rd_payload (c : Dev nD) (k : Option SK) (d : Fin 4) : (Rd A).payload (cell (c, k)) 0 d = pay A c k d := by
  dsimp only [Rd]; rw [skOf_semOf']
theorem Rd_expect (c : Dev nD) (k : Option SK) : (Rd A).expect (cell (c, k)) 0 = (duts c k).card * amt k := by
  unfold Schedule.expect Schedule.amountOf
  rw [Rd_duties, Finset.sum_congr rfl fun d _ => Rd_amount A c k d, Finset.sum_const, smul_eq_mul]

/-! ## Levels -/

/-- When a stream's stage runs. -/
def tm (st : Fin 16) (j : ℕ) : ℕ := 16 * (j + st.val / 2) + st.val

def lvk (c : Dev nD) : Option SK → ℕ
  | none => 1
  | some (st, .aR s) => 8 * tm st s.val + 4
  | some (st, .cr) => 8 * tm st 2 + 4
  | some (st, .bR 0) => 8 * tm st 4 + row c
  | some (st, .bR 1) => 8 * tm st 5 + (3 - row c)
  | some (st, .cR a) => 8 * tm st (5 + a.val) + 7
  | some _ => 0

def L (g : GSem nD τ sig) : Finset Unit := if g.1.2 = .tc then {()} else ∅
def lv (g : GSem nD τ sig) (_ : Unit) : ℕ := match skOf g.2 with | some k => lvk g.1.1 k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Option SK) (u : Unit) : lv (cell (c, k)) u = lvk c k := by
  unfold lv; rw [skOf_semOf']

/-- Everything owed lies above a level. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · rw [h0, Nat.zero_add] at hg; exact h' g u hg
  · exact h g u h0
theorem above_cell {n : ℕ} (c : Dev nD) (k : Option SK) (a : ℕ) (h : n < lvk c k) : Above n (tallyAt (cell (c, k)) () a) := fun g u hg => by
  rw [tallyAt_apply] at hg
  by_cases hh : g = cell (c, k) ∧ u = ()
  · rw [hh.1]; exact ⟨rfl, by rw [lv_cell]; exact h⟩
  · rw [if_neg hh] at hg; exact absurd hg (Nat.lt_irrefl 0)
theorem above_mono {n n' : ℕ} {O : CellTallies nD τ sig Unit} (hn : n' ≤ n) (h : Above n O) : Above n' O :=
  fun g u hg => ⟨(h g u hg).1, lt_of_le_of_lt hn (h g u hg).2⟩
theorem above_sum {I : Type} {n : ℕ} (S : Finset I) (O : I → CellTallies nD τ sig Unit) (h : ∀ i ∈ S, Above n (O i)) : Above n (∑ i ∈ S, O i) := by
  classical
  induction S using Finset.induction_on with
  | empty => rw [Finset.sum_empty]; exact above_zero n
  | insert i S hi ih =>
    rw [Finset.sum_insert hi]
    exact above_add (h i (Finset.mem_insert_self _ _)) (ih fun j hj => h j (Finset.mem_insert_of_mem hj))

omit [FloatOps F] in
/-- A wait on a cell below everything owed. -/
theorem mayWait (c : Dev nD) (sm : SemLoc sig) {n : ℕ} {O : CellTallies nD τ sig Unit} (hn : lv ((c : Thread nD τ), sm) () ≤ n) (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hn) (fun g u hg => (h g u hg).2)

/-! ## What a device owes -/

/-- The debt to a cell, at one payment. -/
abbrev dbt (c : Dev nD) (st : Fin 16) (k : Kind) (a : ℕ) : CellTallies nD τ sig Unit := tallyAt (cell (c, some (st, k))) () a
/-- A debt only where a condition holds. -/
def dIf (P : Prop) [Decidable P] (O : CellTallies nD τ sig Unit) : CellTallies nD τ sig Unit := if P then O else 0

/-- What a stream's stage pays. -/
def debt (c : Dev nD) (st : Fin 16) : ℕ → CellTallies nD τ sig Unit
  | 0 => dbt (nextD c st) st (.aR 0) N
  | 1 => dbt (nextD c st) st (.aR 1) N
  | 2 => dbt (prevD c st) st .cr 3 + dbt (nextD c st) st (.aR 2) N
  | 3 => dIf (row c = 3) (dbt (dnD c) st (.bR 1) N) + dIf (row c = 0) (dbt (upD c) st (.bR 0) N)
  | 4 => dIf (0 < row c ∧ row c < 3) (dbt (upD c) st (.bR 0) N)
  | 5 => dbt (nextD c st) st (.cR 0) N + dIf (0 < row c ∧ row c < 3) (dbt (dnD c) st (.bR 1) N)
  | 6 => dbt (nextD c st) st (.cR 1) N
  | 7 => dbt (nextD c st) st (.cR 2) N
  | _ => 0

/-- What a stream still owes before its stage `j`. -/
def debtFrom (c : Dev nD) (st : Fin 16) (j : ℕ) : CellTallies nD τ sig Unit := ∑ i ∈ Finset.Ico j 9, debt c st i

theorem debtFrom_step (c : Dev nD) (st : Fin 16) {j : ℕ} (h : j < 9) : debtFrom c st j = debt c st j + debtFrom c st (j + 1) := by
  unfold debtFrom
  rw [show Finset.Ico j 9 = insert j (Finset.Ico (j + 1) 9) by ext i; simp only [Finset.mem_Ico, Finset.mem_insert]; omega,
    Finset.sum_insert (by simp only [Finset.mem_Ico]; omega)]
theorem debtFrom_end (c : Dev nD) (st : Fin 16) {j : ℕ} (h : 9 ≤ j) : debtFrom c st j = 0 := by
  unfold debtFrom; rw [Finset.Ico_eq_empty (by omega), Finset.sum_empty]

theorem above_dIf {n : ℕ} {P : Prop} [Decidable P] {O : CellTallies nD τ sig Unit} (h : P → Above n O) : Above n (dIf P O) := by
  unfold dIf; split
  · exact h ‹_›
  · exact above_zero n

theorem debt_above (c : Dev nD) (st : Fin 16) (j : ℕ) : Above (8 * tm st j - 1) (debt c st j) := by
  rcases (by omega : j = 0 ∨ j = 1 ∨ j = 2 ∨ j = 3 ∨ j = 4 ∨ j = 5 ∨ j = 6 ∨ j = 7 ∨ 8 ≤ j) with rfl | rfl | rfl | rfl | rfl | rfl | rfl | rfl | h8
  · exact above_cell _ _ _ (by show _ < 8 * tm st 0 + 4; omega)
  · exact above_cell _ _ _ (by show _ < 8 * tm st 1 + 4; omega)
  · exact above_add (above_cell _ _ _ (by show _ < 8 * tm st 2 + 4; omega)) (above_cell _ _ _ (by show _ < 8 * tm st 2 + 4; omega))
  · exact above_add (above_dIf fun _ => above_cell _ _ _ (by show _ < 8 * tm st 5 + (3 - row (dnD c)); unfold tm; omega))
      (above_dIf fun _ => above_cell _ _ _ (by show _ < 8 * tm st 4 + row (upD c); unfold tm; omega))
  · exact above_dIf fun h => above_cell _ _ _ (by show _ < 8 * tm st 4 + row (upD c); rw [row_up c h.2]; omega)
  · exact above_add (above_cell _ _ _ (by show _ < 8 * tm st (5 + 0) + 7; unfold tm; omega))
      (above_dIf fun h => above_cell _ _ _ (by show _ < 8 * tm st 5 + (3 - row (dnD c)); have := row_dn c h.1; omega))
  · exact above_cell _ _ _ (by show _ < 8 * tm st (5 + 1) + 7; unfold tm; omega)
  · exact above_cell _ _ _ (by show _ < 8 * tm st (5 + 2) + 7; unfold tm; omega)
  · rw [show j = (j - 8) + 8 by omega]; exact above_zero _

theorem debtFrom_above (c : Dev nD) (st : Fin 16) (j : ℕ) : Above (8 * tm st j - 1) (debtFrom c st j) :=
  above_sum _ _ fun i hi => above_mono (by have := Finset.mem_Ico.mp hi; unfold tm; omega) (debt_above c st i)

end Cert.AllReduce
-- ==== Proof.Ops.lean ====
/-
The operations of the body, each with what it needs and what it leaves: a load or a store of thirty-two owned rows, a
transfer paying a send and a receive cell, a wait that closes its cell, the three-unit credit signal and its waits.
-/
module

public import proofs.«01_k».proof.Proof.Sched
public import Idealize.ShloMosaic.Lib.Pipeline.Value

@[expose] public section

set_option maxRecDepth 20000

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig Unit (Elt F) ℕ UU ℕ

variable (A : Args F)

abbrev 𝒱₀ : Variants := Variants.none

/-- The weakest precondition of a device's program. -/
abbrev WP (c : Dev nD) (p : PT F) (Q : PUnit → sProp 𝕄) : sProp 𝕄 :=
  wp frame (wpE (defs₀ (F := F)) 𝒱₀ (c : Thread nD τ) none) Set.univ p Q

/-- One of a family. -/
theorem elem {I : Type} [DecidableEq I] {S : Finset I} {i : I} (hi : i ∈ S) (Φ : I → sProp 𝕄) : (bigSep S Φ : sProp 𝕄) ⊢ Φ i := bigSep_elim hi

/-! ## What everyone knows -/

variable (KC : Dev nD × Option SK → ℕ) (KS : Key → ℕ)

/-- Every cell's and every slot's invariant, that every cell's round has begun, and the levels. -/
def recs : sProp 𝕄 :=
  iprop((bigSep Finset.univ fun ck : Dev nD × Option SK => iprop(cellInv ER (Rd A) (KC ck) (cell ck) ∗ reached ER (cell ck) 0))
    ∗ (bigSep Finset.univ fun k : Key => slotInv ES (KS k) k (slotS k)) ∗ levAts L lv)

instance recs_persistent : BI.Persistent (recs A KC KS) := by unfold recs; infer_instance

theorem recs_cell (c : Dev nD) (k : Option SK) : recs A KC KS ⊢ cellInv ER (Rd A) (KC (c, k)) (cell (c, k)) := by
  unfold recs
  iintro ⟨#H, -, -⟩
  ihave #H' := (elem (Finset.mem_univ (c, k)) _) $$ H
  icases H' with ⟨#H1, -⟩
  iexact H1
theorem recs_reached (c : Dev nD) (k : Option SK) : recs A KC KS ⊢ reached ER (cell (c, k)) 0 := by
  unfold recs
  iintro ⟨#H, -, -⟩
  ihave #H' := (elem (Finset.mem_univ (c, k)) _) $$ H
  icases H' with ⟨-, #H1⟩
  iexact H1
theorem recs_slot (k : Key) : recs A KC KS ⊢ slotInv ES (KS k) k (slotS k) := by
  unfold recs
  iintro ⟨-, #H, -⟩
  iapply (elem (Finset.mem_univ k) _) $$ H
instance lev_persistent : BI.Persistent (levAts L lv : sProp 𝕄) := by infer_instance
theorem recs_lev : recs A KC KS ⊢ levAts L lv := by
  unfold recs
  iintro ⟨-, -, #H⟩
  iexact H

/-! ## What a device holds of a cell -/

/-- What it owes, having waited on whatever it has. -/
def owesE (c : Dev nD) (O : CellTallies nD τ sig Unit) : sProp 𝕄 := iprop(∃ W, owes (c : Thread nD τ) O W)
/-- The right to pay a duty of a cell. -/
def tok (c : Dev nD) (k : SK) (d : Fin 4) : sProp 𝕄 := dutyTok ER (cell (c, some k)) 0 d
/-- The owner's position at a cell, nothing taken. -/
def pos (c : Dev nD) (k : SK) : sProp 𝕄 := atPos ER (cell (c, some k)) 0 ∅ 0
/-- Units to wait for. -/
def crd (c : Dev nD) (k : SK) (a : ℕ) : sProp 𝕄 := cred (tallyAt (cell (c, some k)) () a)
/-- A closed cell: its counter at zero. -/
def done (c : Dev nD) (k : SK) : sProp 𝕄 := semVal (cell (c, some k)) 0

/-! ## Loads and stores -/

theorem unA_mkA (v : V32 F) : unA (mkA v) = v := by unfold unA mkA; rw [shapeCast_shapeCast]
theorem mkA_unA (v : Vec F S1x1x32x2048 .f32) : mkA (unA v) = v := by unfold unA mkA; rw [shapeCast_shapeCast]
theorem unB_mkB (v : V32 F) : unB (mkB v) = v := by unfold unB mkB; rw [shapeCast_shapeCast]
theorem mkB_unB (v : Vec F S1x32x2048 .f32) : mkB (unB v) = v := by unfold unB mkB; rw [shapeCast_shapeCast]
theorem unO_self (v : V32 F) : unO v = v := shapeCast_self _ _

theorem aMem_read (st : Fin 16) (s : Fin 4) (f : (cc0_scratch0 : Ref sig .tc).ty.Contents (Elt F)) :
    (aMem st s).view.read (Elt F) f = unA ((acomm : Memref sig .tc .vmem S16x4x32x2048 .f32).view.readAt (Elt F) (aRect st s).toLoadRect f) :=
  Memref.read_squeeze_slice acomm (aRect st s) (fun _ => rfl) squeezes_S1x1x32x2048_S32x2048 shapeCasts_S1x1x32x2048_S32x2048 f
theorem aMem_set (st : Fin 16) (s : Fin 4) : (aMem st s).view.set = ((acomm : Memref sig .tc .vmem S16x4x32x2048 .f32).access (aRect st s)).set :=
  View.set_reshape _ _

theorem preMem_read (st : Fin 16) (f : (cc0_scratch1 : Ref sig .tc).ty.Contents (Elt F)) :
    (preMem st).view.read (Elt F) f = unB ((bpre : Memref sig .tc .vmem S16x32x2048 .f32).view.readAt (Elt F) (bRect st).toLoadRect f) :=
  Memref.read_squeeze_slice bpre (bRect st) (fun _ => rfl) squeezes_S1x32x2048_S32x2048 shapeCasts_S1x32x2048_S32x2048 f
theorem preMem_set (st : Fin 16) : (preMem st).view.set = ((bpre : Memref sig .tc .vmem S16x32x2048 .f32).access (bRect st)).set :=
  View.set_reshape _ _
theorem sufMem_read (st : Fin 16) (f : (cc0_scratch2 : Ref sig .tc).ty.Contents (Elt F)) :
    (sufMem st).view.read (Elt F) f = unB ((bsuf : Memref sig .tc .vmem S16x32x2048 .f32).view.readAt (Elt F) (bRect st).toLoadRect f) :=
  Memref.read_squeeze_slice bsuf (bRect st) (fun _ => rfl) squeezes_S1x32x2048_S32x2048 shapeCasts_S1x32x2048_S32x2048 f
theorem sufMem_set (st : Fin 16) : (sufMem st).view.set = ((bsuf : Memref sig .tc .vmem S16x32x2048 .f32).access (bRect st)).set :=
  View.set_reshape _ _

/-- A load of an owned ring slot. -/
theorem wp_ldA (c : Dev nD) (st : Fin 16) (s : Fin 4) (q : PosShare TreeShare) (X : V32 F) (k : Vec F S1x1x32x2048 .f32 → PT F) (Q : PUnit → sProp 𝕄) :
    owns (c : Thread nD τ) (aMem st s) q X ⊢ iprop((owns (c : Thread nD τ) (aMem st s) q X -∗ WP c (k (mkA X)) Q) -∗ WP c (ldA st s k) Q) := by
  unfold owns ldA
  iintro ⟨%f, %hf, H⟩ Hk
  rw [aMem_read] at hf
  iapply (wp_load 𝒱₀ (c : Thread nD τ) none Set.univ (m := acomm) (r := (aRect st s).toLoadRect) (S := (aMem st s).view.set) (f := f)
    (by rw [aMem_set, View.set_slice]; exact Finset.Subset.refl _)) $$ H
  iintro H
  rw [show (acomm : Memref sig .tc .vmem S16x4x32x2048 .f32).view.readAt (Elt F) (aRect st s).toLoadRect f = mkA X by rw [← hf, mkA_unA]]
  iapply Hk
  iexists f
  isplitr
  · ipureintro; rw [aMem_read]; exact hf
  iexact H

/-- A store to an owned ring slot. -/
theorem wp_stA (c : Dev nD) (st : Fin 16) (s : Fin 4) (X Y : V32 F) (k : PT F) (Q : PUnit → sProp 𝕄) :
    owns (c : Thread nD τ) (aMem st s) fullShare X ⊢ iprop((owns (c : Thread nD τ) (aMem st s) fullShare Y -∗ WP c k Q) -∗ WP c (stA st s (mkA Y) k) Q) := by
  unfold owns stA
  iintro ⟨%f, %hf, H⟩ Hk
  iapply (wp_store 𝒱₀ (c : Thread nD τ) none Set.univ (m := acomm) (r := aRect st s) (Mk := Finset.univ) (S := (aMem st s).view.set) (f := f)
    (by rw [aMem_set]; exact Finset.Subset.refl _)) $$ H
  iintro H
  iapply Hk
  iexists _
  isplitr
  · ipureintro
    rw [aMem_read]
    exact (congrArg unA (View.read_write_univ (v := (acomm : Memref sig .tc .vmem S16x4x32x2048 .f32).access (aRect st s)) f (mkA Y))).trans (unA_mkA Y)
  iexact H

/-- A load of an owned landing buffer. -/
theorem wp_ldPre (c : Dev nD) (st : Fin 16) (q : PosShare TreeShare) (X : V32 F) (k : Vec F S1x32x2048 .f32 → PT F) (Q : PUnit → sProp 𝕄) :
    owns (c : Thread nD τ) (preMem st) q X ⊢ iprop((owns (c : Thread nD τ) (preMem st) q X -∗ WP c (k (mkB X)) Q) -∗ WP c (ldB bpre st k) Q) := by
  unfold owns ldB
  iintro ⟨%f, %hf, H⟩ Hk
  rw [preMem_read] at hf
  iapply (wp_load 𝒱₀ (c : Thread nD τ) none Set.univ (m := bpre) (r := (bRect st).toLoadRect) (S := (preMem st).view.set) (f := f)
    (by rw [preMem_set, View.set_slice]; exact Finset.Subset.refl _)) $$ H
  iintro H
  rw [show (bpre : Memref sig .tc .vmem S16x32x2048 .f32).view.readAt (Elt F) (bRect st).toLoadRect f = mkB X by rw [← hf, mkB_unB]]
  iapply Hk
  iexists f
  isplitr
  · ipureintro; rw [preMem_read]; exact hf
  iexact H
theorem wp_ldSuf (c : Dev nD) (st : Fin 16) (q : PosShare TreeShare) (X : V32 F) (k : Vec F S1x32x2048 .f32 → PT F) (Q : PUnit → sProp 𝕄) :
    owns (c : Thread nD τ) (sufMem st) q X ⊢ iprop((owns (c : Thread nD τ) (sufMem st) q X -∗ WP c (k (mkB X)) Q) -∗ WP c (ldB bsuf st k) Q) := by
  unfold owns ldB
  iintro ⟨%f, %hf, H⟩ Hk
  rw [sufMem_read] at hf
  iapply (wp_load 𝒱₀ (c : Thread nD τ) none Set.univ (m := bsuf) (r := (bRect st).toLoadRect) (S := (sufMem st).view.set) (f := f)
    (by rw [sufMem_set, View.set_slice]; exact Finset.Subset.refl _)) $$ H
  iintro H
  rw [show (bsuf : Memref sig .tc .vmem S16x32x2048 .f32).view.readAt (Elt F) (bRect st).toLoadRect f = mkB X by rw [← hf, mkB_unB]]
  iapply Hk
  iexists f
  isplitr
  · ipureintro; rw [sufMem_read]; exact hf
  iexact H
/-- A store to an owned suffix buffer. -/
theorem wp_stSuf (c : Dev nD) (st : Fin 16) (X Y : V32 F) (k : PT F) (Q : PUnit → sProp 𝕄) :
    owns (c : Thread nD τ) (sufMem st) fullShare X ⊢ iprop((owns (c : Thread nD τ) (sufMem st) fullShare Y -∗ WP c k Q) -∗ WP c (stB st (mkB Y) k) Q) := by
  unfold owns stB
  iintro ⟨%f, %hf, H⟩ Hk
  iapply (wp_store 𝒱₀ (c : Thread nD τ) none Set.univ (m := bsuf) (r := bRect st) (Mk := Finset.univ) (S := (sufMem st).view.set) (f := f)
    (by rw [sufMem_set]; exact Finset.Subset.refl _)) $$ H
  iintro H
  iapply Hk
  iexists _
  isplitr
  · ipureintro
    rw [sufMem_read]
    exact (congrArg unB (View.read_write_univ (v := (bsuf : Memref sig .tc .vmem S16x32x2048 .f32).access (bRect st)) f (mkB Y))).trans (unB_mkB Y)
  iexact H

/-- A load of an owned block of the result. -/
theorem wp_ldO (c : Dev nD) (off : Fin 2 → ℕ) (h : ∀ a, off a + S32x2048.size a ≤ S2048x2048.size a) (r : Fin 4) (st : Fin 16) (ho : off = offB r st)
    (q : PosShare TreeShare) (X : V32 F) (k : Vec F S32x2048 .f32 → PT F) (Q : PUnit → sProp 𝕄) :
    owns (c : Thread nD τ) (oB r st) q X ⊢ iprop((owns (c : Thread nD τ) (oB r st) q X -∗ WP c (k X) Q) -∗ WP c (ldO off h k) Q) := by
  subst ho
  unfold owns ldO
  iintro ⟨%f, %hf, H⟩ Hk
  iapply (wp_load 𝒱₀ (c : Thread nD τ) none Set.univ (m := out) (r := (oRect (offB r st) h).toLoadRect) (S := (oB r st).view.set) (f := f)
    (by rw [View.set_slice]; exact Finset.Subset.refl _)) $$ H
  iintro H
  rw [show (out : Memref sig .tc .vmem S2048x2048 .f32).view.readAt (Elt F) (oRect (offB r st) h).toLoadRect f = X from hf]
  iapply Hk
  iexists f
  isplitr
  · ipureintro; exact hf
  iexact H

/-- A store to an owned block of the result. -/
theorem wp_stO (c : Dev nD) (off : Fin 2 → ℕ) (h : ∀ a, off a + S32x2048.size a ≤ S2048x2048.size a) (r : Fin 4) (st : Fin 16) (ho : off = offB r st)
    (X Y : V32 F) (k : PT F) (Q : PUnit → sProp 𝕄) :
    owns (c : Thread nD τ) (oB r st) fullShare X ⊢ iprop((owns (c : Thread nD τ) (oB r st) fullShare Y -∗ WP c k Q) -∗ WP c (stO off h Y k) Q) := by
  subst ho
  unfold owns stO
  iintro ⟨%f, %hf, H⟩ Hk
  iapply (wp_store 𝒱₀ (c : Thread nD τ) none Set.univ (m := out) (r := oRect (offB r st) h) (Mk := Finset.univ) (S := (oB r st).view.set) (f := f)
    (Finset.Subset.refl _)) $$ H
  iintro H
  iapply Hk
  iexists _
  isplitr
  · ipureintro
    exact View.read_write_univ (v := (out : Memref sig .tc .vmem S2048x2048 .f32).access (oRect (offB r st) h)) f Y
  iexact H

/-! ## Transfers and waits -/

/-- A transfer of owned rows to rows of another device, paying the send cell and the receive cell. -/
theorem wp_sendTo (c n : Dev nD) (src dst : Memref sig .tc .vmem S32x2048 .f32) (q : PosShare TreeShare) (X : V32 F) (ss rs : DmaSem sig) (k1 k2 : SK)
    (h1 : semOf k1 = .dma ss) (h2 : semOf k2 = .dma rs) (hd1 : (0 : Fin 4) ∈ duts c (some k1)) (hd2 : (0 : Fin 4) ∈ duts n (some k2))
    (ha1 : amt (some k1) = N) (ha2 : amt (some k2) = N) (hN : dst.view.dmaCredit = N)
    (hp1 : owns (c : Thread nD τ) src q X ⊢ pay A c (some k1) 0) (hp2 : owns (n : Thread nD τ) dst fullShare X ⊢ pay A n (some k2) 0)
    (R : CellTallies nD τ sig Unit) (k : PT F) (Q : PUnit → sProp 𝕄) :
    iprop(recs A KC KS ∗ owns (c : Thread nD τ) src q X ∗ anyOf n dst fullShare ∗ owesE c (R + tallyAt (cell (n, some k2)) () N) ∗ tok c k1 0 ∗ tok n k2 0)
      ⊢ iprop((crd c k1 N ∗ owesE c R -∗ WP c k Q) -∗ WP c (sendTo src dst n ss rs k) Q) := by
  have e1 : cell (c, some k1) = ((c : Thread nD τ), SemLoc.dma ss) := by show (_, semOf k1) = _; rw [h1]
  have e2 : cell (n, some k2) = ((n : Thread nD τ), SemLoc.dma rs) := by show (_, semOf k2) = _; rw [h2]
  have hd1' := Rd_duties A c (some k1)
  have hd2' := Rd_duties A n (some k2)
  have ha1' := Rd_amount A c (some k1) 0
  have ha2' := Rd_amount A n (some k2) 0
  have hp1' := Rd_payload A c (some k1) 0
  have hp2' := Rd_payload A n (some k2) 0
  iintro ⟨#Hr, Hs, Hd, Ho, Ht1, Ht2⟩ Hk
  ihave #HI1 := (recs_cell A KC KS c (some k1)) $$ Hr
  ihave #HI2 := (recs_cell A KC KS n (some k2)) $$ Hr
  ihave #Hr1 := (recs_reached A KC KS c (some k1)) $$ Hr
  ihave #Hr2 := (recs_reached A KC KS n (some k2)) $$ Hr
  unfold tok crd owesE anyOf owns sendTo
  rw [e1] at hd1' ha1' hp1'
  rw [e2] at hd2' ha2' hp2'
  rw [e1, e2]
  icases Hs with ⟨%fs, %hfs, Hs⟩
  icases Hd with ⟨%v, %fd, %hfd, Hd⟩
  icases Ho with ⟨%W, Ho⟩
  iapply (Rounds.wp_send_pointsTo 𝒱₀ ER (Rd A) (c : Thread nD τ) none (c' := (n : Thread nD τ)) (src := src) (dst := dst) (sS := .dma ss) (sem := .dma rs) (κ₁ := KC (c, some k1)) (κ₂ := KC (n, some k2))
    (r₁ := 0) (r₂ := 0) (d₁ := 0) (d₂ := 0) (q := q) (fs := fs) (fd := fd)
    (by rw [hd1']; exact hd1) (by rw [hd2']; exact hd2) () () N hN (ha1'.trans ha1) (ha2'.trans ha2) R rfl (W := W)
    (by rw [hp1']
        refine BI.Entails.trans ?_ hp1
        rw [← hfs]; exact owns_intro (c : Thread nD τ) src q fs)
    (by rw [hp2']
        refine BI.Entails.trans ?_ hp2
        refine BI.Entails.trans (owns_intro (n : Thread nD τ) dst fullShare _) ?_
        rw [View.read_write_univ, hfs]; exact BI.Entails.refl _)) $$ [Hs Hd Ho Ht1 Ht2]
  · isplitr; · iexact HI1
    isplitr; · iexact HI2
    isplitl [Hs]; · iexact Hs
    isplitl [Hd]; · iexact Hd
    isplitl [Ho]; · iexact Ho
    isplitl [Ht1]; · iexact Ht1
    isplitr; · iexact Hr1
    isplitl [Ht2]; · iexact Ht2
    iexact Hr2
  iintro ⟨Hc, Ho⟩
  iapply Hk
  isplitl [Hc]; · iexact Hc
  iexists W
  iexact Ho

/-- A wait for the one transfer a cell expects, which closes the cell. -/
theorem wp_waitOn (c : Dev nD) (s : DmaSem sig) (m : Memref sig .tc .vmem S32x2048 .f32) (k1 : SK) (h1 : semOf k1 = .dma s)
    (hd : duts c (some k1) = {0}) (ha : amt (some k1) = N) (hN : m.view.dmaCredit = N) {n : ℕ} (O : CellTallies nD τ sig Unit)
    (hO : Above n O) (hn : lvk c (some k1) ≤ n) (k : PT F) (Q : PUnit → sProp 𝕄) :
    iprop(recs A KC KS ∗ owesE c O ∗ crd c k1 N ∗ pos c k1)
      ⊢ iprop((owesE c O ∗ done c k1 ∗ pay A c (some k1) 0 -∗ WP c k Q) -∗ WP c (waitOn s m k) Q) := by
  have e1 : cell (c, some k1) = ((c : Thread nD τ), SemLoc.dma s) := by show (_, semOf k1) = _; rw [h1]
  have hd' := Rd_duties A c (some k1)
  have he := Rd_expect A c (some k1)
  have hp := Rd_payload A c (some k1) 0
  have hl := lv_cell c (some k1) ()
  have hlater := Rd_later A (cell (c, some k1))
  rw [hd, Finset.card_singleton, Nat.one_mul, ha] at he
  rw [hd] at hd'
  iintro ⟨#Hr, Ho, Hc, Hp⟩ Hk
  ihave #HI := (recs_cell A KC KS c (some k1)) $$ Hr
  unfold crd pos done owesE waitOn
  rw [e1] at hd' he hp hl hlater
  rw [e1]
  icases Ho with ⟨%W, Ho⟩
  iapply (Rounds.wp_wait_rest_token 𝒱₀ ER (Rd A) (c : Thread nD τ) none (κ := KC (c, some k1))
      (wpE_waitDma2_eq 𝒱₀ (c : Thread nD τ) none Set.univ) (Set.mem_univ _) () (O := O) (W := W) (R := 0) (m := 0) (T := ∅)
      (by rw [Nat.zero_add, he]; exact hN)) $$ [Hc Ho Hp]
  · isplitr; · iexact HI
    isplitl [Hc]; · rw [show m.view.dmaCredit = N from hN]; iexact Hc
    isplitl [Ho]; · iexact Ho
    isplitr
    · iapply ((recs_lev A KC KS).trans (mayWait c (.dma s) (n := n) (O := O) (by rw [hl]; exact hn) hO)); iexact Hr
    iexact Hp
  iintro ⟨Ho, Hp, -, Hpay⟩
  imod (Rounds.cell_close ER (Rd A) (Set.mem_univ (KC (c, some k1))) (fun h => h) (R := 0 + 1) hlater) $$ [Hp] with Hz
  · isplitr; · iexact HI
    iexact Hp
  iapply Hk
  isplitl [Ho]
  · iexists _; iexact Ho
  isplitl [Hz]; · iexact Hz
  ihave Hpay := (Entails.of_eq (show bigSep _ _ = pay A c (some k1) 0 by rw [Finset.sdiff_empty, hd', bigSep_singleton, hp])) $$ Hpay
  iexact Hpay

/-- A cell nothing is sent to closes without a wait. -/
theorem close_idle (c : Dev nD) (k1 : SK) (hd : duts c (some k1) = ∅) :
    iprop(recs A KC KS ∗ pos c k1) ⊢ iprop(|={Set.univ}=> done c k1) := by
  iintro ⟨#Hr, Hp⟩
  ihave #HI := (recs_cell A KC KS c (some k1)) $$ Hr
  unfold pos done
  iapply (Rounds.cell_close ER (Rd A) (Set.mem_univ (KC (c, some k1))) (fun h => h) (R := 0) (fun r _ => by
    rcases Nat.eq_zero_or_pos r with rfl | h
    · rw [Rd_duties, hd]
    · exact Rd_later A _ r h))
  isplitr; · iexact HI
  iexact Hp

/-! ## Credits -/

/-- Some of a credit cell's units taken. -/
def posC (c : Dev nD) (st : Fin 16) (m : ℕ) : sProp 𝕄 := iprop(∃ S, atPos ER (cell (c, some (st, .cr))) 0 S m)

/-- A wait for one of the three credits that is not the last: the next device's rows have been released. -/
theorem wp_await (c : Dev nD) (st : Fin 16) {n : ℕ} (O : CellTallies nD τ sig Unit)
    (hO : Above n O) (hn : lvk c (some (st, .cr)) ≤ n) (k : PT F) (Q : PUnit → sProp 𝕄) :
    iprop(recs A KC KS ∗ owesE c O ∗ crd c (st, .cr) 1 ∗ pos c (st, .cr))
      ⊢ iprop((owesE c O ∗ posC c st 1 ∗ released ES (nextD c st, st) 1 -∗ WP c k Q) -∗ WP c (await (credS st) 1#32 k) Q) := by
  have hd : (Rd A).duties ((c : Thread nD τ), .reg (credS st)) 0 = {0, 1, 2} := Rd_duties A c (some (st, .cr))
  have he : (Rd A).expect ((c : Thread nD τ), .reg (credS st)) 0 = 3 := (Rd_expect A c (some (st, .cr))).trans rfl
  have hp : ∀ d, (Rd A).payload ((c : Thread nD τ), .reg (credS st)) 0 d = released ES (nextD c st, st) 1 := fun d => Rd_payload A c (some (st, .cr)) d
  have hl : lv ((c : Thread nD τ), SemLoc.reg (credS st)) () = lvk c (some (st, .cr)) := lv_cell c (some (st, .cr)) ()
  iintro ⟨#Hr, Ho, Hc, Hp⟩ Hk
  ihave #HI := (recs_cell A KC KS c (some (st, .cr))) $$ Hr
  unfold crd pos owesE await posC
  icases Ho with ⟨%W, Ho⟩
  iapply (Rounds.wp_wait 𝒱₀ ER (Rd A) (c : Thread nD τ) none (sm := .reg (credS st)) (k' := 1) (κ := KC (c, some (st, .cr)))
      (wpE_semWait_eq 𝒱₀ (c : Thread nD τ) none Set.univ) (Set.mem_univ _) (cr := Finsupp.single () 1) (O := O) (W := W) {(.reg (credS st), ())} (R := 0) (m := 0) (T := ∅)
      (by rw [Util.total_single]) (image_single_subset _ _ _)) $$ [Hc Ho Hp]
  · isplitr; · iexact HI
    isplitl [Hc]; · iexact Hc
    isplitl [Ho]; · iexact Ho
    isplitr
    · iapply ((recs_lev A KC KS).trans (mayWait c (.reg (credS st)) (n := n) (O := O) (by rw [hl]; exact hn) hO)); iexact Hr
    iexact Hp
  iintro %S ⟨%hS, Ho, Hp, Hpay⟩
  obtain ⟨-, hSd, hc⟩ := hS
  rw [he, hd] at hc
  have hne : (S \ ∅).Nonempty := by
    rw [Finset.sdiff_empty, Finset.nonempty_iff_ne_empty]
    rintro rfl
    rw [Finset.sdiff_empty] at hc
    exact absurd hc (by decide)
  obtain ⟨d, hdm⟩ := hne
  ihave Hrel := (elem hdm _) $$ Hpay
  iapply Hk
  isplitl [Ho]
  · iexists _; iexact Ho
  isplitl [Hp]
  · iexists S; iexact Hp
  ihave Hrel := (Entails.of_eq (hp d)) $$ Hrel
  iexact Hrel

/-- The second of the waits. -/
theorem wp_await2 (c : Dev nD) (st : Fin 16) {n : ℕ} (O : CellTallies nD τ sig Unit)
    (hO : Above n O) (hn : lvk c (some (st, .cr)) ≤ n) (k : PT F) (Q : PUnit → sProp 𝕄) :
    iprop(recs A KC KS ∗ owesE c O ∗ crd c (st, .cr) 1 ∗ posC c st 1)
      ⊢ iprop((owesE c O ∗ posC c st 2 -∗ WP c k Q) -∗ WP c (await (credS st) 1#32 k) Q) := by
  have hl : lv ((c : Thread nD τ), SemLoc.reg (credS st)) () = lvk c (some (st, .cr)) := lv_cell c (some (st, .cr)) ()
  iintro ⟨#Hr, Ho, Hc, Hp⟩ Hk
  ihave #HI := (recs_cell A KC KS c (some (st, .cr))) $$ Hr
  unfold crd owesE await posC
  icases Ho with ⟨%W, Ho⟩
  icases Hp with ⟨%T, Hp⟩
  iapply (Rounds.wp_wait 𝒱₀ ER (Rd A) (c : Thread nD τ) none (sm := .reg (credS st)) (k' := 1) (κ := KC (c, some (st, .cr)))
      (wpE_semWait_eq 𝒱₀ (c : Thread nD τ) none Set.univ) (Set.mem_univ _) (cr := Finsupp.single () 1) (O := O) (W := W) {(.reg (credS st), ())} (R := 0) (m := 1) (T := T)
      (by rw [Util.total_single]) (image_single_subset _ _ _)) $$ [Hc Ho Hp]
  · isplitr; · iexact HI
    isplitl [Hc]; · iexact Hc
    isplitl [Ho]; · iexact Ho
    isplitr
    · iapply ((recs_lev A KC KS).trans (mayWait c (.reg (credS st)) (n := n) (O := O) (by rw [hl]; exact hn) hO)); iexact Hr
    iexact Hp
  iintro %S ⟨-, Ho, Hp, -⟩
  iapply Hk
  isplitl [Ho]
  · iexists _; iexact Ho
  iexists S; iexact Hp

/-- The last of the waits, which closes the cell. -/
theorem wp_await3 (c : Dev nD) (st : Fin 16) {n : ℕ} (O : CellTallies nD τ sig Unit)
    (hO : Above n O) (hn : lvk c (some (st, .cr)) ≤ n) (k : PT F) (Q : PUnit → sProp 𝕄) :
    iprop(recs A KC KS ∗ owesE c O ∗ crd c (st, .cr) 1 ∗ posC c st 2)
      ⊢ iprop((owesE c O ∗ done c (st, .cr) -∗ WP c k Q) -∗ WP c (await (credS st) 1#32 k) Q) := by
  have he : (Rd A).expect ((c : Thread nD τ), .reg (credS st)) 0 = 3 := (Rd_expect A c (some (st, .cr))).trans rfl
  have hl : lv ((c : Thread nD τ), SemLoc.reg (credS st)) () = lvk c (some (st, .cr)) := lv_cell c (some (st, .cr)) ()
  iintro ⟨#Hr, Ho, Hc, Hp⟩ Hk
  ihave #HI := (recs_cell A KC KS c (some (st, .cr))) $$ Hr
  unfold crd owesE await posC done
  icases Ho with ⟨%W, Ho⟩
  icases Hp with ⟨%T, Hp⟩
  iapply (Rounds.wp_wait_rest_token 𝒱₀ ER (Rd A) (c : Thread nD τ) none (sm := .reg (credS st)) (k' := 1) (κ := KC (c, some (st, .cr)))
      (wpE_semWait_eq 𝒱₀ (c : Thread nD τ) none Set.univ) (Set.mem_univ _) () (O := O) (W := W) (R := 0) (m := 2) (T := T)
      (by rw [he])) $$ [Hc Ho Hp]
  · isplitr; · iexact HI
    isplitl [Hc]; · iexact Hc
    isplitl [Ho]; · iexact Ho
    isplitr
    · iapply ((recs_lev A KC KS).trans (mayWait c (.reg (credS st)) (n := n) (O := O) (by rw [hl]; exact hn) hO)); iexact Hr
    iexact Hp
  iintro ⟨Ho, Hp, -, -⟩
  imod (Rounds.cell_close ER (Rd A) (Set.mem_univ (KC (c, some (st, .cr)))) (fun h => h) (R := 0 + 1) (Rd_later A _)) $$ [Hp] with Hz
  · isplitr; · iexact HI
    iexact Hp
  iapply Hk
  isplitl [Ho]
  · iexists _; iexact Ho
  iexact Hz

/-- The three duties of a credit cell land at once. -/
theorem land3 (c : Dev nD) (st : Fin 16) :
    iprop(cellInv ER (Rd A) (KC (c, some (st, .cr))) (cell (c, some (st, .cr))) ∗ reached ER (cell (c, some (st, .cr))) 0 ∗ released ES (nextD c st, st) 1
        ∗ tok c (st, .cr) 0 ∗ tok c (st, .cr) 1 ∗ tok c (st, .cr) 2)
      ⊢ landingUpdate (cell (c, some (st, .cr))) 3 iprop(emp) := by
  have hd : (Rd A).duties (cell (c, some (st, .cr))) 0 = {0, 1, 2} := Rd_duties A c (some (st, .cr))
  have ha : ∀ d, (Rd A).amount (cell (c, some (st, .cr))) 0 d = 1 := fun d => Rd_amount A c (some (st, .cr)) d
  have hp : ∀ d, (Rd A).payload (cell (c, some (st, .cr))) 0 d = released ES (nextD c st, st) 1 := fun d => Rd_payload A c (some (st, .cr)) d
  have h0 : (0 : Fin 4) ∈ (Rd A).duties (cell (c, some (st, .cr))) 0 := by rw [hd]; decide
  have h1 : (1 : Fin 4) ∈ (Rd A).duties (cell (c, some (st, .cr))) 0 := by rw [hd]; decide
  have h2 : (2 : Fin 4) ∈ (Rd A).duties (cell (c, some (st, .cr))) 0 := by rw [hd]; decide
  unfold tok
  generalize hg : cell (c, some (st, .cr)) = g at *
  rw [landingUpdate_def]
  iintro ⟨HI, HX⟩ -
  iapply (raise_roundState ER (Rd A) (k := 3)
      (X := iprop(reached ER g 0 ∗ released ES (nextD c st, st) 1 ∗ dutyTok ER g 0 0 ∗ dutyTok ER g 0 1 ∗ dutyTok ER g 0 2))
      (by iintro ⟨Hcl, Hr, -, Htok, -⟩; iapply (closed_dutyTok_false ER (Rd A) h0)
          isplitl [Hcl]; · iexact Hcl
          isplitl [Htok] <;> iassumption)
      (by iintro ⟨Hdm, Hr, -⟩; iapply (dormant_reached_false ER (Rd A)); isplitl [Hdm] <;> iassumption) fun v => by
    iintro ⟨Hst, #Hre, #Hrel, Ht0, Ht1, Ht2⟩
    imod (roundState_land ER (Rd A) h0) $$ [Hst Ht0] with Hst
    · isplitl [Hst]; · iexact Hst
      isplitl [Ht0]; · iexact Ht0
      isplitr; · rw [hp]; iexact Hrel
      iexact Hre
    imod (roundState_land ER (Rd A) h1) $$ [Hst Ht1] with Hst
    · isplitl [Hst]; · iexact Hst
      isplitl [Ht1]; · iexact Ht1
      isplitr; · rw [hp]; iexact Hrel
      iexact Hre
    imod (roundState_land ER (Rd A) h2) $$ [Hst Ht2] with Hst
    · isplitl [Hst]; · iexact Hst
      isplitl [Ht2]; · iexact Ht2
      isplitr; · rw [hp]; iexact Hrel
      iexact Hre
    imodintro
    rw [ha, ha, ha]
    isplitl [Hst]; · iexact Hst
    iempintro)
  isplitl [HI]; · iexact HI
  iexact HX

/-- The signal of three credits. -/
theorem wp_signal3 (c n : Dev nD) (st : Fin 16) (R : CellTallies nD τ sig Unit) (k : PT F) (Q : PUnit → sProp 𝕄) :
    iprop(recs A KC KS ∗ owesE c (R + tallyAt (cell (n, some (st, .cr))) () 3) ∗ released ES (nextD n st, st) 1
        ∗ tok n (st, .cr) 0 ∗ tok n (st, .cr) 1 ∗ tok n (st, .cr) 2)
      ⊢ iprop((owesE c R -∗ WP c k Q) -∗ WP c (signal n (credS st) 3#32 k) Q) := by
  iintro ⟨#Hr, Ho, Hrel, Ht⟩ Hk
  ihave #HI := (recs_cell A KC KS n (some (st, .cr))) $$ Hr
  ihave #Hre := (recs_reached A KC KS n (some (st, .cr))) $$ Hr
  unfold owesE signal
  icases Ho with ⟨%W, Ho⟩
  iapply (wp_semSignal 𝒱₀ (c : Thread nD τ) none Set.univ (dst := (n : Thread nD τ)) (sem := credS st) (k' := 3) () (O₀ := R + tallyAt (cell (n, some (st, .cr))) () 3) R rfl) $$ Ho [Hrel Ht]
  · iapply (land3 A KC n st)
    isplitr; · iexact HI
    isplitr; · iexact Hre
    isplitl [Hrel]; · iexact Hrel
    iexact Ht
  iintro Ho
  iapply Hk
  iexists W; iexact Ho

/-- A unit to a device's barrier, with its payload. -/
theorem wp_signalB (c n : Dev nD) (d : Fin 4) (R : CellTallies nD τ sig Unit) (k : PT F) (Q : PUnit → sProp 𝕄) :
    iprop(recs A KC KS ∗ owesE c (R + tallyAt (cell (n, none)) () 1) ∗ dutyTok ER (cell (n, none)) 0 d ∗ barPay n d)
      ⊢ iprop((owesE c R -∗ WP c k Q) -∗ WP c (signal n barS 1#32 k) Q) := by
  iintro ⟨#Hr, Ho, Ht, Hp⟩ Hk
  ihave #HI := (recs_cell A KC KS n none) $$ Hr
  ihave #Hre := (recs_reached A KC KS n none) $$ Hr
  unfold owesE signal
  icases Ho with ⟨%W, Ho⟩
  iapply (Rounds.wp_signal 𝒱₀ ER (Rd A) (c : Thread nD τ) none (dst := (n : Thread nD τ)) (sem := barS) (r := 0) (d := d) (k' := 1) (κ := KC (n, none))
    (by rw [show (Rd A).duties ((n : Thread nD τ), .reg barS) 0 = Finset.univ from Rd_duties A n none]; exact Finset.mem_univ _)
    (Rd_amount A n none d) () R rfl (W := W)) $$ [Ho Ht Hp]
  · isplitr; · iexact HI
    isplitl [Ho]; · iexact Ho
    isplitl [Ht]; · iexact Ht
    isplitl [Hp]
    · rw [show (Rd A).payload ((n : Thread nD τ), .reg barS) 0 d = barPay n d from Rd_payload A n none d]; iexact Hp
    iexact Hre
  iintro Ho
  iapply Hk
  iexists W; iexact Ho

/-- The wait for the four barrier units: every neighbour's buffers, and the barrier closed. -/
theorem wp_awaitB (c : Dev nD) (O : CellTallies nD τ sig Unit) (hO : Above 1 O) (k : PT F) (Q : PUnit → sProp 𝕄) :
    iprop(recs A KC KS ∗ owesE c O ∗ cred (tallyAt (cell (c, none)) () 4) ∗ atPos ER (cell (c, none)) 0 ∅ 0)
      ⊢ iprop((owesE c O ∗ semVal (cell (c, none)) 0 ∗ (barPay c 0 ∗ barPay c 1 ∗ barPay c 2 ∗ barPay c 3) -∗ WP c k Q) -∗ WP c (await barS 4#32 k) Q) := by
  have hd : (Rd A).duties ((c : Thread nD τ), .reg barS) 0 = Finset.univ := Rd_duties A c none
  have he : (Rd A).expect ((c : Thread nD τ), .reg barS) 0 = 4 := (Rd_expect A c none).trans rfl
  have hp : ∀ d, (Rd A).payload ((c : Thread nD τ), .reg barS) 0 d = barPay c d := fun d => Rd_payload A c none d
  have hl : lv ((c : Thread nD τ), SemLoc.reg barS) () = 1 := lv_cell c none ()
  iintro ⟨#Hr, Ho, Hc, Hp⟩ Hk
  ihave #HI := (recs_cell A KC KS c none) $$ Hr
  unfold owesE await
  icases Ho with ⟨%W, Ho⟩
  iapply (Rounds.wp_wait_rest_token 𝒱₀ ER (Rd A) (c : Thread nD τ) none (sm := .reg barS) (k' := 4) (κ := KC (c, none))
      (wpE_semWait_eq 𝒱₀ (c : Thread nD τ) none Set.univ) (Set.mem_univ _) () (O := O) (W := W) (R := 0) (m := 0) (T := ∅)
      (by rw [he])) $$ [Hc Ho Hp]
  · isplitr; · iexact HI
    isplitl [Hc]; · iexact Hc
    isplitl [Ho]; · iexact Ho
    isplitr
    · iapply ((recs_lev A KC KS).trans (mayWait c (.reg barS) (n := 1) (O := O) (by rw [hl]) hO)); iexact Hr
    iexact Hp
  iintro ⟨Ho, Hp, -, Hpay⟩
  imod (Rounds.cell_close ER (Rd A) (Set.mem_univ (KC (c, none))) (fun h => h) (R := 0 + 1) (Rd_later A _)) $$ [Hp] with Hz
  · isplitr; · iexact HI
    iexact Hp
  iapply Hk
  isplitl [Ho]
  · iexists _; iexact Ho
  isplitl [Hz]; · iexact Hz
  ihave Hpay := (Entails.of_eq (show bigSep _ _ = iprop(barPay c 0 ∗ barPay c 1 ∗ barPay c 2 ∗ barPay c 3) by
    rw [Finset.sdiff_empty, hd, bigSep_univ_eq_bigSepL [0, 1, 2, 3] (by decide) (by decide), bigSepL_cons_cons, bigSepL_cons_cons, bigSepL_cons_cons, bigSepL_singleton,
      hp, hp, hp, hp]; rfl)) $$ Hpay
  iexact Hpay

/-- A conditional block. -/
theorem whenP_pos {b : BitVec 1} (h : b = 1#1) (B : PT F → PT F) (k : PT F) : whenP b B k = B k := by unfold whenP; rw [dif_pos h]
theorem whenP_neg {b : BitVec 1} (h : ¬b = 1#1) (B : PT F → PT F) (k : PT F) : whenP b B k = k := by unfold whenP; rw [dif_neg h]

end Cert.AllReduce
-- ==== Proof.Stage.lean ====
/-
The stages of a stream: what a device holds of the stream before each of them, what it brings to it, and that the stage
runs from the one to the other.
-/
module

public import proofs.«01_k».proof.Proof.Ops
public import Idealize.ShloMosaic.Lib.MemrefSat

@[expose] public section

set_option maxRecDepth 20000

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig Unit (Elt F) ℕ UU ℕ

variable (A : Args F) (KC : Dev nD × Option SK → ℕ) (KS : Key → ℕ)

/-! ## What a stage brings -/

/-- A condition on the plane. -/
abbrev mid (c : Dev nD) : Prop := 0 < row c ∧ row c < 3

/-- What each stage uses that no earlier stage of the stream touches. -/
def fresh0 (c : Dev nD) (st : Fin 16) : sProp 𝕄 :=
  iprop(anyOf c (aMem st 0) fullShare ∗ anyOf (nextD c st) (aMem st 1) fullShare ∗ tok c (st, .aS 0) 0 ∗ tok (nextD c st) (st, .aR 0) 0)
def fresh1 (c : Dev nD) (st : Fin 16) : sProp 𝕄 :=
  iprop(anyOf (nextD c st) (aMem st 2) fullShare ∗ tok c (st, .aS 1) 0 ∗ tok (nextD c st) (st, .aR 1) 0 ∗ pos c (st, .aR 0) ∗ crd c (st, .aR 0) N)
def fresh2 (c : Dev nD) (st : Fin 16) : sProp 𝕄 :=
  iprop(anyOf (nextD c st) (aMem st 3) fullShare ∗ tok c (st, .aS 2) 0 ∗ tok (nextD c st) (st, .aR 2) 0 ∗ pos c (st, .aR 1) ∗ crd c (st, .aR 1) N
    ∗ (tok (prevD c st) (st, .cr) 0 ∗ tok (prevD c st) (st, .cr) 1 ∗ tok (prevD c st) (st, .cr) 2) ∗ readerAt ES (c, st) 0)
def fresh3 (c : Dev nD) (st : Fin 16) : sProp 𝕄 :=
  iprop(pos c (st, .aR 2) ∗ crd c (st, .aR 2) N ∗ pos c (st, .aS 0) ∗ pos c (st, .aS 1)
    ∗ onP (row c = 0) iprop(anyOf (upD c) (preMem st) fullShare ∗ tok c (st, .bS 0) 0 ∗ tok (upD c) (st, .bR 0) 0)
    ∗ onP (row c = 3) iprop(anyOf (dnD c) (sufMem st) fullShare ∗ tok c (st, .bS 1) 0 ∗ tok (dnD c) (st, .bR 1) 0))
def fresh4 (c : Dev nD) (st : Fin 16) : sProp 𝕄 :=
  iprop(pos c (st, .bR 0) ∗ onP (row c = 0) (anyOf c (preMem st) fullShare) ∗ onP (0 < row c) (crd c (st, .bR 0) N)
    ∗ onP (mid c) iprop(anyOf (upD c) (preMem st) fullShare ∗ tok c (st, .bS 0) 0 ∗ tok (upD c) (st, .bR 0) 0))
def fresh5 (c : Dev nD) (st : Fin 16) : sProp 𝕄 :=
  iprop(pos c (st, .bR 1) ∗ onP (row c = 3) (owns (c : Thread nD τ) (sufMem st) fullShare (zero32 : V32 F)) ∗ onP (row c < 3) (crd c (st, .bR 1) N)
    ∗ onP (mid c) iprop(anyOf (dnD c) (sufMem st) fullShare ∗ tok c (st, .bS 1) 0 ∗ tok (dnD c) (st, .bR 1) 0)
    ∗ pos c (st, .cr) ∗ crd c (st, .cr) 1 ∗ writeTok ES (nextD c st, st) 1 ∗ tok c (st, .cS 0) 0 ∗ tok (nextD c st) (st, .cR 0) 0)
def fresh6 (c : Dev nD) (st : Fin 16) : sProp 𝕄 :=
  iprop(pos c (st, .cR 0) ∗ crd c (st, .cR 0) N ∗ crd c (st, .cr) 1 ∗ tok c (st, .cS 1) 0 ∗ tok (nextD c st) (st, .cR 1) 0)
def fresh7 (c : Dev nD) (st : Fin 16) : sProp 𝕄 :=
  iprop(pos c (st, .cR 1) ∗ crd c (st, .cR 1) N ∗ crd c (st, .cr) 1 ∗ tok c (st, .cS 2) 0 ∗ tok (nextD c st) (st, .cR 2) 0)
def fresh8 (c : Dev nD) (st : Fin 16) : sProp 𝕄 := iprop(pos c (st, .cR 2) ∗ crd c (st, .cR 2) N)
def fresh9 (c : Dev nD) (st : Fin 16) : sProp 𝕄 :=
  iprop(pos c (st, .aS 2) ∗ pos c (st, .cS 0) ∗ pos c (st, .cS 1) ∗ pos c (st, .cS 2) ∗ pos c (st, .bS 0) ∗ pos c (st, .bS 1))

/-! ## What a device holds between stages -/

/-- A block of the product. -/
abbrev blkU (c : Dev nD) (st : Fin 16) (i : Fin 4) : sProp 𝕄 := owns (c : Thread nD τ) (oB (ob c st i) st) fullShare (U A c st (ob c st i))
/-- A stream's blocks of the product. -/
def outU (c : Dev nD) (st : Fin 16) : sProp 𝕄 := iprop(blkU A c st 0 ∗ blkU A c st 1 ∗ blkU A c st 2 ∗ blkU A c st 3)

/-- The share of the first ring slot kept after it has been sent between planes. -/
def q0 (c : Dev nD) : PosShare TreeShare := if row c < 3 then fullShare.left else fullShare

/-- What stays from the first part of a stream to its end. -/
def rest (c : Dev nD) (st : Fin 16) : sProp 𝕄 :=
  iprop(crd c (st, .aS 2) N ∗ (done c (st, .aR 0) ∗ done c (st, .aR 1) ∗ done c (st, .aR 2) ∗ done c (st, .aS 0) ∗ done c (st, .aS 1) ∗ done c (st, .bR 0) ∗ done c (st, .bR 1))
    ∗ anyOf c (aMem st 3) fullShare ∗ anyOf c (preMem st) fullShare ∗ anyOf c (sufMem st) fullShare
    ∗ owns (c : Thread nD τ) (aMem st 0) (q0 c) (preV A c st)
    ∗ onP (row c < 3) (crd c (st, .bS 0) N) ∗ onP (0 < row c) (crd c (st, .bS 1) N) ∗ onP (row c = 0) (anyOf c (aMem st 1) fullShare))

def hold1 (c : Dev nD) (st : Fin 16) : sProp 𝕄 := crd c (st, .aS 0) N
def hold2 (c : Dev nD) (st : Fin 16) : sProp 𝕄 :=
  iprop(outU A c st ∗ crd c (st, .aS 0) N ∗ crd c (st, .aS 1) N ∗ done c (st, .aR 0))
def hold3 (c : Dev nD) (st : Fin 16) : sProp 𝕄 :=
  iprop(blkU A c st 3 ∗ crd c (st, .aS 0) N ∗ crd c (st, .aS 1) N ∗ crd c (st, .aS 2) N ∗ done c (st, .aR 0) ∗ done c (st, .aR 1))
def hold4 (c : Dev nD) (st : Fin 16) : sProp 𝕄 :=
  iprop(blkU A c st 3 ∗ crd c (st, .aS 2) N ∗ (done c (st, .aR 0) ∗ done c (st, .aR 1) ∗ done c (st, .aR 2) ∗ done c (st, .aS 0) ∗ done c (st, .aS 1))
    ∗ owns (c : Thread nD τ) (aMem st 3) fullShare (Av A st 3 c)
    ∗ onP (row c = 0) iprop(owns (c : Thread nD τ) (aMem st 0) (q0 c) (preV A c st) ∗ crd c (st, .bS 0) N) ∗ onP (0 < row c) (anyOf c (aMem st 0) fullShare)
    ∗ onP (row c = 3) (crd c (st, .bS 1) N) ∗ onP (row c < 3) (anyOf c (aMem st 1) fullShare))
def hold5 (c : Dev nD) (st : Fin 16) : sProp 𝕄 :=
  iprop(blkU A c st 3 ∗ crd c (st, .aS 2) N ∗ (done c (st, .aR 0) ∗ done c (st, .aR 1) ∗ done c (st, .aR 2) ∗ done c (st, .aS 0) ∗ done c (st, .aS 1) ∗ done c (st, .bR 0))
    ∗ owns (c : Thread nD τ) (aMem st 3) fullShare (Av A st 3 c) ∗ anyOf c (preMem st) fullShare
    ∗ owns (c : Thread nD τ) (aMem st 0) (q0 c) (preV A c st) ∗ onP (row c < 3) (crd c (st, .bS 0) N)
    ∗ onP (row c = 3) (crd c (st, .bS 1) N) ∗ onP (row c < 3) (anyOf c (aMem st 1) fullShare))
def hold6 (c : Dev nD) (st : Fin 16) : sProp 𝕄 :=
  iprop(rest A c st ∗ posC c st 1 ∗ crd c (st, .cS 0) N ∗ anyOf (nextD c st) (oB (ob (nextD c st) st 1) st) fullShare ∗ anyOf (nextD c st) (oB (ob (nextD c st) st 2) st) fullShare)
def hold7 (c : Dev nD) (st : Fin 16) : sProp 𝕄 :=
  iprop(rest A c st ∗ posC c st 2 ∗ crd c (st, .cS 0) N ∗ crd c (st, .cS 1) N ∗ done c (st, .cR 0) ∗ anyOf (nextD c st) (oB (ob (nextD c st) st 2) st) fullShare)
def hold8 (c : Dev nD) (st : Fin 16) : sProp 𝕄 :=
  iprop(rest A c st ∗ done c (st, .cr) ∗ crd c (st, .cS 0) N ∗ crd c (st, .cS 1) N ∗ crd c (st, .cS 2) N ∗ done c (st, .cR 0) ∗ done c (st, .cR 1))
def hold9 (c : Dev nD) (st : Fin 16) : sProp 𝕄 :=
  iprop(rest A c st ∗ done c (st, .cr) ∗ crd c (st, .cS 0) N ∗ crd c (st, .cS 1) N ∗ crd c (st, .cS 2) N ∗ done c (st, .cR 0) ∗ done c (st, .cR 1) ∗ done c (st, .cR 2)
    ∗ owns (c : Thread nD τ) (oB (ob c st 2) st) fullShare (tot A (back c st 3) st))

/-- A stream's blocks of the total. -/
def outT (c : Dev nD) (st : Fin 16) : sProp 𝕄 :=
  iprop(owns (c : Thread nD τ) (oB (ob c st 3) st) fullShare (tot A (back c st 0) st) ∗ owns (c : Thread nD τ) (oB (ob c st 0) st) fullShare (tot A (back c st 1) st)
    ∗ owns (c : Thread nD τ) (oB (ob c st 1) st) fullShare (tot A (back c st 2) st) ∗ owns (c : Thread nD τ) (oB (ob c st 2) st) fullShare (tot A (back c st 3) st))

/-- A stream's end: its cells closed, its buffers back, the result's rows. -/
def fin (c : Dev nD) (st : Fin 16) : sProp 𝕄 :=
  iprop((bigSep Finset.univ fun k : Kind => done c (st, k))
    ∗ (anyOf c (aMem st 0) fullShare ∗ anyOf c (aMem st 1) fullShare ∗ anyOf c (aMem st 2) fullShare ∗ anyOf c (aMem st 3) fullShare)
    ∗ anyOf c (preMem st) fullShare ∗ anyOf c (sufMem st) fullShare ∗ outT A c st)

/-! ## Stages -/

/-- A family over the kinds, in order. -/
theorem Kind.univ_bigSep (Φ : Kind → sProp 𝕄) :
    bigSep Finset.univ Φ = iprop(Φ (.aS 0) ∗ Φ (.aS 1) ∗ Φ (.aS 2) ∗ Φ (.aR 0) ∗ Φ (.aR 1) ∗ Φ (.aR 2) ∗ Φ (.bS 0) ∗ Φ (.bS 1) ∗ Φ (.bR 0) ∗ Φ (.bR 1)
      ∗ Φ (.cS 0) ∗ Φ (.cS 1) ∗ Φ (.cS 2) ∗ Φ (.cR 0) ∗ Φ (.cR 1) ∗ Φ (.cR 2) ∗ Φ .cr) := by
  rw [bigSep_univ_eq_bigSepL _ Kind.univ_eq (by decide)]
  simp only [bigSepL_cons_cons, bigSepL_singleton]
  rfl

/-- The rows a slot holds are held once. -/
theorem slotS_excl (k : Key) : iprop(slotS (F := F) k ∗ slotS k) ⊢ (iprop(False) : sProp 𝕄) := by
  unfold slotS anyOf owns
  iintro ⟨⟨⟨%v, %f, %hf, H⟩, -⟩, ⟨%v', %f', %hf', H'⟩, -⟩
  iapply (slot_slot_false (ℓ := (oB (ob k.1 k.2 0) k.2).view.loc (k.1 : Thread nD τ)) (View.set_nonempty (v := (oB (ob k.1 k.2 0) k.2).view) (by decide)))
  unfold slot
  isplitl [H]
  · iexists f; iexact H
  iexists f'; iexact H'

/-! ## The duties and payloads of a stream's cells -/

theorem in0 {c : Dev nD} {k : SK} (h : duts c (some k) = {0}) : (0 : Fin 4) ∈ duts c (some k) := by rw [h]; exact Finset.mem_singleton_self 0
theorem duts_bS0 {c : Dev nD} (st : Fin 16) (h : row c < 3) : duts c (some (st, .bS 0)) = {0} := if_pos h
theorem duts_bS1 {c : Dev nD} (st : Fin 16) (h : 0 < row c) : duts c (some (st, .bS 1)) = {0} := if_pos h
theorem duts_bR0 {c : Dev nD} (st : Fin 16) (h : 0 < row c) : duts c (some (st, .bR 0)) = {0} := if_pos h
theorem duts_bR1 {c : Dev nD} (st : Fin 16) (h : row c < 3) : duts c (some (st, .bR 1)) = {0} := if_pos h

theorem pay_aS (c : Dev nD) (st : Fin 16) (s : Fin 3) : pay A c (some (st, .aS s)) 0 = anyOf c (aMem st s.castSucc) fullShare := rfl
theorem pay_aR (c : Dev nD) (st : Fin 16) (s : Fin 3) :
    pay A c (some (st, .aR s)) 0 = owns (c : Thread nD τ) (aMem st s.succ) fullShare (Av A st s.val (prevD c st)) := rfl
theorem pay_bS0 (c : Dev nD) (st : Fin 16) : pay A c (some (st, .bS 0)) 0 = owns (c : Thread nD τ) (aMem st 0) fullShare.right (preV A c st) := rfl
theorem pay_bS1 (c : Dev nD) (st : Fin 16) : pay A c (some (st, .bS 1)) 0 = anyOf c (aMem st 1) fullShare := rfl
theorem pay_bR0 (c : Dev nD) (st : Fin 16) : pay A c (some (st, .bR 0)) 0 = owns (c : Thread nD τ) (preMem st) fullShare (preV A (dnD c) st) := rfl
theorem pay_bR1 (c : Dev nD) (st : Fin 16) : pay A c (some (st, .bR 1)) 0 = owns (c : Thread nD τ) (sufMem st) fullShare (sufV A (upD c) st) := rfl
theorem pay_cS (c : Dev nD) (st : Fin 16) (a : Fin 3) :
    pay A c (some (st, .cS a)) 0 = owns (c : Thread nD τ) (oB (ob c st (a.castSucc + 3)) st) fullShare (tot A (back c st a.val) st) := rfl
theorem pay_cR (c : Dev nD) (st : Fin 16) (a : Fin 3) :
    pay A c (some (st, .cR a)) 0 = owns (c : Thread nD τ) (oB (ob c st a.castSucc) st) fullShare (tot A (back c st (a.val + 1)) st) := rfl

theorem dIf_pos {P : Prop} [Decidable P] {O : CellTallies nD τ sig Unit} (h : P) : dIf P O = O := if_pos h
theorem dIf_neg {P : Prop} [Decidable P] {O : CellTallies nD τ sig Unit} (h : ¬P) : dIf P O = 0 := if_neg h
theorem owes_eq (c : Dev nD) {O O' : CellTallies nD τ sig Unit} (h : O = O') : (owesE c O : sProp 𝕄) ⊢ owesE c O' := Entails.of_eq (by rw [h])

variable {A} {KC} {KS}

/-! ## The ring -/

/-- A stage's first transfer, of the rows `X` read from the result's block. -/
theorem run0 (c : Dev nD) (st : Fin 16) (X : V32 F) (hX : unO X = Av A st 0 c) (B : sProp 𝕄)
    (R : CellTallies nD τ sig Unit) (k : PT F) (Q : PUnit → sProp 𝕄)
    (hB : ∀ k' : V32 F → PT F, B ⊢ iprop((B -∗ WP c (k' X) Q) -∗ WP c (ldO (offOwn0 c st) (offOwn0_inb c st) k') Q)) :
    iprop(recs A KC KS ∗ B ∗ fresh0 c st ∗ owesE c (R + debt c st 0))
      ⊢ iprop((B ∗ hold1 c st ∗ owesE c R -∗ WP c k Q) -∗ WP c (stage0 c st k) Q) := by
  unfold stage0 fresh0 hold1
  iintro ⟨#Hr, HB, ⟨Ha0, Ha1, Ht1, Ht2⟩, Ho⟩ Hk
  iapply (hB _) $$ HB
  iintro HB
  icases (Entails.of_eq (show anyOf c (aMem st 0) fullShare = iprop(∃ v : V32 F, owns (c : Thread nD τ) (aMem st 0) fullShare v) from rfl)) $$ Ha0 with ⟨%v0, Ha0⟩
  iapply (wp_ldA c st 0 fullShare v0 _ Q) $$ Ha0
  iintro Ha0
  iapply (wp_stA c st 0 v0 (unO X) _ Q) $$ Ha0
  iintro Ha0
  iapply (wp_sendTo A KC KS c (nextD c st) (aMem st 0) (aMem st 1) fullShare (unO X) (aSend st 0) (aRecv st 0) (st, .aS 0) (st, .aR 0) rfl rfl
    (in0 rfl) (in0 rfl) rfl rfl rfl (any_intro c (aMem st 0) fullShare _)
    (by rw [hX, pay_aR, prev_next]; exact BI.Entails.refl _) R k Q) $$ [Ha0 Ha1 Ho Ht1 Ht2]
  · iframe Hr Ha0 Ha1 Ho Ht1 Ht2
  iintro ⟨Hc, Ho⟩
  iapply Hk
  iframe HB Hc Ho

/-- A wait on a ring cell, an addition of the device's own rows, and the transfer on. -/
theorem run12 (c : Dev nD) (st : Fin 16) (t : Fin 2) (hI : Fin.ofNat 4 (t.val + 1) = t.succ.castSucc) {n : ℕ}
    (R : CellTallies nD τ sig Unit) (hn : lvk c (some (st, .aR t.castSucc)) ≤ n) (hO : Above n (R + dbt (nextD c st) st (.aR t.succ) N))
    (hs : 1 ≤ (t.succ : Fin 3).val) (k : PT F) (Q : PUnit → sProp 𝕄) :
    iprop(recs A KC KS ∗ blkU A c st t.succ.castSucc
        ∗ (anyOf (nextD c st) (aMem st t.succ.succ) fullShare ∗ tok c (st, .aS t.succ) 0 ∗ tok (nextD c st) (st, .aR t.succ) 0 ∗ pos c (st, .aR t.castSucc) ∗ crd c (st, .aR t.castSucc) N)
        ∗ owesE c (R + dbt (nextD c st) st (.aR t.succ) N))
      ⊢ iprop((blkU A c st t.succ.castSucc ∗ crd c (st, .aS t.succ) N ∗ done c (st, .aR t.castSucc) ∗ owesE c R -∗ WP c k Q) -∗ WP c (stage12 c st t.succ hs k) Q) := by
  unfold stage12
  iintro ⟨#Hr, Hb, ⟨Hn, Ht1, Ht2, Hp, Hc⟩, Ho⟩ Hk
  iapply (wp_waitOn A KC KS c (aRecv st t.castSucc) (aMem st t.castSucc.succ) (st, .aR t.castSucc) rfl rfl rfl rfl _ hO hn _ Q) $$ [Hp Hc Ho]
  · iframe Hr Ho Hc Hp
  iintro ⟨Ho, Hd, Ha⟩
  ihave Ha := (Entails.of_eq (pay_aR A c st t.castSucc)) $$ Ha
  iapply (wp_ldA c st t.castSucc.succ fullShare _ _ Q) $$ Ha
  iintro Ha
  iapply (wp_ldO c (offBack c st t.succ.val) _ (ob c st t.succ.castSucc) st (offBack_ob c st t.succ hs) fullShare _ _ Q) $$ Hb
  iintro Hb
  iapply (wp_ldA c st t.castSucc.succ fullShare _ _ Q) $$ Ha
  iintro Ha
  iapply (wp_stA c st t.castSucc.succ _ _ _ Q) $$ Ha
  iintro Ha
  iapply (wp_sendTo A KC KS c (nextD c st) (aMem st t.succ.castSucc) (aMem st t.succ.succ) fullShare
    (addf (unA (mkA (Av A st t.castSucc.val (prevD c st)))) (unO (U A c st (ob c st t.succ.castSucc)))) (aSend st t.succ) (aRecv st t.succ) (st, .aS t.succ) (st, .aR t.succ) rfl rfl
    (in0 rfl) (in0 rfl) rfl rfl rfl (any_intro c (aMem st t.succ.castSucc) fullShare _)
    (by rw [pay_aR, prev_next, unA_mkA, ← hI]; exact BI.Entails.refl _) R k Q) $$ [Ha Hn Ho Ht1 Ht2]
  · iframe Hr Ha Hn Ho Ht1 Ht2
  iintro ⟨Hc, Ho⟩
  iapply Hk
  iframe Hb Hc Hd Ho

theorem run1 (c : Dev nD) (st : Fin 16) (R : CellTallies nD τ sig Unit) (hR : Above (8 * tm st 1 + 7) R) (k : PT F) (Q : PUnit → sProp 𝕄) :
    iprop(recs A KC KS ∗ (outU A c st ∗ hold1 c st) ∗ fresh1 c st ∗ owesE c (R + debt c st 1))
      ⊢ iprop((hold2 A c st ∗ owesE c R -∗ WP c k Q) -∗ WP c (stage c st 1 k) Q) := by
  show _ ⊢ iprop(_ -∗ WP c (stage12 c st 1 (by decide) k) Q)
  unfold fresh1 hold1 hold2 outU
  iintro ⟨#Hr, ⟨⟨Hb0, Hb1, Hb2, Hb3⟩, Hc0⟩, Hf, Ho⟩ Hk
  iapply (run12 c st 0 (by decide) (n := 8 * tm st 0 + 4) R (le_refl _)
    (above_add (above_mono (by unfold tm; omega) hR) (above_cell _ _ _ (by show _ < 8 * tm st 1 + 4; unfold tm; omega))) (by decide) k Q) $$ [Hb1 Hf Ho]
  · isplitr; · iexact Hr
    isplitl [Hb1]; · iexact Hb1
    isplitl [Hf]; · iexact Hf
    iexact Ho
  iintro ⟨Hb1, Hc1, Hd, Ho⟩
  iapply Hk
  iframe Hb0 Hb1 Hb2 Hb3 Hc0 Hc1 Hd Ho

theorem run2 (c : Dev nD) (st : Fin 16) (R : CellTallies nD τ sig Unit) (hR : Above (8 * tm st 2 + 7) R) (k : PT F) (Q : PUnit → sProp 𝕄) :
    iprop(recs A KC KS ∗ hold2 A c st ∗ fresh2 c st ∗ owesE c (R + debt c st 2))
      ⊢ iprop((hold3 A c st ∗ owesE c R -∗ WP c k Q) -∗ WP c (stage c st 2 k) Q) := by
  show _ ⊢ iprop(_ -∗ WP c (stage12 c st 2 (by decide) (signal (prevD c st) (credS st) 3#32 k)) Q)
  unfold fresh2 hold2 hold3 outU
  iintro ⟨#Hr, ⟨⟨Hb0, Hb1, Hb2, Hb3⟩, Hc0, Hc1, Hd0⟩, ⟨Hn, Ht1, Ht2, Hp, Hc, Ht, Hrd⟩, Ho⟩ Hk
  ihave Ho := (owes_eq c (show R + debt c st 2 = (R + dbt (prevD c st) st .cr 3) + dbt (nextD c st) st (.aR 2) N from (add_assoc _ _ _).symm)) $$ Ho
  iapply (run12 c st 1 (by decide) (n := 8 * tm st 1 + 4) (R + dbt (prevD c st) st .cr 3) (le_refl _)
    (above_add (above_add (above_mono (by unfold tm; omega) hR) (above_cell _ _ _ (by show _ < 8 * tm st 2 + 4; unfold tm; omega)))
      (above_cell _ _ _ (by show _ < 8 * tm st 2 + 4; unfold tm; omega))) (by decide) _ Q) $$ [Hb2 Hn Ht1 Ht2 Hp Hc Ho]
  · isplitr; · iexact Hr
    isplitl [Hb2]; · iexact Hb2
    isplitl [Hn Ht1 Ht2 Hp Hc]
    · isplitl [Hn]; · iexact Hn
      isplitl [Ht1]; · iexact Ht1
      isplitl [Ht2]; · iexact Ht2
      isplitl [Hp]; · iexact Hp
      iexact Hc
    iexact Ho
  iintro ⟨Hb2, Hc2, Hd1, Ho⟩
  ihave #HS := (recs_slot A KC KS (c, st)) $$ Hr
  imod (slot_release ES (Set.mem_univ (KS (c, st))) (slotS_excl (c, st)) 0) $$ [Hb0 Hb1 Hb2 Hrd] with ⟨-, Hrel⟩
  · isplitr; · iexact HS
    isplitl [Hrd]; · iexact Hrd
    unfold slotS
    isplitl [Hb0]; · iapply (any_intro c _ _ _) $$ Hb0
    isplitl [Hb1]; · iapply (any_intro c _ _ _) $$ Hb1
    iapply (any_intro c _ _ _) $$ Hb2
  iapply (wp_signal3 A KC KS c (prevD c st) st R k Q) $$ [Ho Hrel Ht]
  · rw [next_prev]
    iframe Hr Ho Hrel Ht
  iintro Ho
  iapply Hk
  iframe Hb3 Hc0 Hc1 Hc2 Hd0 Hd1 Ho

/-! ## Between planes -/

/-- The ring's last arrival, and the two ring slots that come back. -/
theorem run3a (c : Dev nD) (st : Fin 16) (O : CellTallies nD τ sig Unit) (hO : Above (8 * tm st 3 - 1) O) (k : PT F) (Q : PUnit → sProp 𝕄) :
    iprop(recs A KC KS ∗ blkU A c st 3 ∗ (crd c (st, .aS 0) N ∗ crd c (st, .aS 1) N)
        ∗ (pos c (st, .aR 2) ∗ crd c (st, .aR 2) N ∗ pos c (st, .aS 0) ∗ pos c (st, .aS 1)) ∗ owesE c O)
      ⊢ iprop((blkU A c st 3 ∗ (done c (st, .aR 2) ∗ done c (st, .aS 0) ∗ done c (st, .aS 1)) ∗ owns (c : Thread nD τ) (aMem st 3) fullShare (Av A st 3 c)
          ∗ anyOf c (aMem st 0) fullShare ∗ anyOf c (aMem st 1) fullShare ∗ owesE c O -∗ WP c k Q)
        -∗ WP c (waitOn (aRecv st 2) (aMem st 3) <| ldA st 3 fun a => ldO (offAhead c st) (offAhead_inb c st) fun v => ldA st 3 fun _ =>
            stA st 3 (mkA (addf (unA a) (unO v))) <| waitOn (aSend st 0) (aMem st 0) <| waitOn (aSend st 1) (aMem st 1) k) Q) := by
  iintro ⟨#Hr, Hb, ⟨Hc0, Hc1⟩, ⟨Hp, Hc, Hp0, Hp1⟩, Ho⟩ Hk
  iapply (wp_waitOn A KC KS c (aRecv st 2) (aMem st 3) (st, .aR 2) rfl rfl rfl rfl _ hO
    (by show 8 * tm st 2 + 4 ≤ _; unfold tm; omega) _ Q) $$ [Hp Hc Ho]
  · iframe Hr Ho Hc Hp
  iintro ⟨Ho, Hd, Ha⟩
  ihave Ha := (Entails.of_eq (show pay A c (some (st, .aR 2)) 0 = owns (c : Thread nD τ) (aMem st 3) fullShare (Av A st 2 (prevD c st)) from rfl)) $$ Ha
  iapply (wp_ldA c st 3 fullShare _ _ Q) $$ Ha
  iintro Ha
  iapply (wp_ldO c (offAhead c st) _ (ob c st 3) st (offAhead_ob c st) fullShare _ _ Q) $$ Hb
  iintro Hb
  iapply (wp_ldA c st 3 fullShare _ _ Q) $$ Ha
  iintro Ha
  iapply (wp_stA c st 3 _ _ _ Q) $$ Ha
  iintro Ha
  ihave Ha := (Entails.of_eq (show owns (c : Thread nD τ) (aMem st 3) fullShare (addf (unA (mkA (Av A st 2 (prevD c st)))) (unO (U A c st (ob c st 3))))
    = owns (c : Thread nD τ) (aMem st 3) fullShare (Av A st 3 c) by rw [unA_mkA]; rfl)) $$ Ha
  iapply (wp_waitOn A KC KS c (aSend st 0) (aMem st 0) (st, .aS 0) rfl rfl rfl rfl _ hO (Nat.zero_le _) _ Q) $$ [Hp0 Hc0 Ho]
  · iframe Hr Ho Hc0 Hp0
  iintro ⟨Ho, Hd0, Ha0⟩
  ihave Ha0 := (Entails.of_eq (pay_aS A c st 0)) $$ Ha0
  iapply (wp_waitOn A KC KS c (aSend st 1) (aMem st 1) (st, .aS 1) rfl rfl rfl rfl _ hO (Nat.zero_le _) _ Q) $$ [Hp1 Hc1 Ho]
  · iframe Hr Ho Hc1 Hp1
  iintro ⟨Ho, Hd1, Ha1⟩
  ihave Ha1 := (Entails.of_eq (pay_aS A c st 1)) $$ Ha1
  iapply Hk
  isplitl [Hb]; · iexact Hb
  isplitl [Hd Hd0 Hd1]; · iframe Hd Hd0 Hd1
  isplitl [Ha]; · iexact Ha
  isplitl [Ha0]; · iexact Ha0
  isplitl [Ha1]; · iexact Ha1
  iexact Ho

/-- A send of the prefix to the plane above, keeping half of it. -/
theorem sendPre (c : Dev nD) (st : Fin 16) (h : row c < 3) (R : CellTallies nD τ sig Unit) (k : PT F) (Q : PUnit → sProp 𝕄) :
    iprop(recs A KC KS ∗ owns (c : Thread nD τ) (aMem st 0) fullShare (preV A c st) ∗ (anyOf (upD c) (preMem st) fullShare ∗ tok c (st, .bS 0) 0 ∗ tok (upD c) (st, .bR 0) 0)
        ∗ owesE c (R + dbt (upD c) st (.bR 0) N))
      ⊢ iprop((owns (c : Thread nD τ) (aMem st 0) (q0 c) (preV A c st) ∗ crd c (st, .bS 0) N ∗ owesE c R -∗ WP c k Q)
        -∗ WP c (sendTo (aMem st 0) (preMem st) (upD c) (bSend st 0) (bRecv st 0) k) Q) := by
  iintro ⟨#Hr, Ha, ⟨Hn, Ht1, Ht2⟩, Ho⟩ Hk
  icases (owns_halves (c : Thread nD τ) (aMem st 0) fullShare (preV A c st)).1 $$ Ha with ⟨Hl, Hrt⟩
  iapply (wp_sendTo A KC KS c (upD c) (aMem st 0) (preMem st) fullShare.right (preV A c st) (bSend st 0) (bRecv st 0) (st, .bS 0) (st, .bR 0) rfl rfl
    (in0 (duts_bS0 st h)) (in0 (duts_bR0 st (by have := row_up c h; omega))) rfl rfl rfl (Entails.of_eq (pay_bS0 A c st).symm)
    (by rw [pay_bR0, dn_up]) R k Q) $$ [Hrt Hn Ho Ht1 Ht2]
  · iframe Hr Hrt Hn Ho Ht1 Ht2
  iintro ⟨Hc, Ho⟩
  iapply Hk
  isplitl [Hl]
  · ihave Hl := (Entails.of_eq (show owns (c : Thread nD τ) (aMem st 0) fullShare.left (preV A c st) = owns (c : Thread nD τ) (aMem st 0) (q0 c) (preV A c st) by
      unfold q0; rw [if_pos h])) $$ Hl
    iexact Hl
  iframe Hc Ho

/-- A send of the suffix to the plane below. -/
theorem sendSuf (c : Dev nD) (st : Fin 16) (h : 0 < row c) (R : CellTallies nD τ sig Unit) (k : PT F) (Q : PUnit → sProp 𝕄) :
    iprop(recs A KC KS ∗ owns (c : Thread nD τ) (aMem st 1) fullShare (sufV A c st) ∗ (anyOf (dnD c) (sufMem st) fullShare ∗ tok c (st, .bS 1) 0 ∗ tok (dnD c) (st, .bR 1) 0)
        ∗ owesE c (R + dbt (dnD c) st (.bR 1) N))
      ⊢ iprop((crd c (st, .bS 1) N ∗ owesE c R -∗ WP c k Q)
        -∗ WP c (sendTo (aMem st 1) (sufMem st) (dnD c) (bSend st 1) (bRecv st 1) k) Q) := by
  iintro ⟨#Hr, Ha, ⟨Hn, Ht1, Ht2⟩, Ho⟩ Hk
  iapply (wp_sendTo A KC KS c (dnD c) (aMem st 1) (sufMem st) fullShare (sufV A c st) (bSend st 1) (bRecv st 1) (st, .bS 1) (st, .bR 1) rfl rfl
    (in0 (duts_bS1 st h)) (in0 (duts_bR1 st (by have := row_dn c h; have := row_lt c; omega))) rfl rfl rfl (any_intro c (aMem st 1) fullShare _)
    (by rw [pay_bR1, up_dn]) R k Q) $$ [Ha Hn Ho Ht1 Ht2]
  · iframe Hr Ha Hn Ho Ht1 Ht2
  iintro ⟨Hc, Ho⟩
  iapply Hk
  iframe Hc Ho

/-- The lowest plane starts the prefixes. -/
theorem run3b (c : Dev nD) (st : Fin 16) (R : CellTallies nD τ sig Unit) (k : PT F) (Q : PUnit → sProp 𝕄) :
    iprop(recs A KC KS ∗ owns (c : Thread nD τ) (aMem st 3) fullShare (Av A st 3 c) ∗ anyOf c (aMem st 0) fullShare
        ∗ onP (row c = 0) iprop(anyOf (upD c) (preMem st) fullShare ∗ tok c (st, .bS 0) 0 ∗ tok (upD c) (st, .bR 0) 0)
        ∗ owesE c (R + dIf (row c = 0) (dbt (upD c) st (.bR 0) N)))
      ⊢ iprop((owns (c : Thread nD τ) (aMem st 3) fullShare (Av A st 3 c)
          ∗ onP (row c = 0) iprop(owns (c : Thread nD τ) (aMem st 0) (q0 c) (preV A c st) ∗ crd c (st, .bS 0) N) ∗ onP (0 < row c) (anyOf c (aMem st 0) fullShare)
          ∗ owesE c R -∗ WP c k Q)
        -∗ WP c (whenP (cFirst c) (fun k => ldA st 3 fun a => ldA st 0 fun _ => stA st 0 (mkA (unA a)) <|
            sendTo (aMem st 0) (preMem st) (upD c) (bSend st 0) (bRecv st 0) k) k) Q) := by
  by_cases h : row c = 0
  · rw [whenP_pos ((cFirst_iff c).2 h), onP_pos h, onP_pos h, onP_neg (show ¬0 < row c by omega), dIf_pos h]
    iintro ⟨#Hr, Ha, Ha0, Hf, Ho⟩ Hk
    iapply (wp_ldA c st 3 fullShare _ _ Q) $$ Ha
    iintro Ha
    icases (Entails.of_eq (show anyOf c (aMem st 0) fullShare = iprop(∃ v : V32 F, owns (c : Thread nD τ) (aMem st 0) fullShare v) from rfl)) $$ Ha0 with ⟨%v0, Ha0⟩
    iapply (wp_ldA c st 0 fullShare v0 _ Q) $$ Ha0
    iintro Ha0
    iapply (wp_stA c st 0 v0 _ _ Q) $$ Ha0
    iintro Ha0
    ihave Ha0 := (Entails.of_eq (show owns (c : Thread nD τ) (aMem st 0) fullShare (unA (mkA (Av A st 3 c)))
      = owns (c : Thread nD τ) (aMem st 0) fullShare (preV A c st) by rw [unA_mkA, preV_first A c st h])) $$ Ha0
    iapply (sendPre c st (by omega) R k Q) $$ [Ha0 Hf Ho]
    · iframe Hr Ha0 Hf Ho
    iintro ⟨Ha0, Hc, Ho⟩
    iapply Hk
    iframe Ha Ha0 Hc Ho
  · rw [whenP_neg (fun hh => h ((cFirst_iff c).1 hh)), onP_neg h, onP_neg h, onP_pos (show 0 < row c by omega), dIf_neg h, add_zero]
    iintro ⟨-, Ha, Ha0, -, Ho⟩ Hk
    iapply Hk
    iframe Ha Ha0 Ho

/-- The highest plane starts the suffixes. -/
theorem run3c (c : Dev nD) (st : Fin 16) (R : CellTallies nD τ sig Unit) (k : PT F) (Q : PUnit → sProp 𝕄) :
    iprop(recs A KC KS ∗ owns (c : Thread nD τ) (aMem st 3) fullShare (Av A st 3 c) ∗ anyOf c (aMem st 1) fullShare
        ∗ onP (row c = 3) iprop(anyOf (dnD c) (sufMem st) fullShare ∗ tok c (st, .bS 1) 0 ∗ tok (dnD c) (st, .bR 1) 0)
        ∗ owesE c (R + dIf (row c = 3) (dbt (dnD c) st (.bR 1) N)))
      ⊢ iprop((owns (c : Thread nD τ) (aMem st 3) fullShare (Av A st 3 c)
          ∗ onP (row c = 3) (crd c (st, .bS 1) N) ∗ onP (row c < 3) (anyOf c (aMem st 1) fullShare)
          ∗ owesE c R -∗ WP c k Q)
        -∗ WP c (whenP (cLast c) (fun k => ldA st 3 fun a => ldA st 1 fun _ => stA st 1 (mkA (unA a)) <|
            sendTo (aMem st 1) (sufMem st) (dnD c) (bSend st 1) (bRecv st 1) k) k) Q) := by
  have hlt := row_lt c
  by_cases h : row c = 3
  · rw [whenP_pos ((cLast_iff c).2 h), onP_pos h, onP_pos h, onP_neg (show ¬row c < 3 by omega), dIf_pos h]
    iintro ⟨#Hr, Ha, Ha1, Hf, Ho⟩ Hk
    iapply (wp_ldA c st 3 fullShare _ _ Q) $$ Ha
    iintro Ha
    icases (Entails.of_eq (show anyOf c (aMem st 1) fullShare = iprop(∃ v : V32 F, owns (c : Thread nD τ) (aMem st 1) fullShare v) from rfl)) $$ Ha1 with ⟨%v1, Ha1⟩
    iapply (wp_ldA c st 1 fullShare v1 _ Q) $$ Ha1
    iintro Ha1
    iapply (wp_stA c st 1 v1 _ _ Q) $$ Ha1
    iintro Ha1
    ihave Ha1 := (Entails.of_eq (show owns (c : Thread nD τ) (aMem st 1) fullShare (unA (mkA (Av A st 3 c)))
      = owns (c : Thread nD τ) (aMem st 1) fullShare (sufV A c st) by rw [unA_mkA, sufV_last A c st h])) $$ Ha1
    iapply (sendSuf c st (by omega) R k Q) $$ [Ha1 Hf Ho]
    · iframe Hr Ha1 Hf Ho
    iintro ⟨Hc, Ho⟩
    iapply Hk
    iframe Ha Hc Ho
  · rw [whenP_neg (fun hh => h ((cLast_iff c).1 hh)), onP_neg h, onP_neg h, onP_pos (show row c < 3 by omega), dIf_neg h, add_zero]
    iintro ⟨-, Ha, Ha1, -, Ho⟩ Hk
    iapply Hk
    iframe Ha Ha1 Ho

theorem run3 (c : Dev nD) (st : Fin 16) (R : CellTallies nD τ sig Unit) (hR : Above (8 * tm st 3 + 7) R) (k : PT F) (Q : PUnit → sProp 𝕄) :
    iprop(recs A KC KS ∗ hold3 A c st ∗ fresh3 c st ∗ owesE c (R + debt c st 3))
      ⊢ iprop((hold4 A c st ∗ owesE c R -∗ WP c k Q) -∗ WP c (stage c st 3 k) Q) := by
  show _ ⊢ iprop(_ -∗ WP c (stage3 c st k) Q)
  unfold fresh3 hold3 hold4 stage3
  iintro ⟨#Hr, ⟨Hb, Hc0, Hc1, Hc2, Hd0, Hd1⟩, ⟨Hp, Hc, Hp0, Hp1, Hf0, Hf3⟩, Ho⟩ Hk
  iapply (run3a c st (R + debt c st 3) (above_add (above_mono (by omega) hR) (debt_above c st 3)) _ Q) $$ [Hb Hc0 Hc1 Hp Hc Hp0 Hp1 Ho]
  · iframe Hr Hb Hc0 Hc1 Hp Hc Hp0 Hp1 Ho
  iintro ⟨Hb, ⟨Hd2, He0, He1⟩, Ha, Ha0, Ha1, Ho⟩
  ihave Ho := (owes_eq c (show R + debt c st 3 = (R + dIf (row c = 3) (dbt (dnD c) st (.bR 1) N)) + dIf (row c = 0) (dbt (upD c) st (.bR 0) N) from (add_assoc _ _ _).symm)) $$ Ho
  iapply (run3b c st _ _ Q) $$ [Ha Ha0 Hf0 Ho]
  · iframe Hr Ha Ha0 Hf0 Ho
  iintro ⟨Ha, Hx, Hy, Ho⟩
  iapply (run3c c st _ _ Q) $$ [Ha Ha1 Hf3 Ho]
  · iframe Hr Ha Ha1 Hf3 Ho
  iintro ⟨Ha, Hz, Hw, Ho⟩
  iapply Hk
  iframe Hb Hc2 Hd0 Hd1 Hd2 He0 He1 Ha Hx Hy Hz Hw Ho

/-- The prefix arrives, where there is a plane below. -/
theorem run4a (c : Dev nD) (st : Fin 16) (O : CellTallies nD τ sig Unit) (hO : Above (8 * tm st 4 + row c) O) (k : PT F) (Q : PUnit → sProp 𝕄) :
    iprop(recs A KC KS ∗ (pos c (st, .bR 0) ∗ onP (row c = 0) (anyOf c (preMem st) fullShare) ∗ onP (0 < row c) (crd c (st, .bR 0) N))
        ∗ onP (0 < row c) (anyOf c (aMem st 0) fullShare) ∗ owns (c : Thread nD τ) (aMem st 3) fullShare (Av A st 3 c) ∗ owesE c O)
      ⊢ iprop((done c (st, .bR 0) ∗ anyOf c (preMem st) fullShare ∗ onP (0 < row c) (owns (c : Thread nD τ) (aMem st 0) fullShare (preV A c st))
          ∗ owns (c : Thread nD τ) (aMem st 3) fullShare (Av A st 3 c) ∗ owesE c O -∗ WP c k Q)
        -∗ WP c (whenP (cPos c) (fun k => waitOn (bRecv st 0) (preMem st) <| ldB bpre st fun b => ldA st 3 fun a => ldA st 0 fun _ =>
            stA st 0 (mkA (addf (unB b) (unA a))) k) k) Q) := by
  by_cases h : 0 < row c
  · rw [whenP_pos ((cPos_iff c).2 h), onP_pos h, onP_pos h, onP_pos h, onP_neg (show ¬row c = 0 by omega)]
    iintro ⟨#Hr, ⟨Hp, -, Hc⟩, Ha0, Ha, Ho⟩ Hk
    iapply (wp_waitOn A KC KS c (bRecv st 0) (preMem st) (st, .bR 0) rfl (duts_bR0 st h) rfl rfl _ hO (le_refl _) _ Q) $$ [Hp Hc Ho]
    · iframe Hr Ho Hc Hp
    iintro ⟨Ho, Hd, Hb⟩
    ihave Hb := (Entails.of_eq (pay_bR0 A c st)) $$ Hb
    iapply (wp_ldPre c st fullShare _ _ Q) $$ Hb
    iintro Hb
    iapply (wp_ldA c st 3 fullShare _ _ Q) $$ Ha
    iintro Ha
    icases (Entails.of_eq (show anyOf c (aMem st 0) fullShare = iprop(∃ v : V32 F, owns (c : Thread nD τ) (aMem st 0) fullShare v) from rfl)) $$ Ha0 with ⟨%v0, Ha0⟩
    iapply (wp_ldA c st 0 fullShare v0 _ Q) $$ Ha0
    iintro Ha0
    iapply (wp_stA c st 0 v0 _ _ Q) $$ Ha0
    iintro Ha0
    iapply Hk
    isplitl [Hd]; · iexact Hd
    isplitl [Hb]; · iapply (any_intro c _ _ _) $$ Hb
    isplitl [Ha0]
    · ihave Ha0 := (Entails.of_eq (show owns (c : Thread nD τ) (aMem st 0) fullShare (addf (unB (mkB (preV A (dnD c) st))) (unA (mkA (Av A st 3 c))))
        = owns (c : Thread nD τ) (aMem st 0) fullShare (preV A c st) by rw [unA_mkA, unB_mkB, preV_succ A c st h])) $$ Ha0
      iexact Ha0
    isplitl [Ha]; · iexact Ha
    iexact Ho
  · rw [whenP_neg (fun hh => h ((cPos_iff c).1 hh)), onP_neg h, onP_neg h, onP_neg h, onP_pos (show row c = 0 by omega)]
    iintro ⟨#Hr, ⟨Hp, Hb, -⟩, -, Ha, Ho⟩ Hk
    imod (close_idle A KC KS c (st, .bR 0) (if_neg h)) $$ [Hp] with Hd
    · isplitr; · iexact Hr
      iexact Hp
    iapply Hk
    iframe Hd Hb Ha Ho

/-- The prefix goes on, in the middle planes. -/
theorem run4b (c : Dev nD) (st : Fin 16) (R : CellTallies nD τ sig Unit) (k : PT F) (Q : PUnit → sProp 𝕄) :
    iprop(recs A KC KS ∗ onP (row c = 0) iprop(owns (c : Thread nD τ) (aMem st 0) (q0 c) (preV A c st) ∗ crd c (st, .bS 0) N)
        ∗ onP (0 < row c) (owns (c : Thread nD τ) (aMem st 0) fullShare (preV A c st))
        ∗ onP (mid c) iprop(anyOf (upD c) (preMem st) fullShare ∗ tok c (st, .bS 0) 0 ∗ tok (upD c) (st, .bR 0) 0)
        ∗ owesE c (R + dIf (mid c) (dbt (upD c) st (.bR 0) N)))
      ⊢ iprop((owns (c : Thread nD τ) (aMem st 0) (q0 c) (preV A c st) ∗ onP (row c < 3) (crd c (st, .bS 0) N) ∗ owesE c R -∗ WP c k Q)
        -∗ WP c (whenP (cMid c) (fun k => sendTo (aMem st 0) (preMem st) (upD c) (bSend st 0) (bRecv st 0) k) k) Q) := by
  have hlt := row_lt c
  rcases (by omega : row c = 0 ∨ mid c ∨ row c = 3) with h | h | h
  · have hm : ¬mid c := by unfold mid; omega
    rw [whenP_neg (fun hh => hm ((cMid_iff c).1 hh)), onP_pos h, onP_neg (show ¬0 < row c by omega), onP_neg hm, onP_pos (show row c < 3 by omega), dIf_neg hm, add_zero]
    iintro ⟨-, ⟨Ha0, Hc⟩, -, -, Ho⟩ Hk
    iapply Hk
    iframe Ha0 Hc Ho
  · rw [whenP_pos ((cMid_iff c).2 h), onP_neg (show ¬row c = 0 by have := h.1; omega), onP_pos h.1, onP_pos h, onP_pos h.2, dIf_pos h]
    iintro ⟨#Hr, -, Ha0, Hf, Ho⟩ Hk
    iapply (sendPre c st h.2 R k Q) $$ [Ha0 Hf Ho]
    · iframe Hr Ha0 Hf Ho
    iexact Hk
  · have hm : ¬mid c := by unfold mid; omega
    rw [whenP_neg (fun hh => hm ((cMid_iff c).1 hh)), onP_neg (show ¬row c = 0 by omega), onP_pos (show 0 < row c by omega), onP_neg hm, onP_neg (show ¬row c < 3 by omega),
      dIf_neg hm, add_zero]
    iintro ⟨-, -, Ha0, -, Ho⟩ Hk
    iapply Hk
    isplitl [Ha0]
    · ihave Ha0 := (Entails.of_eq (show owns (c : Thread nD τ) (aMem st 0) fullShare (preV A c st) = owns (c : Thread nD τ) (aMem st 0) (q0 c) (preV A c st) by
        unfold q0; rw [if_neg (show ¬row c < 3 by omega)])) $$ Ha0
      iexact Ha0
    isplitr; · iempintro
    iexact Ho

theorem run4 (c : Dev nD) (st : Fin 16) (R : CellTallies nD τ sig Unit) (hR : Above (8 * tm st 4 + 7) R) (k : PT F) (Q : PUnit → sProp 𝕄) :
    iprop(recs A KC KS ∗ hold4 A c st ∗ fresh4 c st ∗ owesE c (R + debt c st 4))
      ⊢ iprop((hold5 A c st ∗ owesE c R -∗ WP c k Q) -∗ WP c (stage c st 4 k) Q) := by
  show _ ⊢ iprop(_ -∗ WP c (stage4 c st k) Q)
  have hlt := row_lt c
  unfold fresh4 hold4 hold5 stage4
  iintro ⟨#Hr, ⟨Hb, Hc2, ⟨Hd0, Hd1, Hd2, He0, He1⟩, Ha, Hx, Hy, Hz, Hw⟩, ⟨Hp, Hpre, Hc, Hm⟩, Ho⟩ Hk
  iapply (run4a c st (R + debt c st 4) (above_add (above_mono (by omega) hR)
    (above_dIf fun h => above_cell _ _ _ (by show _ < 8 * tm st 4 + row (upD c); rw [row_up c h.2]; omega))) _ Q) $$ [Hp Hpre Hc Hy Ha Ho]
  · iframe Hr Hp Hpre Hc Hy Ha Ho
  iintro ⟨Hd, Hpre, Hy, Ha, Ho⟩
  iapply (run4b c st R k Q) $$ [Hx Hy Hm Ho]
  · isplitr; · iexact Hr
    isplitl [Hx]; · iexact Hx
    isplitl [Hy]; · iexact Hy
    isplitl [Hm]; · iexact Hm
    iexact Ho
  iintro ⟨Ha0, Hq, Ho⟩
  iapply Hk
  iframe Hb Hc2 Hd0 Hd1 Hd2 He0 He1 Hd Ha Hpre Ha0 Hq Hz Hw Ho

/-- The suffix arrives, where there is a plane above. -/
theorem run5a (c : Dev nD) (st : Fin 16) (O : CellTallies nD τ sig Unit) (hO : Above (8 * tm st 5 + (3 - row c)) O) (k : PT F) (Q : PUnit → sProp 𝕄) :
    iprop(recs A KC KS ∗ (pos c (st, .bR 1) ∗ onP (row c = 3) (owns (c : Thread nD τ) (sufMem st) fullShare (zero32 : V32 F)) ∗ onP (row c < 3) (crd c (st, .bR 1) N))
        ∗ onP (row c < 3) (anyOf c (aMem st 1) fullShare) ∗ owns (c : Thread nD τ) (aMem st 3) fullShare (Av A st 3 c) ∗ owesE c O)
      ⊢ iprop((done c (st, .bR 1) ∗ owns (c : Thread nD τ) (sufMem st) fullShare (sufIn A c st) ∗ onP (row c < 3) (owns (c : Thread nD τ) (aMem st 1) fullShare (sufV A c st))
          ∗ owns (c : Thread nD τ) (aMem st 3) fullShare (Av A st 3 c) ∗ owesE c O -∗ WP c k Q)
        -∗ WP c (whenP (cBelow c) (fun k => waitOn (bRecv st 1) (sufMem st) <| ldB bsuf st fun b => ldA st 3 fun a => ldA st 1 fun _ =>
            stA st 1 (mkA (addf (unB b) (unA a))) k) k) Q) := by
  have hlt := row_lt c
  by_cases h : row c < 3
  · rw [whenP_pos ((cBelow_iff c).2 h), onP_pos h, onP_pos h, onP_pos h, onP_neg (show ¬row c = 3 by omega), sufIn_below A c st h]
    iintro ⟨#Hr, ⟨Hp, -, Hc⟩, Ha1, Ha, Ho⟩ Hk
    iapply (wp_waitOn A KC KS c (bRecv st 1) (sufMem st) (st, .bR 1) rfl (duts_bR1 st h) rfl rfl _ hO (le_refl _) _ Q) $$ [Hp Hc Ho]
    · iframe Hr Ho Hc Hp
    iintro ⟨Ho, Hd, Hb⟩
    ihave Hb := (Entails.of_eq (pay_bR1 A c st)) $$ Hb
    iapply (wp_ldSuf c st fullShare _ _ Q) $$ Hb
    iintro Hb
    iapply (wp_ldA c st 3 fullShare _ _ Q) $$ Ha
    iintro Ha
    icases (Entails.of_eq (show anyOf c (aMem st 1) fullShare = iprop(∃ v : V32 F, owns (c : Thread nD τ) (aMem st 1) fullShare v) from rfl)) $$ Ha1 with ⟨%v1, Ha1⟩
    iapply (wp_ldA c st 1 fullShare v1 _ Q) $$ Ha1
    iintro Ha1
    iapply (wp_stA c st 1 v1 _ _ Q) $$ Ha1
    iintro Ha1
    iapply Hk
    isplitl [Hd]; · iexact Hd
    isplitl [Hb]; · iexact Hb
    isplitl [Ha1]
    · ihave Ha1 := (Entails.of_eq (show owns (c : Thread nD τ) (aMem st 1) fullShare (addf (unB (mkB (sufV A (upD c) st))) (unA (mkA (Av A st 3 c))))
        = owns (c : Thread nD τ) (aMem st 1) fullShare (sufV A c st) by rw [unA_mkA, unB_mkB, sufV_succ A c st h])) $$ Ha1
      iexact Ha1
    isplitl [Ha]; · iexact Ha
    iexact Ho
  · rw [whenP_neg (fun hh => h ((cBelow_iff c).1 hh)), onP_neg h, onP_neg h, onP_neg h, onP_pos (show row c = 3 by omega), sufIn_last A c st (by omega)]
    iintro ⟨#Hr, ⟨Hp, Hb, -⟩, -, Ha, Ho⟩ Hk
    imod (close_idle A KC KS c (st, .bR 1) (if_neg h)) $$ [Hp] with Hd
    · isplitr; · iexact Hr
      iexact Hp
    iapply Hk
    iframe Hd Hb Ha Ho

/-- The suffix goes on, in the middle planes. -/
theorem run5b (c : Dev nD) (st : Fin 16) (R : CellTallies nD τ sig Unit) (k : PT F) (Q : PUnit → sProp 𝕄) :
    iprop(recs A KC KS ∗ onP (row c < 3) (owns (c : Thread nD τ) (aMem st 1) fullShare (sufV A c st)) ∗ onP (row c = 3) (crd c (st, .bS 1) N)
        ∗ onP (mid c) iprop(anyOf (dnD c) (sufMem st) fullShare ∗ tok c (st, .bS 1) 0 ∗ tok (dnD c) (st, .bR 1) 0)
        ∗ owesE c (R + dIf (mid c) (dbt (dnD c) st (.bR 1) N)))
      ⊢ iprop((onP (0 < row c) (crd c (st, .bS 1) N) ∗ onP (row c = 0) (anyOf c (aMem st 1) fullShare) ∗ owesE c R -∗ WP c k Q)
        -∗ WP c (whenP (cMid c) (fun k => sendTo (aMem st 1) (sufMem st) (dnD c) (bSend st 1) (bRecv st 1) k) k) Q) := by
  have hlt := row_lt c
  rcases (by omega : row c = 0 ∨ mid c ∨ row c = 3) with h | h | h
  · have hm : ¬mid c := by unfold mid; omega
    rw [whenP_neg (fun hh => hm ((cMid_iff c).1 hh)), onP_pos h, onP_neg (show ¬0 < row c by omega), onP_neg hm, onP_pos (show row c < 3 by omega),
      onP_neg (show ¬row c = 3 by omega), dIf_neg hm, add_zero]
    iintro ⟨-, Ha1, -, -, Ho⟩ Hk
    iapply Hk
    isplitr; · iempintro
    isplitl [Ha1]; · iapply (any_intro c _ _ _) $$ Ha1
    iexact Ho
  · rw [whenP_pos ((cMid_iff c).2 h), onP_neg (show ¬row c = 0 by have := h.1; omega), onP_neg (show ¬row c = 3 by have := h.2; omega), onP_pos h.1, onP_pos h, onP_pos h.2, dIf_pos h]
    iintro ⟨#Hr, Ha1, -, Hf, Ho⟩ Hk
    iapply (sendSuf c st h.1 R k Q) $$ [Ha1 Hf Ho]
    · iframe Hr Ha1 Hf Ho
    iintro ⟨Hc, Ho⟩
    iapply Hk
    isplitl [Hc]; · iexact Hc
    isplitr; · iempintro
    iexact Ho
  · have hm : ¬mid c := by unfold mid; omega
    rw [whenP_neg (fun hh => hm ((cMid_iff c).1 hh)), onP_neg (show ¬row c = 0 by omega), onP_pos (show 0 < row c by omega), onP_neg hm, onP_neg (show ¬row c < 3 by omega),
      onP_pos h, dIf_neg hm, add_zero]
    iintro ⟨-, -, Hc, -, Ho⟩ Hk
    iapply Hk
    isplitl [Hc]; · iexact Hc
    isplitr; · iempintro
    iexact Ho

/-! ## The copies -/

theorem oMem_eq {off : Fin 2 → ℕ} {h : ∀ a, off a + S32x2048.size a ≤ S2048x2048.size a} {r : Fin 4} {st : Fin 16} (ho : off = offB r st) : oMem off h = oB r st := by
  subst ho; rfl

theorem oB_dma (r : Fin 4) (st : Fin 16) : (oB r st).view.dmaCredit = N := rfl
theorem back_next (c : Dev nD) (st : Fin 16) (a : ℕ) : back (nextD c st) st (a + 1) = back c st a := by
  rw [back, prev_next]

/-- A copy of a total's rows to the next device. -/
theorem sendC (c : Dev nD) (st : Fin 16) (a : Fin 3) (R : CellTallies nD τ sig Unit) (k : PT F) (Q : PUnit → sProp 𝕄) :
    iprop(recs A KC KS ∗ owns (c : Thread nD τ) (oB (ob c st (a.castSucc + 3)) st) fullShare (tot A (back c st a.val) st)
        ∗ anyOf (nextD c st) (oB (ob (nextD c st) st a.castSucc) st) fullShare ∗ (tok c (st, .cS a) 0 ∗ tok (nextD c st) (st, .cR a) 0)
        ∗ owesE c (R + dbt (nextD c st) st (.cR a) N))
      ⊢ iprop((crd c (st, .cS a) N ∗ owesE c R -∗ WP c k Q)
        -∗ WP c (sendTo (oMem (offC c st a.val) (offC_inb c st a)) (oMem (offC c st a.val) (offC_inb c st a)) (nextD c st) (cSend st a) (cRecv st a) k) Q) := by
  have h2 : owns (nextD c st : Thread nD τ) (oB (ob c st (a.castSucc + 3)) st) fullShare (tot A (back c st a.val) st) ⊢ pay A (nextD c st) (some (st, .cR a)) 0 := by
    rw [pay_cR, ob_next, back_next]
  have h1 : owns (c : Thread nD τ) (oB (ob c st (a.castSucc + 3)) st) fullShare (tot A (back c st a.val) st) ⊢ pay A c (some (st, .cS a)) 0 := Entails.of_eq (pay_cS A c st a).symm
  rw [oMem_eq (offC_ob c st a), ob_next]
  generalize ob c st (a.castSucc + 3) = r at h1 h2 ⊢
  iintro ⟨#Hr, Ha, Hn, ⟨Ht1, Ht2⟩, Ho⟩ Hk
  iapply (wp_sendTo A KC KS c (nextD c st) (oB r st) (oB r st) fullShare (tot A (back c st a.val) st) (cSend st a) (cRecv st a) (st, .cS a) (st, .cR a) rfl rfl
    (in0 rfl) (in0 rfl) rfl rfl (oB_dma r st) h1 h2 R k Q) $$ [Ha Hn Ho Ht1 Ht2]
  · iframe Hr Ha Hn Ho Ht1 Ht2
  iintro ⟨Hc, Ho⟩
  iapply Hk
  iframe Hc Ho

theorem run5 (c : Dev nD) (st : Fin 16) (R : CellTallies nD τ sig Unit) (hR : Above (8 * tm st 5 + 7) R) (k : PT F) (Q : PUnit → sProp 𝕄) :
    iprop(recs A KC KS ∗ hold5 A c st ∗ fresh5 c st ∗ owesE c (R + debt c st 5))
      ⊢ iprop((hold6 A c st ∗ owesE c R -∗ WP c k Q) -∗ WP c (stage c st 5 k) Q) := by
  show _ ⊢ iprop(_ -∗ WP c (stage5 c st k) Q)
  have hlt := row_lt c
  have hO1 : Above (8 * tm st 2 + 4) (R + dbt (nextD c st) st (.cR 0) N) :=
    above_add (above_mono (by unfold tm; omega) hR) (above_cell _ _ _ (by show _ < 8 * tm st (5 + 0) + 7; unfold tm; omega))
  have hO : Above (8 * tm st 5 + (3 - row c)) (R + debt c st 5) :=
    above_add (above_mono (by omega) hR) (above_add (above_cell _ _ _ (by show _ < 8 * tm st (5 + 0) + 7; unfold tm; omega))
      (above_dIf fun h => above_cell _ _ _ (by show _ < 8 * tm st 5 + (3 - row (dnD c)); have := row_dn c h.1; omega)))
  unfold fresh5 hold5 hold6 rest stage5
  iintro ⟨#Hr, ⟨Hb, Hc2, ⟨Hd0, Hd1, Hd2, He0, He1, Hf0⟩, Ha, Hpre, Ha0, Hq, Hz, Hw⟩, ⟨Hp, Hsuf, Hc, Hm, Hpc, Hcc, Hwt, Ht1, Ht2⟩, Ho⟩ Hk
  iapply (run5a c st (R + debt c st 5) hO _ Q) $$ [Hp Hsuf Hc Hw Ha Ho]
  · iframe Hr Hp Hsuf Hc Hw Ha Ho
  iintro ⟨Hf1, Hsuf, Hw, Ha, Ho⟩
  ihave Ho := (owes_eq c (show R + debt c st 5 = (R + dbt (nextD c st) st (.cR 0) N) + dIf (mid c) (dbt (dnD c) st (.bR 1) N) from (add_assoc _ _ _).symm)) $$ Ho
  iapply (run5b c st _ _ Q) $$ [Hw Hz Hm Ho]
  · iframe Hr Hw Hz Hm Ho
  iintro ⟨Hz, Hw, Ho⟩
  iapply (wp_ldA c st 0 (q0 c) _ _ Q) $$ Ha0
  iintro Ha0
  iapply (wp_ldSuf c st fullShare _ _ Q) $$ Hsuf
  iintro Hsuf
  iapply (wp_ldO c (offAhead c st) _ (ob c st 3) st (offAhead_ob c st) fullShare _ _ Q) $$ Hb
  iintro Hb
  iapply (wp_stO c (offAhead c st) _ (ob c st 3) st (offAhead_ob c st) _ _ _ Q) $$ Hb
  iintro Hb
  ihave Hb := (Entails.of_eq (show owns (c : Thread nD τ) (oB (ob c st 3) st) fullShare (addf (unA (mkA (preV A c st))) (unB (mkB (sufIn A c st))))
    = owns (c : Thread nD τ) (oB (ob c st ((0 : Fin 3).castSucc + 3)) st) fullShare (tot A (back c st (0 : Fin 3).val) st) by rw [unA_mkA, unB_mkB]; rfl)) $$ Hb
  iapply (wp_await A KC KS c st _ hO1 (le_refl _) _ Q) $$ [Ho Hcc Hpc]
  · iframe Hr Ho Hcc Hpc
  iintro ⟨Ho, Hpc, Hrel⟩
  ihave #HS := (recs_slot A KC KS (nextD c st, st)) $$ Hr
  imod (slot_take ES (Set.mem_univ (KS (nextD c st, st))) 1) $$ [Hrel Hwt] with Hsl
  · isplitr; · iexact HS
    isplitl [Hrel]; · iexact Hrel
    iexact Hwt
  icases (Entails.of_eq (show slotS (nextD c st, st) = iprop(anyOf (nextD c st) (oB (ob (nextD c st) st 0) st) fullShare ∗ anyOf (nextD c st) (oB (ob (nextD c st) st 1) st) fullShare
    ∗ anyOf (nextD c st) (oB (ob (nextD c st) st 2) st) fullShare) from rfl)) $$ Hsl with ⟨Hn0, Hn1, Hn2⟩
  iapply (sendC c st 0 R k Q) $$ [Hb Hn0 Ht1 Ht2 Ho]
  · isplitr; · iexact Hr
    isplitl [Hb]; · iexact Hb
    isplitl [Hn0]; · iexact Hn0
    isplitl [Ht1 Ht2]; · iframe Ht1 Ht2
    iexact Ho
  iintro ⟨Hc0, Ho⟩
  iapply Hk
  ihave Ha := (any_intro c (aMem st 3) fullShare _) $$ Ha
  ihave Hsuf := (any_intro c (sufMem st) fullShare _) $$ Hsuf
  iframe Hc2 Hd0 Hd1 Hd2 He0 He1 Hf0 Hf1 Ha Hpre Hsuf Ha0 Hq Hz Hw Hpc Hc0 Hn1 Hn2 Ho

theorem run6 (c : Dev nD) (st : Fin 16) (R : CellTallies nD τ sig Unit) (hR : Above (8 * tm st 6 + 7) R) (k : PT F) (Q : PUnit → sProp 𝕄) :
    iprop(recs A KC KS ∗ hold6 A c st ∗ fresh6 c st ∗ owesE c (R + debt c st 6))
      ⊢ iprop((hold7 A c st ∗ owesE c R -∗ WP c k Q) -∗ WP c (stage c st 6 k) Q) := by
  show _ ⊢ iprop(_ -∗ WP c (stage67 c st 1 k) Q)
  have hO : Above (8 * tm st 6 - 1) (R + debt c st 6) := above_add (above_mono (by omega) hR) (debt_above c st 6)
  unfold fresh6 hold6 hold7 stage67
  iintro ⟨#Hr, ⟨Hres, Hpc, Hc0, Hn1, Hn2⟩, ⟨Hp, Hc, Hcc, Ht1, Ht2⟩, Ho⟩ Hk
  iapply (wp_waitOn A KC KS c (cRecv st 0) _ (st, .cR 0) rfl rfl rfl rfl _ hO (by show 8 * tm st (5 + 0) + 7 ≤ _; unfold tm; omega) _ Q) $$ [Hp Hc Ho]
  · iframe Hr Ho Hc Hp
  iintro ⟨Ho, Hd, Hb⟩
  ihave Hb := (Entails.of_eq (pay_cR A c st 0)) $$ Hb
  iapply (wp_await2 A KC KS c st _ hO (by show 8 * tm st 2 + 4 ≤ _; unfold tm; omega) _ Q) $$ [Ho Hcc Hpc]
  · iframe Hr Ho Hcc Hpc
  iintro ⟨Ho, Hpc⟩
  iapply (sendC c st 1 R k Q) $$ [Hb Hn1 Ht1 Ht2 Ho]
  · isplitr; · iexact Hr
    isplitl [Hb]; · iexact Hb
    isplitl [Hn1]; · iexact Hn1
    isplitl [Ht1 Ht2]; · iframe Ht1 Ht2
    iexact Ho
  iintro ⟨Hc1, Ho⟩
  iapply Hk
  iframe Hres Hpc Hc0 Hc1 Hd Hn2 Ho

theorem run7 (c : Dev nD) (st : Fin 16) (R : CellTallies nD τ sig Unit) (hR : Above (8 * tm st 7 + 7) R) (k : PT F) (Q : PUnit → sProp 𝕄) :
    iprop(recs A KC KS ∗ hold7 A c st ∗ fresh7 c st ∗ owesE c (R + debt c st 7))
      ⊢ iprop((hold8 A c st ∗ owesE c R -∗ WP c k Q) -∗ WP c (stage c st 7 k) Q) := by
  show _ ⊢ iprop(_ -∗ WP c (stage67 c st 2 k) Q)
  have hO : Above (8 * tm st 7 - 1) (R + debt c st 7) := above_add (above_mono (by omega) hR) (debt_above c st 7)
  unfold fresh7 hold7 hold8 stage67
  iintro ⟨#Hr, ⟨Hres, Hpc, Hc0, Hc1, Hd0, Hn2⟩, ⟨Hp, Hc, Hcc, Ht1, Ht2⟩, Ho⟩ Hk
  iapply (wp_waitOn A KC KS c (cRecv st 1) _ (st, .cR 1) rfl rfl rfl rfl _ hO (by show 8 * tm st (5 + 1) + 7 ≤ _; unfold tm; omega) _ Q) $$ [Hp Hc Ho]
  · iframe Hr Ho Hc Hp
  iintro ⟨Ho, Hd, Hb⟩
  ihave Hb := (Entails.of_eq (pay_cR A c st 1)) $$ Hb
  iapply (wp_await3 A KC KS c st _ hO (by show 8 * tm st 2 + 4 ≤ _; unfold tm; omega) _ Q) $$ [Ho Hcc Hpc]
  · iframe Hr Ho Hcc Hpc
  iintro ⟨Ho, Hpc⟩
  iapply (sendC c st 2 R k Q) $$ [Hb Hn2 Ht1 Ht2 Ho]
  · isplitr; · iexact Hr
    isplitl [Hb]; · iexact Hb
    isplitl [Hn2]; · iexact Hn2
    isplitl [Ht1 Ht2]; · iframe Ht1 Ht2
    iexact Ho
  iintro ⟨Hc2, Ho⟩
  iapply Hk
  iframe Hres Hpc Hc0 Hc1 Hc2 Hd0 Hd Ho

theorem run8 (c : Dev nD) (st : Fin 16) (R : CellTallies nD τ sig Unit) (hR : Above (8 * tm st 8 + 7) R) (k : PT F) (Q : PUnit → sProp 𝕄) :
    iprop(recs A KC KS ∗ hold8 A c st ∗ fresh8 c st ∗ owesE c (R + debt c st 8))
      ⊢ iprop((hold9 A c st ∗ owesE c R -∗ WP c k Q) -∗ WP c (stage c st 8 k) Q) := by
  show _ ⊢ iprop(_ -∗ WP c (stage8 c st k) Q)
  unfold fresh8 hold8 hold9 stage8
  iintro ⟨#Hr, ⟨Hres, Hpc, Hc0, Hc1, Hc2, Hd0, Hd1⟩, ⟨Hp, Hc⟩, Ho⟩ Hk
  ihave Ho := (owes_eq c (show R + debt c st 8 = R from add_zero _)) $$ Ho
  iapply (wp_waitOn A KC KS c (cRecv st 2) _ (st, .cR 2) rfl rfl rfl rfl _ hR (by show 8 * tm st (5 + 2) + 7 ≤ _; unfold tm; omega) _ Q) $$ [Hp Hc Ho]
  · iframe Hr Ho Hc Hp
  iintro ⟨Ho, Hd, Hb⟩
  ihave Hb := (Entails.of_eq (show pay A c (some (st, .cR 2)) 0 = owns (c : Thread nD τ) (oB (ob c st 2) st) fullShare (tot A (back c st 3) st) from rfl)) $$ Hb
  iapply Hk
  iframe Hres Hpc Hc0 Hc1 Hc2 Hd0 Hd1 Hd Hb Ho

/-! ## The last waits -/

theorem lastB0 (c : Dev nD) (st : Fin 16) (k : PT F) (Q : PUnit → sProp 𝕄) :
    iprop(recs A KC KS ∗ pos c (st, .bS 0) ∗ onP (row c < 3) (crd c (st, .bS 0) N) ∗ owns (c : Thread nD τ) (aMem st 0) (q0 c) (preV A c st) ∗ owesE c 0)
      ⊢ iprop((done c (st, .bS 0) ∗ anyOf c (aMem st 0) fullShare ∗ owesE c 0 -∗ WP c k Q)
        -∗ WP c (whenP (cBelow c) (fun k => waitOn (bSend st 0) (aMem st 0) k) k) Q) := by
  by_cases h : row c < 3
  · rw [whenP_pos ((cBelow_iff c).2 h), onP_pos h]
    iintro ⟨#Hr, Hp, Hc, Ha, Ho⟩ Hk
    iapply (wp_waitOn A KC KS c (bSend st 0) (aMem st 0) (st, .bS 0) rfl (duts_bS0 st h) rfl rfl _ (above_zero 0) (le_refl _) _ Q) $$ [Hp Hc Ho]
    · iframe Hr Ho Hc Hp
    iintro ⟨Ho, Hd, Hb⟩
    ihave Hb := (Entails.of_eq (pay_bS0 A c st)) $$ Hb
    ihave Ha := (Entails.of_eq (show owns (c : Thread nD τ) (aMem st 0) (q0 c) (preV A c st) = owns (c : Thread nD τ) (aMem st 0) fullShare.left (preV A c st) by
      unfold q0; rw [if_pos h])) $$ Ha
    ihave Ha := (owns_halves (c : Thread nD τ) (aMem st 0) fullShare (preV A c st)).2 $$ [Ha Hb]
    · isplitl [Ha]; · iexact Ha
      iexact Hb
    ihave Ha := (any_intro c (aMem st 0) fullShare _) $$ Ha
    iapply Hk
    iframe Hd Ha Ho
  · rw [whenP_neg (fun hh => h ((cBelow_iff c).1 hh)), onP_neg h]
    iintro ⟨#Hr, Hp, -, Ha, Ho⟩ Hk
    imod (close_idle A KC KS c (st, .bS 0) (if_neg h)) $$ [Hp] with Hd
    · isplitr; · iexact Hr
      iexact Hp
    ihave Ha := (Entails.of_eq (show owns (c : Thread nD τ) (aMem st 0) (q0 c) (preV A c st) = owns (c : Thread nD τ) (aMem st 0) fullShare (preV A c st) by
      unfold q0; rw [if_neg h])) $$ Ha
    ihave Ha := (any_intro c (aMem st 0) fullShare _) $$ Ha
    iapply Hk
    iframe Hd Ha Ho

theorem lastB1 (c : Dev nD) (st : Fin 16) (k : PT F) (Q : PUnit → sProp 𝕄) :
    iprop(recs A KC KS ∗ pos c (st, .bS 1) ∗ onP (0 < row c) (crd c (st, .bS 1) N) ∗ onP (row c = 0) (anyOf c (aMem st 1) fullShare) ∗ owesE c 0)
      ⊢ iprop((done c (st, .bS 1) ∗ anyOf c (aMem st 1) fullShare ∗ owesE c 0 -∗ WP c k Q)
        -∗ WP c (whenP (cPos c) (fun k => waitOn (bSend st 1) (aMem st 1) k) k) Q) := by
  by_cases h : 0 < row c
  · rw [whenP_pos ((cPos_iff c).2 h), onP_pos h, onP_neg (show ¬row c = 0 by omega)]
    iintro ⟨#Hr, Hp, Hc, -, Ho⟩ Hk
    iapply (wp_waitOn A KC KS c (bSend st 1) (aMem st 1) (st, .bS 1) rfl (duts_bS1 st h) rfl rfl _ (above_zero 0) (le_refl _) _ Q) $$ [Hp Hc Ho]
    · iframe Hr Ho Hc Hp
    iintro ⟨Ho, Hd, Hb⟩
    ihave Hb := (Entails.of_eq (pay_bS1 A c st)) $$ Hb
    iapply Hk
    iframe Hd Hb Ho
  · rw [whenP_neg (fun hh => h ((cPos_iff c).1 hh)), onP_neg h, onP_pos (show row c = 0 by omega)]
    iintro ⟨#Hr, Hp, -, Ha, Ho⟩ Hk
    imod (close_idle A KC KS c (st, .bS 1) (if_neg h)) $$ [Hp] with Hd
    · isplitr; · iexact Hr
      iexact Hp
    iapply Hk
    iframe Hd Ha Ho

/-- A stream's last waits close its remaining cells and give its buffers back. -/
theorem run9 (c : Dev nD) (st : Fin 16) (k : PT F) (Q : PUnit → sProp 𝕄) :
    iprop(recs A KC KS ∗ hold9 A c st ∗ fresh9 c st ∗ owesE c 0)
      ⊢ iprop((fin A c st ∗ owesE c 0 -∗ WP c k Q) -∗ WP c (lastWaits c st k) Q) := by
  unfold fresh9 hold9 rest fin outT lastWaits
  rw [Kind.univ_bigSep]
  iintro ⟨#Hr, ⟨⟨Hc2, ⟨Hd0, Hd1, Hd2, He0, He1, Hf0, Hf1⟩, Ha3, Hpre, Hsuf, Ha0, Hx, Hy, Hz⟩, Hpc, Hq0, Hq1, Hq2, Hg0, Hg1, Hg2, Hb2⟩, ⟨Hp, Hp0, Hp1, Hp2, Hpa, Hpb⟩, Ho⟩ Hk
  iapply (wp_waitOn A KC KS c (aSend st 2) (aMem st 2) (st, .aS 2) rfl rfl rfl rfl _ (above_zero 0) (le_refl _) _ Q) $$ [Hp Hc2 Ho]
  · iframe Hr Ho Hc2 Hp
  iintro ⟨Ho, He2, Ha2⟩
  ihave Ha2 := (Entails.of_eq (show pay A c (some (st, .aS 2)) 0 = anyOf c (aMem st 2) fullShare from rfl)) $$ Ha2
  iapply (wp_waitOn A KC KS c (cSend st 0) _ (st, .cS 0) rfl rfl rfl rfl _ (above_zero 0) (le_refl _) _ Q) $$ [Hp0 Hq0 Ho]
  · iframe Hr Ho Hq0 Hp0
  iintro ⟨Ho, Hh0, Hb3⟩
  ihave Hb3 := (Entails.of_eq (show pay A c (some (st, .cS 0)) 0 = owns (c : Thread nD τ) (oB (ob c st 3) st) fullShare (tot A (back c st 0) st) from rfl)) $$ Hb3
  iapply (wp_waitOn A KC KS c (cSend st 1) _ (st, .cS 1) rfl rfl rfl rfl _ (above_zero 0) (le_refl _) _ Q) $$ [Hp1 Hq1 Ho]
  · iframe Hr Ho Hq1 Hp1
  iintro ⟨Ho, Hh1, Hb0⟩
  ihave Hb0 := (Entails.of_eq (show pay A c (some (st, .cS 1)) 0 = owns (c : Thread nD τ) (oB (ob c st 0) st) fullShare (tot A (back c st 1) st) from rfl)) $$ Hb0
  iapply (wp_waitOn A KC KS c (cSend st 2) _ (st, .cS 2) rfl rfl rfl rfl _ (above_zero 0) (le_refl _) _ Q) $$ [Hp2 Hq2 Ho]
  · iframe Hr Ho Hq2 Hp2
  iintro ⟨Ho, Hh2, Hb1⟩
  ihave Hb1 := (Entails.of_eq (show pay A c (some (st, .cS 2)) 0 = owns (c : Thread nD τ) (oB (ob c st 1) st) fullShare (tot A (back c st 2) st) from rfl)) $$ Hb1
  iapply (lastB0 c st _ Q) $$ [Hpa Hx Ha0 Ho]
  · iframe Hr Hpa Hx Ha0 Ho
  iintro ⟨Hba, Ha0, Ho⟩
  iapply (lastB1 c st _ Q) $$ [Hpb Hy Hz Ho]
  · iframe Hr Hpb Hy Hz Ho
  iintro ⟨Hbb, Ha1, Ho⟩
  iapply Hk
  iframe He0 He1 He2 Hd0 Hd1 Hd2 Hba Hbb Hf0 Hf1 Hh0 Hh1 Hh2 Hg0 Hg1 Hg2 Hpc Ha0 Ha1 Ha2 Ha3 Hpre Hsuf Hb0 Hb1 Hb2 Hb3 Ho

end Cert.AllReduce
-- ==== Proof.Round.lean ====
/-
The rounds: every stream advanced by a stage, in order, and the streams' ends.
-/
module

public import proofs.«01_k».proof.Proof.Stage

@[expose] public section

set_option maxRecDepth 20000

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig Unit (Elt F) ℕ UU ℕ

variable (A : Args F) (KC : Dev nD × Option SK → ℕ) (KS : Key → ℕ)

/-! ## A stream before a stage -/

/-- What a device holds of a stream before its stage `j`, the result's blocks included. -/
def hold (c : Dev nD) (st : Fin 16) : ℕ → sProp 𝕄
  | 0 => outU A c st | 1 => iprop(outU A c st ∗ hold1 c st) | 2 => hold2 A c st | 3 => hold3 A c st | 4 => hold4 A c st | 5 => hold5 A c st
  | 6 => hold6 A c st | 7 => hold7 A c st | 8 => hold8 A c st | _ => hold9 A c st
/-- What its stage `j` uses first. -/
def fresh (c : Dev nD) (st : Fin 16) : ℕ → sProp 𝕄
  | 0 => fresh0 c st | 1 => fresh1 c st | 2 => fresh2 c st | 3 => fresh3 c st | 4 => fresh4 c st | 5 => fresh5 c st
  | 6 => fresh6 c st | 7 => fresh7 c st | 8 => fresh8 c st | _ => fresh9 c st
/-- What its stages from `j` on use first. -/
def freshFrom (c : Dev nD) (st : Fin 16) (j : ℕ) : sProp 𝕄 := bigSep (Finset.Ico j 10) (fresh c st)
/-- The stream before its stage `j`. -/
def strm (c : Dev nD) (st : Fin 16) (j : ℕ) : sProp 𝕄 := iprop(hold A c st j ∗ freshFrom c st j)

theorem freshFrom_step (c : Dev nD) (st : Fin 16) {j : ℕ} (h : j < 10) : (freshFrom c st j : sProp 𝕄) = iprop(fresh c st j ∗ freshFrom c st (j + 1)) := by
  unfold freshFrom
  rw [show Finset.Ico j 10 = insert j (Finset.Ico (j + 1) 10) by ext i; simp only [Finset.mem_Ico, Finset.mem_insert]; omega,
    bigSep_insert (by simp only [Finset.mem_Ico]; omega)]
  rfl
theorem freshFrom_last (c : Dev nD) (st : Fin 16) : (freshFrom c st 9 : sProp 𝕄) = fresh9 c st := by
  unfold freshFrom
  rw [show Finset.Ico 9 10 = {9} from rfl, bigSep_singleton]
  rfl

variable {A} {KC} {KS}

/-- A stage advances its stream. -/
theorem runH (c : Dev nD) (st : Fin 16) (j : ℕ) (hj : j < 9) (h0 : j = 0 → 2 ≤ st.val) (R : CellTallies nD τ sig Unit) (hR : Above (8 * tm st j + 7) R)
    (k : PT F) (Q : PUnit → sProp 𝕄) :
    iprop(recs A KC KS ∗ hold A c st j ∗ fresh c st j ∗ owesE c (R + debt c st j))
      ⊢ iprop((hold A c st (j + 1) ∗ owesE c R -∗ WP c k Q) -∗ WP c (stage c st j k) Q) := by
  rcases (by omega : j = 0 ∨ j = 1 ∨ j = 2 ∨ j = 3 ∨ j = 4 ∨ j = 5 ∨ j = 6 ∨ j = 7 ∨ j = 8) with rfl | rfl | rfl | rfl | rfl | rfl | rfl | rfl | rfl
  · show iprop(recs A KC KS ∗ outU A c st ∗ fresh0 c st ∗ owesE c (R + debt c st 0)) ⊢ iprop(((outU A c st ∗ hold1 c st) ∗ owesE c R -∗ WP c k Q) -∗ WP c (stage0 c st k) Q)
    unfold outU
    iintro ⟨#Hr, ⟨Hb0, Hb⟩, Hf, Ho⟩ Hk
    iapply (run0 c st (U A c st (ob c st 0)) (by
      show _ = unO (bif Nat.ble 2 st.val then U A c st (ob c st 0) else Uq A c st)
      rw [Nat.ble_eq_true_of_le (h0 rfl)]; rfl) (blkU A c st 0) R k Q
      (fun k' => wp_ldO c (offOwn0 c st) (offOwn0_inb c st) (ob c st 0) st (offOwn0_ob c st) fullShare _ k' Q)) $$ [Hb0 Hf Ho]
    · iframe Hr Hb0 Hf Ho
    iintro ⟨Hb0, Hh, Ho⟩
    iapply Hk
    iframe Hb0 Hb Hh Ho
  · exact run1 c st R hR k Q
  · exact run2 c st R hR k Q
  · exact run3 c st R hR k Q
  · exact run4 c st R hR k Q
  · exact run5 c st R hR k Q
  · exact run6 c st R hR k Q
  · exact run7 c st R hR k Q
  · exact run8 c st R hR k Q

/-- One stream of several advanced by a stage, under a rule for the stage. -/
theorem advance (c : Dev nD) (H : Fin 16 → ℕ → sProp 𝕄) (B : sProp 𝕄) (p p' : Fin 16 → ℕ) (st : Fin 16) (hj : p st < 9)
    (hlt : ∀ s, s ≠ st → p s < 9 → tm st (p st) < tm s (p s)) (hp : p' st = p st + 1) (hp' : ∀ s, s ≠ st → p' s = p s) (k : PT F) (Q : PUnit → sProp 𝕄)
    (rule : ∀ R, Above (8 * tm st (p st) + 7) R → iprop(recs A KC KS ∗ B ∗ H st (p st) ∗ owesE c (R + debt c st (p st)))
      ⊢ iprop((B ∗ H st (p st + 1) ∗ owesE c R -∗ WP c k Q) -∗ WP c (stage c st (p st) k) Q)) :
    iprop(recs A KC KS ∗ B ∗ bigSep Finset.univ (fun s => H s (p s)) ∗ owesE c (∑ s, debtFrom c s (p s)))
      ⊢ iprop((B ∗ bigSep Finset.univ (fun s => H s (p' s)) ∗ owesE c (∑ s, debtFrom c s (p' s)) -∗ WP c k Q) -∗ WP c (stage c st (p st) k) Q) := by
  have e1 : bigSep Finset.univ (fun s => H s (p s)) = iprop(H st (p st) ∗ bigSep (Finset.univ.erase st) (fun s => H s (p s))) := bigSep_univ_split st
  have e2 : bigSep Finset.univ (fun s => H s (p' s)) = iprop(H st (p st + 1) ∗ bigSep (Finset.univ.erase st) (fun s => H s (p s))) := by
    rw [show bigSep Finset.univ (fun s => H s (p' s)) = iprop(H st (p' st) ∗ bigSep (Finset.univ.erase st) (fun s => H s (p' s))) from bigSep_univ_split st, hp,
      bigSep_congr fun s hs => by rw [hp' s (Finset.ne_of_mem_erase hs)]]
  have e3 : ∑ s, debtFrom c s (p s) = (debtFrom c st (p st + 1) + ∑ s ∈ Finset.univ.erase st, debtFrom c s (p s)) + debt c st (p st) := by
    rw [← Finset.add_sum_erase _ _ (Finset.mem_univ st), debtFrom_step c st hj, add_assoc, add_comm]
  have e4 : ∑ s, debtFrom c s (p' s) = debtFrom c st (p st + 1) + ∑ s ∈ Finset.univ.erase st, debtFrom c s (p s) := by
    rw [← Finset.add_sum_erase _ _ (Finset.mem_univ st), hp, Finset.sum_congr rfl fun s hs => by rw [hp' s (Finset.ne_of_mem_erase hs)]]
  rw [e1, e2, e3, e4]
  iintro ⟨#Hr, HB, ⟨H1, H2⟩, Ho⟩ Hk
  iapply (rule (debtFrom c st (p st + 1) + ∑ s ∈ Finset.univ.erase st, debtFrom c s (p s)) (above_add
    (above_mono (by unfold tm; omega) (debtFrom_above c st (p st + 1))) (above_sum _ _ fun s hs => by
      by_cases h9 : p s < 9
      · exact above_mono (by have := hlt s (Finset.ne_of_mem_erase hs) h9; omega) (debtFrom_above c s (p s))
      · rw [debtFrom_end c s (by omega)]; exact above_zero _))) $$ [HB H1 Ho]
  · iframe Hr HB H1 Ho
  iintro ⟨HB, H1, Ho⟩
  iapply Hk
  iframe HB H1 H2 Ho

/-! ## The rounds -/

/-- The stage a stream is at before a round, and within it when the last `n` streams have not run. -/
def posn (r : ℕ) (st : Fin 16) : ℕ := min (r - st.val / 2) 9
def midp (r n : ℕ) (st : Fin 16) : ℕ := if st.val < 16 - n then posn (r + 1) st else posn r st

theorem midp_full (r : ℕ) : midp r 16 = posn r := by
  funext s; unfold midp; rw [if_neg (by omega)]
theorem midp_none (r : ℕ) : midp r 0 = posn (r + 1) := by
  funext s; unfold midp; rw [if_pos (by have := s.isLt; omega)]

/-- All streams before the stages `p`, and the debts of those. -/
abbrev strms (A : Args F) (c : Dev nD) (p : Fin 16 → ℕ) : sProp 𝕄 :=
  iprop(bigSep Finset.univ (fun s => strm A c s (p s)) ∗ owesE c (∑ s, debtFrom c s (p s)))

theorem runRound (c : Dev nD) (r : ℕ) (hr : 1 ≤ r) (k : PT F) (Q : PUnit → sProp 𝕄) : ∀ n, n ≤ 16 →
    iprop(recs A KC KS ∗ strms A c (midp r n)) ⊢ iprop((strms A c (posn (r + 1)) -∗ WP c k Q) -∗ WP c (roundFrom c r n k) Q)
  | 0, _ => by
    rw [midp_none]
    show _ ⊢ iprop(_ -∗ WP c k Q)
    iintro ⟨-, H⟩ Hk
    iapply Hk $$ H
  | n + 1, hn => by
    have hl : 15 - n < 16 := by omega
    have ih := runRound c r hr k Q n (by omega)
    have hd : ∀ s : Fin 16, s ≠ ⟨15 - n, hl⟩ → midp r n s = midp r (n + 1) s := fun s hs => by
      have : s.val ≠ 15 - n := fun h => hs (Fin.ext h)
      unfold midp
      by_cases h : s.val < 15 - n
      · rw [if_pos (by omega), if_pos (by omega)]
      · rw [if_neg (by omega), if_neg (by omega)]
    have h1 : midp r (n + 1) ⟨15 - n, hl⟩ = posn r ⟨15 - n, hl⟩ := if_neg (by show ¬(15 - n < 16 - (n + 1)); omega)
    have h2 : midp r n ⟨15 - n, hl⟩ = posn (r + 1) ⟨15 - n, hl⟩ := if_pos (by show 15 - n < 16 - n; omega)
    unfold posn at h1 h2
    simp only at h1 h2
    show _ ⊢ iprop(_ -∗ WP c (bif (Nat.ble ((15 - n) / 2) r && Nat.ble (r - (15 - n) / 2) 8) then stage c ⟨15 - n, hl⟩ (r - (15 - n) / 2) (roundFrom c r n k) else roundFrom c r n k) Q)
    by_cases hc : (15 - n) / 2 ≤ r ∧ r - (15 - n) / 2 ≤ 8
    · have e0 : midp r (n + 1) ⟨15 - n, hl⟩ = r - (15 - n) / 2 := by rw [h1]; omega
      have e9 : midp r (n + 1) ⟨15 - n, hl⟩ < 9 := by omega
      have e2 : midp r (n + 1) ⟨15 - n, hl⟩ = 0 → 2 ≤ 15 - n := by omega
      have e1 : midp r n ⟨15 - n, hl⟩ = midp r (n + 1) ⟨15 - n, hl⟩ + 1 := by omega
      rw [Nat.ble_eq_true_of_le hc.1, Nat.ble_eq_true_of_le hc.2, Bool.and_self, cond_true, ← e0]
      iintro ⟨#Hr, H, Ho⟩ Hk
      iapply (advance (A := A) (KC := KC) (KS := KS) c (strm A c) iprop(emp) (midp r (n + 1)) (midp r n) ⟨15 - n, hl⟩ e9 (fun s hs h9 => by
          rw [e0]
          have hv : s.val ≠ 15 - n := fun h => hs (Fin.ext h)
          unfold midp posn at h9 ⊢
          unfold tm
          simp only
          by_cases h : s.val < 16 - (n + 1)
          · rw [if_pos h] at h9 ⊢; omega
          · rw [if_neg h] at h9 ⊢; omega)
        e1 hd _ Q (fun R hR => by
          unfold strm
          rw [freshFrom_step c _ (Nat.lt_succ_of_lt e9)]
          iintro ⟨#Hr, -, ⟨Hh, Hf, Hff⟩, Ho⟩ Hk
          iapply (runH c ⟨15 - n, hl⟩ (midp r (n + 1) ⟨15 - n, hl⟩) e9 e2 R hR _ Q) $$ [Hh Hf Ho]
          · iframe Hr Hh Hf Ho
          iintro ⟨Hh, Ho⟩
          iapply Hk
          iframe Hh Hff Ho)) $$ [H Ho]
      · iframe Hr H Ho
      iintro ⟨-, H, Ho⟩
      iapply ih $$ [H Ho] Hk
      iframe Hr H Ho
    · have hb : (Nat.ble ((15 - n) / 2) r && Nat.ble (r - (15 - n) / 2) 8) = false := by
        rw [Bool.and_eq_false_iff]
        by_contra hh
        rw [not_or, Bool.not_eq_false, Bool.not_eq_false, Nat.ble_eq, Nat.ble_eq] at hh
        exact hc hh
      rw [hb, cond_false, show midp r (n + 1) = midp r n by
        funext s
        by_cases hs : s = ⟨15 - n, hl⟩
        · rw [hs, h1, h2]; omega
        · exact (hd s hs).symm]
      exact ih

theorem runRounds (c : Dev nD) (k : PT F) (Q : PUnit → sProp 𝕄) : ∀ n, n ≤ 15 →
    iprop(recs A KC KS ∗ strms A c (posn (16 - n))) ⊢ iprop((strms A c (fun _ => 9) -∗ WP c k Q) -∗ WP c (roundsFrom c n k) Q)
  | 0, _ => by
    rw [show posn (16 - 0) = fun _ => 9 from funext fun s => by unfold posn; have := s.isLt; omega]
    show _ ⊢ iprop(_ -∗ WP c k Q)
    iintro ⟨-, H⟩ Hk
    iapply Hk $$ H
  | n + 1, hn => by
    have ih := runRounds c k Q n (by omega)
    have hr := runRound (A := A) (KC := KC) (KS := KS) c (15 - n) (by omega) (roundsFrom c n k) Q 16 (le_refl _)
    rw [midp_full, show 15 - n + 1 = 16 - n by omega] at hr
    rw [show 16 - (n + 1) = 15 - n by omega]
    show _ ⊢ iprop(_ -∗ WP c (roundFrom c (15 - n) 16 (roundsFrom c n k)) Q)
    iintro ⟨#Hr, H⟩ Hk
    iapply hr $$ [H]
    · iframe Hr H
    iintro H
    iapply ih $$ [H] Hk
    iframe Hr H

/-! ## The streams' ends -/

theorem runLast (c : Dev nD) (k : PT F) (Q : PUnit → sProp 𝕄) : ∀ n, n ≤ 16 →
    iprop(recs A KC KS ∗ bigSep Finset.univ (fun s : Fin 16 => if s.val < 16 - n then fin A c s else strm A c s 9) ∗ owesE c 0)
      ⊢ iprop((bigSep Finset.univ (fun s => fin A c s) ∗ owesE c 0 -∗ WP c k Q) -∗ WP c (lastFrom c n k) Q)
  | 0, _ => by
    rw [bigSep_congr (s := Finset.univ) (fun (s : Fin 16) _ => show (if s.val < 16 - 0 then fin A c s else strm A c s 9) = fin A c s from if_pos (by have := s.isLt; omega))]
    show _ ⊢ iprop(_ -∗ WP c k Q)
    iintro ⟨-, H⟩ Hk
    iapply Hk $$ H
  | n + 1, hn => by
    have hl : 15 - n < 16 := by omega
    have ih := runLast c k Q n (by omega)
    show _ ⊢ iprop(_ -∗ WP c (lastWaits c ⟨15 - n, hl⟩ (lastFrom c n k)) Q)
    have e1 : bigSep Finset.univ (fun s : Fin 16 => if s.val < 16 - (n + 1) then fin A c s else strm A c s 9)
        = iprop(strm A c ⟨15 - n, hl⟩ 9 ∗ bigSep (Finset.univ.erase ⟨15 - n, hl⟩) (fun s : Fin 16 => if s.val < 16 - (n + 1) then fin A c s else strm A c s 9)) := by
      rw [show bigSep Finset.univ (fun s : Fin 16 => if s.val < 16 - (n + 1) then fin A c s else strm A c s 9) = _ from bigSep_univ_split ⟨15 - n, hl⟩,
        if_neg (by show ¬(15 - n < 16 - (n + 1)); omega)]; rfl
    have e2 : bigSep Finset.univ (fun s : Fin 16 => if s.val < 16 - n then fin A c s else strm A c s 9)
        = iprop(fin A c ⟨15 - n, hl⟩ ∗ bigSep (Finset.univ.erase ⟨15 - n, hl⟩) (fun s : Fin 16 => if s.val < 16 - (n + 1) then fin A c s else strm A c s 9)) := by
      rw [show bigSep Finset.univ (fun s : Fin 16 => if s.val < 16 - n then fin A c s else strm A c s 9) = _ from bigSep_univ_split ⟨15 - n, hl⟩,
        if_pos (by show 15 - n < 16 - n; omega), bigSep_congr fun s hs => by
          have hv : s.val ≠ 15 - n := fun h => Finset.ne_of_mem_erase hs (Fin.ext h)
          rw [show (if s.val < 16 - n then fin A c s else strm A c s 9) = (if s.val < 16 - (n + 1) then fin A c s else strm A c s 9) by
            by_cases h : s.val < 15 - n
            · rw [if_pos (by omega), if_pos (by omega)]
            · rw [if_neg (by omega), if_neg (by omega)]]]; rfl
    rw [e1]
    rw [e2] at ih
    rw [show strm A c ⟨15 - n, hl⟩ 9 = iprop(hold9 A c ⟨15 - n, hl⟩ ∗ fresh9 c ⟨15 - n, hl⟩) by rw [← freshFrom_last]; rfl]
    iintro ⟨#Hr, ⟨⟨H1, Hf⟩, H2⟩, Ho⟩ Hk
    iapply (run9 c ⟨15 - n, hl⟩ (lastFrom c n k) Q) $$ [H1 Hf Ho]
    · isplitr; · iexact Hr
      isplitl [H1]; · iexact H1
      isplitl [Hf]; · iexact Hf
      iexact Ho
    iintro ⟨H1, Ho⟩
    iapply ih $$ [H1 H2 Ho] Hk
    isplitr; · iexact Hr
    isplitl [H1 H2]
    · isplitl [H1]; · iexact H1
      iexact H2
    iexact Ho

end Cert.AllReduce
-- ==== Proof.Buf.lean ====
/-
The buffers of a device in blocks: the ring slots, the two landing buffers, the result; and the two products stored.
-/
module

public import proofs.«01_k».proof.Proof.Stage
public import Idealize.ShloMosaic.Lib.Ring

@[expose] public section

set_option maxRecDepth 20000

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig Unit (Elt F) ℕ UU ℕ

/-! ## Blocks -/

theorem raw_eq {P Q : sProp 𝕄} (h : P = Q) : Idealize.SL.BI.Entails P Q := by subst h; exact BI.Entails.refl _

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Rows at some contents, from their points and back. -/
theorem any_of_pts (c : Dev nD) (m : Memref sig .tc .vmem S32x2048 .f32) (q : PosShare TreeShare) (f : Buf (Elt F) (m.view.loc (c : Thread nD τ))) :
    (m.view.loc (c : Thread nD τ) ↦[m.view.set]{q} f : sProp 𝕄) ⊢ anyOf c m q :=
  BI.Entails.trans (owns_intro (c : Thread nD τ) m q f) (any_intro c m q _)
theorem pts_of_any (c : Dev nD) (m : Memref sig .tc .vmem S32x2048 .f32) (q : PosShare TreeShare) :
    (anyOf c m q : sProp 𝕄) ⊢ iprop(∃ f, m.view.loc (c : Thread nD τ) ↦[m.view.set]{q} f) := by
  unfold anyOf owns
  iintro ⟨%v, %f, -, H⟩
  iexists f; iexact H

theorem aRect_disj (t t' : Fin 16 × Fin 4) (h : t ≠ t') : Disjoint (aRect t.1 t.2).set (aRect t'.1 t'.2).set := by
  rw [Finset.disjoint_left]
  intro i hi hi'
  rw [Rect.mem_set_unit] at hi hi'
  have h0 : t.1.val ≤ (i 0).val ∧ (i 0).val < t.1.val + 1 := hi 0
  have h1 : t.2.val ≤ (i 1).val ∧ (i 1).val < t.2.val + 1 := hi 1
  have h0' : t'.1.val ≤ (i 0).val ∧ (i 0).val < t'.1.val + 1 := hi' 0
  have h1' : t'.2.val ≤ (i 1).val ∧ (i 1).val < t'.2.val + 1 := hi' 1
  exact h (Prod.ext (Fin.ext (by omega)) (Fin.ext (by omega)))
theorem aRect_cover : (Finset.univ.biUnion fun t : Fin 16 × Fin 4 => (aRect t.1 t.2).set) = Finset.univ := by
  refine Finset.eq_univ_iff_forall.mpr fun i => Finset.mem_biUnion.mpr ⟨((i 0 : Fin 16), (i 1 : Fin 4)), Finset.mem_univ _, ?_⟩
  rw [Rect.mem_set_unit]
  intro a
  have h2 : (i 2).val < 32 := (i 2).isLt
  have h3 : (i 3).val < 2048 := (i 3).isLt
  fin_cases a
  · exact ⟨le_refl (i 0).val, Nat.lt_succ_self (i 0).val⟩
  · exact ⟨le_refl (i 1).val, Nat.lt_succ_self (i 1).val⟩
  · exact ⟨Nat.zero_le _, by show (i 2).val < 0 + 32; omega⟩
  · exact ⟨Nat.zero_le _, by show (i 3).val < 0 + 2048; omega⟩
theorem bRect_disj (t t' : Fin 16) (h : t ≠ t') : Disjoint (bRect t).set (bRect t').set := by
  rw [Finset.disjoint_left]
  intro i hi hi'
  rw [Rect.mem_set_unit] at hi hi'
  have h0 : t.val ≤ (i 0).val ∧ (i 0).val < t.val + 1 := hi 0
  have h0' : t'.val ≤ (i 0).val ∧ (i 0).val < t'.val + 1 := hi' 0
  exact h (Fin.ext (by omega))
theorem bRect_cover : (Finset.univ.biUnion fun t : Fin 16 => (bRect t).set) = Finset.univ := by
  refine Finset.eq_univ_iff_forall.mpr fun i => Finset.mem_biUnion.mpr ⟨(i 0 : Fin 16), Finset.mem_univ _, ?_⟩
  rw [Rect.mem_set_unit]
  intro a
  have h1 : (i 1).val < 32 := (i 1).isLt
  have h2 : (i 2).val < 2048 := (i 2).isLt
  fin_cases a
  · exact ⟨le_refl (i 0).val, Nat.lt_succ_self (i 0).val⟩
  · exact ⟨Nat.zero_le _, by show (i 1).val < 0 + 32; omega⟩
  · exact ⟨Nat.zero_le _, by show (i 2).val < 0 + 2048; omega⟩

theorem aSet (st : Fin 16) (s : Fin 4) : (aMem st s).view.set = (aRect st s).set := (aMem_set st s).trans (View.set_slice_whole _ _)
theorem preSet (st : Fin 16) : (preMem st).view.set = (bRect st).set := (preMem_set st).trans (View.set_slice_whole _ _)
theorem sufSet (st : Fin 16) : (sufMem st).view.set = (bRect st).set := (sufMem_set st).trans (View.set_slice_whole _ _)

/-- A stream's four ring slots. -/
def slots4 (c : Dev nD) (st : Fin 16) : sProp 𝕄 :=
  iprop(anyOf c (aMem st 0) fullShare ∗ anyOf c (aMem st 1) fullShare ∗ anyOf c (aMem st 2) fullShare ∗ anyOf c (aMem st 3) fullShare)

theorem split_a (c : Dev nD) (f : Buf (Elt F) ((c : Thread nD τ).loc cc0_scratch0)) :
    (((c : Thread nD τ).loc cc0_scratch0) ↦{fullShare} f : sProp 𝕄) ⊢ bigSep Finset.univ fun st : Fin 16 => slots4 c st := by
  rw [Ring.pointsTo_blocks (fun t : Fin 16 × Fin 4 => (aRect t.1 t.2).set) aRect_disj aRect_cover f, bigSep_univ_prod]
  refine bigSep_mono fun st _ => ?_
  refine BI.Entails.trans (bigSep_mono fun s _ => ?_) (raw_eq (bigSep_four fun s => anyOf c (aMem st s) fullShare))
  rw [← aSet st s]
  exact any_of_pts c (aMem st s) fullShare f
theorem join_a (c : Dev nD) (f₀ : Buf (Elt F) ((c : Thread nD τ).loc cc0_scratch0)) :
    (bigSep Finset.univ fun st : Fin 16 => slots4 (F := F) c st) ⊢ (iprop(∃ g, ((c : Thread nD τ).loc cc0_scratch0) ↦{fullShare} g) : sProp 𝕄) := by
  refine BI.Entails.trans ?_ (Ring.pointsTo_blocks_join_exists (fun t : Fin 16 × Fin 4 => (aRect t.1 t.2).set) aRect_disj aRect_cover f₀)
  rw [bigSep_univ_prod]
  refine bigSep_mono fun st _ => ?_
  refine BI.Entails.trans (raw_eq (bigSep_four fun s => anyOf c (aMem st s) fullShare).symm) (bigSep_mono fun s _ => ?_)
  rw [← aSet st s]
  exact pts_of_any c (aMem st s) fullShare

theorem split_pre (c : Dev nD) (f : Buf (Elt F) ((c : Thread nD τ).loc cc0_scratch1)) :
    (((c : Thread nD τ).loc cc0_scratch1) ↦{fullShare} f : sProp 𝕄) ⊢ bigSep Finset.univ fun st : Fin 16 => anyOf c (preMem st) fullShare := by
  rw [Ring.pointsTo_blocks (fun st : Fin 16 => (bRect st).set) bRect_disj bRect_cover f]
  refine bigSep_mono fun st _ => ?_
  rw [← preSet st]
  exact any_of_pts c (preMem st) fullShare f
theorem join_pre (c : Dev nD) (f₀ : Buf (Elt F) ((c : Thread nD τ).loc cc0_scratch1)) :
    (bigSep Finset.univ fun st : Fin 16 => anyOf (F := F) c (preMem st) fullShare) ⊢ (iprop(∃ g, ((c : Thread nD τ).loc cc0_scratch1) ↦{fullShare} g) : sProp 𝕄) := by
  refine BI.Entails.trans (bigSep_mono fun st _ => ?_) (Ring.pointsTo_blocks_join_exists (fun st : Fin 16 => (bRect st).set) bRect_disj bRect_cover f₀)
  rw [← preSet st]
  exact pts_of_any c (preMem st) fullShare

theorem split_suf (c : Dev nD) (f : Buf (Elt F) ((c : Thread nD τ).loc cc0_scratch2)) :
    (((c : Thread nD τ).loc cc0_scratch2) ↦{fullShare} f : sProp 𝕄) ⊢ bigSep Finset.univ fun st : Fin 16 => anyOf c (sufMem st) fullShare := by
  rw [Ring.pointsTo_blocks (fun st : Fin 16 => (bRect st).set) bRect_disj bRect_cover f]
  refine bigSep_mono fun st _ => ?_
  rw [← sufSet st]
  exact any_of_pts c (sufMem st) fullShare f
theorem join_suf (c : Dev nD) (f₀ : Buf (Elt F) ((c : Thread nD τ).loc cc0_scratch2)) :
    (bigSep Finset.univ fun st : Fin 16 => anyOf (F := F) c (sufMem st) fullShare) ⊢ (iprop(∃ g, ((c : Thread nD τ).loc cc0_scratch2) ↦{fullShare} g) : sProp 𝕄) := by
  refine BI.Entails.trans (bigSep_mono fun st _ => ?_) (Ring.pointsTo_blocks_join_exists (fun st : Fin 16 => (bRect st).set) bRect_disj bRect_cover f₀)
  rw [← sufSet st]
  exact pts_of_any c (sufMem st) fullShare

/-! ## The result in blocks -/

theorem rowBase_eq (st : Fin 16) : rowBase st = 32 * (st.val / 2 + 8 * (st.val % 2)) := rfl

abbrev oBR (t : Fin 16 × Fin 4) : Rect S2048x2048 := oRect (offB t.2 t.1) (offB_inb t.2 t.1)

theorem oRect_disj (t t' : Fin 16 × Fin 4) (h : t ≠ t') : Disjoint (oBR t).set (oBR t').set := by
  rw [Finset.disjoint_left]
  intro i hi hi'
  rw [Rect.mem_set_unit] at hi hi'
  have h0 : 512 * t.2.val + rowBase t.1 ≤ (i 0).val ∧ (i 0).val < 512 * t.2.val + rowBase t.1 + 32 := hi 0
  have h0' : 512 * t'.2.val + rowBase t'.1 ≤ (i 0).val ∧ (i 0).val < 512 * t'.2.val + rowBase t'.1 + 32 := hi' 0
  rw [rowBase_eq] at h0 h0'
  have := t.1.isLt; have := t'.1.isLt
  have e : 16 * t.2.val + (t.1.val / 2 + 8 * (t.1.val % 2)) = 16 * t'.2.val + (t'.1.val / 2 + 8 * (t'.1.val % 2)) := by omega
  have e2 : t.2.val = t'.2.val := by rcases Nat.mod_two_eq_zero_or_one t.1.val with h2 | h2 <;> rcases Nat.mod_two_eq_zero_or_one t'.1.val with h3 | h3 <;> omega
  have e1 : t.1.val = t'.1.val := by rcases Nat.mod_two_eq_zero_or_one t.1.val with h2 | h2 <;> rcases Nat.mod_two_eq_zero_or_one t'.1.val with h3 | h3 <;> omega
  exact h (Prod.ext (Fin.ext e1) (Fin.ext e2))

/-- The stream, the quarter and the place in a block of an element of the result. -/
def stI (i : S2048x2048.Idx) : Fin 16 := ⟨2 * ((i 0).val % 512 / 32 % 8) + (i 0).val % 512 / 32 / 8, by omega⟩
def rI (i : S2048x2048.Idx) : Fin 4 := ⟨(i 0).val / 512, by have : (i 0).val < 2048 := (i 0).isLt; omega⟩
def jI (i : S2048x2048.Idx) : S32x2048.Idx := fun a => match a with
  | 0 => ⟨(i 0).val % 32, Nat.mod_lt _ (by decide)⟩
  | 1 => ⟨(i 1).val, (i 1).isLt⟩

theorem oRect_cover : (Finset.univ.biUnion fun t : Fin 16 × Fin 4 => (oBR t).set) = Finset.univ := by
  refine Finset.eq_univ_iff_forall.mpr fun i => Finset.mem_biUnion.mpr ⟨(stI i, rI i), Finset.mem_univ _, ?_⟩
  rw [Rect.mem_set_unit]
  intro a
  have h0 : (i 0).val < 2048 := (i 0).isLt
  have h1 : (i 1).val < 2048 := (i 1).isLt
  fin_cases a
  · show 512 * (rI i).val + rowBase (stI i) ≤ (i 0).val ∧ (i 0).val < 512 * (rI i).val + rowBase (stI i) + 32
    rw [rowBase_eq]
    simp only [stI, rI]
    omega
  · exact ⟨Nat.zero_le _, by show (i 1).val < 0 + 2048; omega⟩

theorem block_idx (r : Fin 4) (st : Fin 16) (j : S32x2048.Idx) :
    stI ((oBR (st, r)).emb j) = st ∧ rI ((oBR (st, r)).emb j) = r ∧ jI ((oBR (st, r)).emb j) = j := by
  have e0 : (((oBR (st, r)).emb j) 0).val = 512 * r.val + rowBase st + 1 * (j 0).val := rfl
  have e1 : (((oBR (st, r)).emb j) 1).val = 0 + 1 * (j 1).val := rfl
  have hj : (j 0).val < 32 := (j 0).isLt
  have := st.isLt
  rw [rowBase_eq] at e0
  refine ⟨Fin.ext ?_, Fin.ext ?_, funext fun a => Fin.ext ?_⟩
  · have q : (((oBR (st, r)).emb j) 0).val % 512 / 32 = st.val / 2 + 8 * (st.val % 2) := by omega
    show 2 * ((((oBR (st, r)).emb j) 0).val % 512 / 32 % 8) + (((oBR (st, r)).emb j) 0).val % 512 / 32 / 8 = st.val
    rw [q]; omega
  · simp only [rI]; omega
  · fin_cases a
    · show (((oBR (st, r)).emb j) 0).val % 32 = (j 0).val
      omega
    · show (((oBR (st, r)).emb j) 1).val = (j 1).val
      omega

variable (A : Args F)

/-- A stream's blocks, quarter by quarter, are its blocks in the order of its ring. -/
theorem quarters_eq (c : Dev nD) (st : Fin 16) (Φ : Fin 4 → sProp 𝕄) :
    bigSep Finset.univ Φ = iprop(Φ (ob c st 0) ∗ Φ (ob c st 1) ∗ Φ (ob c st 2) ∗ Φ (ob c st 3)) := by
  rw [bigSep_univ_equiv (Equiv.ofBijective _ (ob_inj c st)) Φ, bigSep_four]
  rfl

/-- The product in the streams' blocks. -/
theorem split_out (c : Dev nD) :
    (((c : Thread nD τ).loc cc0_stg2_0) ↦{fullShare} (prodC A c) : sProp 𝕄) ⊢ bigSep Finset.univ fun st : Fin 16 => outU A c st := by
  refine BI.Entails.trans (Entails.of_eq (?_ : _ = bigSep Finset.univ fun t : Fin 16 × Fin 4 => owns (c : Thread nD τ) (oB t.2 t.1) fullShare (U A c t.1 t.2))) ?_
  · refine Eq.trans ?_ (pointsTo_rects (c : Thread nD τ) out fullShare oBR (fun _ _ => rfl) oRect_disj oRect_cover (prodC A c))
    rw [show (out : Memref sig .tc .vmem S2048x2048 .f32).view.set = Finset.univ from View.set_whole _]
  rw [bigSep_univ_prod]
  refine bigSep_mono fun st _ => ?_
  exact raw_eq <| quarters_eq c st fun r => owns (c : Thread nD τ) (oB r st) fullShare (U A c st r)

/-- The device whose total a block of the result holds. -/
def srcD (c : Dev nD) (st : Fin 16) (r : Fin 4) : Dev nD :=
  ⟨4 * (c.val / 4) + (bif fwd st then r.val + 3 else r.val + 1) % 4, by have : c.val < 16 := c.isLt; show _ < 16; omega⟩

theorem srcD_ob : ∀ (c : Dev nD) (st : Fin 16), srcD c st (ob c st 3) = back c st 0 ∧ srcD c st (ob c st 0) = back c st 1
    ∧ srcD c st (ob c st 1) = back c st 2 ∧ srcD c st (ob c st 2) = back c st 3 := by decide +kernel

/-- What a device's result holds in the end. -/
def resC (c : Dev nD) : (cc0_stg2_0 : Ref sig .tc).ty.Contents (Elt F) := fun i => tot A (srcD c (stI i) (rI i)) (stI i) (jI i)

theorem resC_block (c : Dev nD) (st : Fin 16) (r : Fin 4) : (fun j => resC A c ((oBR (st, r)).emb j)) = tot A (srcD c st r) st := by
  funext j
  obtain ⟨h1, h2, h3⟩ := block_idx r st j
  unfold resC
  rw [h1, h2, h3]

/-- The streams' blocks of the total are the result. -/
theorem join_out (c : Dev nD) :
    (bigSep Finset.univ fun st : Fin 16 => outT A c st) ⊢ (((c : Thread nD τ).loc cc0_stg2_0) ↦{fullShare} (resC A c) : sProp 𝕄) := by
  refine BI.Entails.trans ?_ (BI.Entails.trans (owns_of_rects (c : Thread nD τ) out fullShare oBR (fun _ _ => rfl) oRect_disj oRect_cover (resC A c)) (Entails.of_eq (owns_whole _ _ _ _)))
  rw [bigSep_univ_prod]
  refine bigSep_mono fun st _ => ?_
  refine BI.Entails.trans ?_ (bigSep_mono fun r _ => raw_eq (congrArg (owns (c : Thread nD τ) (oB r st) fullShare) (resC_block A c st r).symm))
  refine BI.Entails.trans ?_ (raw_eq (quarters_eq c st fun r => owns (c : Thread nD τ) (oB r st) fullShare (tot A (srcD c st r) st)).symm)
  obtain ⟨h3, h0, h1, h2⟩ := srcD_ob c st
  rw [h0, h1, h2, h3]
  have h : outT A c st ⊢ iprop(owns (c : Thread nD τ) (oB (ob c st 0) st) fullShare (tot A (back c st 1) st) ∗ owns (c : Thread nD τ) (oB (ob c st 1) st) fullShare (tot A (back c st 2) st)
      ∗ owns (c : Thread nD τ) (oB (ob c st 2) st) fullShare (tot A (back c st 3) st) ∗ owns (c : Thread nD τ) (oB (ob c st 3) st) fullShare (tot A (back c st 0) st)) := by
    unfold outT
    iintro ⟨H3, H0, H1, H2⟩
    iframe H0 H1 H2 H3
  exact h

/-! ## The two products -/

theorem off00 : (![0, 0] : Fin 2 → ℕ) = fun _ => 0 := by funext a; fin_cases a <;> rfl

/-- The operands' staging buffers. -/
def opsP (c : Dev nD) : sProp 𝕄 :=
  iprop((((c : Thread nD τ).loc cc0_stg0_0) ↦{fullShare} (A.x c)) ∗ (((c : Thread nD τ).loc cc0_stg1_0) ↦{fullShare} (A.w c)))
/-- The result's staging buffer. -/
abbrev outP (c : Dev nD) (f : Buf (Elt F) ((c : Thread nD τ).loc cc0_stg2_0)) : sProp 𝕄 := iprop(((c : Thread nD τ).loc cc0_stg2_0) ↦{fullShare} f)

abbrev qRect (c : Dev nD) : Rect S2048x2048 := Rect.unit (s := S2048x2048) (k0_off2 c) S512x2048.size (k0_off2_inb c)
/-- The result once the device's own quarter is stored. -/
def qOut (c : Dev nD) (f : (cc0_stg2_0 : Ref sig .tc).ty.Contents (Elt F)) : (cc0_stg2_0 : Ref sig .tc).ty.Contents (Elt F) :=
  ((out : Memref sig .tc .vmem S2048x2048 .f32).access (qRect c)).write (Elt F) f (quarterC A c) Finset.univ

theorem runQuarter (c : Dev nD) (f : Buf (Elt F) ((c : Thread nD τ).loc cc0_stg2_0)) (k : PT F) (Q : PUnit → sProp 𝕄) :
    iprop(opsP A c ∗ outP c f) ⊢ iprop((opsP A c ∗ outP c (qOut A c f) -∗ WP c k Q) -∗ WP c (quarter c k) Q) := by
  unfold opsP quarter
  iintro ⟨⟨Hx, Hw⟩, Ho⟩ Hk
  iapply (wp_load 𝒱₀ (c : Thread nD τ) none Set.univ (m := x0) (Finset.subset_univ _)) $$ Hx
  iintro Hx
  iapply (wp_load 𝒱₀ (c : Thread nD τ) none Set.univ (m := w0) (Finset.subset_univ _)) $$ Hw
  iintro Hw
  rw [show (w0 : Memref sig .tc .vmem S128x2048 .f32).view.readAt (Elt F) (Rect.unit (s := S128x2048) ![0, 0] S128x2048.size inb_S128x2048_S128x2048_0_0).toLoadRect (A.w c) = A.w c
    from Memref.readAt_unit_zero (Elt F) cc0_stg1_0 off00 _ _]
  iapply (wp_load 𝒱₀ (c : Thread nD τ) none Set.univ (m := out) (Finset.subset_univ _)) $$ Ho
  iintro Ho
  iapply (wp_store 𝒱₀ (c : Thread nD τ) none Set.univ (m := out) (r := qRect c) (Mk := Finset.univ) (Finset.subset_univ _)) $$ Ho
  iintro Ho
  iapply Hk
  isplitl [Hx Hw]
  · isplitl [Hx]; · iexact Hx
    iexact Hw
  iexact Ho

theorem runProduct (c : Dev nD) (f : Buf (Elt F) ((c : Thread nD τ).loc cc0_stg2_0)) (k : PT F) (Q : PUnit → sProp 𝕄) :
    iprop(opsP A c ∗ outP c f) ⊢ iprop((opsP A c ∗ outP c (prodC A c) -∗ WP c k Q) -∗ WP c (product k) Q) := by
  unfold opsP product
  iintro ⟨⟨Hx, Hw⟩, Ho⟩ Hk
  iapply (wp_load 𝒱₀ (c : Thread nD τ) none Set.univ (m := x0) (Finset.subset_univ _)) $$ Hx
  iintro Hx
  rw [show (x0 : Memref sig .tc .vmem S2048x128 .f32).view.readAt (Elt F) (Rect.unit (s := S2048x128) ![0, 0] S2048x128.size inb_S2048x128_S2048x128_0_0).toLoadRect (A.x c) = A.x c
    from Memref.readAt_unit_zero (Elt F) cc0_stg0_0 off00 _ _]
  iapply (wp_load 𝒱₀ (c : Thread nD τ) none Set.univ (m := w0) (Finset.subset_univ _)) $$ Hw
  iintro Hw
  rw [show (w0 : Memref sig .tc .vmem S128x2048 .f32).view.readAt (Elt F) (Rect.unit (s := S128x2048) ![0, 0] S128x2048.size inb_S128x2048_S128x2048_0_0).toLoadRect (A.w c) = A.w c
    from Memref.readAt_unit_zero (Elt F) cc0_stg1_0 off00 _ _]
  iapply (wp_load 𝒱₀ (c : Thread nD τ) none Set.univ (m := out) (Finset.subset_univ _)) $$ Ho
  iintro Ho
  iapply (wp_store 𝒱₀ (c : Thread nD τ) none Set.univ (m := out) (r := Rect.unit (s := S2048x2048) ![0, 0] S2048x2048.size inb_S2048x2048_S2048x2048_0_0) (Mk := Finset.univ) (Finset.subset_univ _)) $$ Ho
  iintro Ho
  rw [show ((out : Memref sig .tc .vmem S2048x2048 .f32).access (Rect.unit (s := S2048x2048) ![0, 0] S2048x2048.size inb_S2048x2048_S2048x2048_0_0)).write (Elt F) f (k0_pay23 (k0_pay22 (A.x c)) (A.w c)) Finset.univ = prodC A c
    from Memref.write_access_unit_zero_univ (Elt F) cc0_stg2_0 off00 _ _ _]
  iapply Hk
  isplitl [Hx Hw]
  · isplitl [Hx]; · iexact Hx
    iexact Hw
  iexact Ho

theorem off2_eq : ∀ c : Dev nD, k0_off2 c 0 = 512 * (c.val % 4) ∧ k0_off2 c 1 = 0 := by decide +kernel

/-- The rows of a stream read from the stored quarter. -/
theorem qOut_read (c : Dev nD) (st : Fin 16) (f : (cc0_stg2_0 : Ref sig .tc).ty.Contents (Elt F)) :
    (out : Memref sig .tc .vmem S2048x2048 .f32).view.readAt (Elt F) (oRect (offOwn0 c st) (offOwn0_inb c st)).toLoadRect (qOut A c f) = Uq A c st := by
  funext j
  have he : (oRect (offOwn0 c st) (offOwn0_inb c st)).emb j = (qRect c).emb ((Rect.unit (s := S512x2048) ![rowBase st, 0] S32x2048.size (qB_inb st)).emb j) := by
    funext a
    refine Fin.ext ?_
    fin_cases a
    · show offOwn0 c st 0 + 1 * (j 0).val = k0_off2 c 0 + 1 * (rowBase st + 1 * (j 0).val)
      rw [(offOwn0_eq c st).1, (off2_eq c).1]; omega
    · show offOwn0 c st 1 + 1 * (j 1).val = k0_off2 c 1 + 1 * (0 + 1 * (j 1).val)
      rw [(offOwn0_eq c st).2, (off2_eq c).2]; omega
  show (out : Memref sig .tc .vmem S2048x2048 .f32).view.read (Elt F) (qOut A c f) ((oRect (offOwn0 c st) (offOwn0_inb c st)).emb j) = _
  rw [he]
  exact View.read_slice_write_emb (v := (out : Memref sig .tc .vmem S2048x2048 .f32).view) (qRect c) f (quarterC A c) (Finset.mem_univ _)

theorem wp_ldQ (c : Dev nD) (st : Fin 16) (f : (cc0_stg2_0 : Ref sig .tc).ty.Contents (Elt F)) (k : V32 F → PT F) (Q : PUnit → sProp 𝕄) :
    outP c (qOut A c f) ⊢ iprop((outP c (qOut A c f) -∗ WP c (k (Uq A c st)) Q) -∗ WP c (ldO (offOwn0 c st) (offOwn0_inb c st) k) Q) := by
  unfold ldO
  iintro Ho Hk
  iapply (wp_load 𝒱₀ (c : Thread nD τ) none Set.univ (m := out) (Finset.subset_univ _)) $$ Ho
  iintro Ho
  rw [qOut_read]
  iapply Hk $$ Ho

end Cert.AllReduce
-- ==== Proof.Body.lean ====
/-
A device's whole run: the products, the meeting with its neighbours, the rounds, the ends.
-/
module

public import proofs.«01_k».proof.Proof.Round
public import proofs.«01_k».proof.Proof.Buf

@[expose] public section

set_option maxRecDepth 20000

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig Unit (Elt F) ℕ UU ℕ

/-! ## What a device is dealt -/

/-- The rights to pay, of a stream. -/
def toksP (c : Dev nD) (st : Fin 16) : sProp 𝕄 :=
  iprop((tok c (st, .aS 0) 0 ∗ tok c (st, .aS 1) 0 ∗ tok c (st, .aS 2) 0) ∗ (tok (nextD c st) (st, .aR 0) 0 ∗ tok (nextD c st) (st, .aR 1) 0 ∗ tok (nextD c st) (st, .aR 2) 0)
    ∗ (tok (prevD c st) (st, .cr) 0 ∗ tok (prevD c st) (st, .cr) 1 ∗ tok (prevD c st) (st, .cr) 2)
    ∗ (tok c (st, .bS 0) 0 ∗ tok (upD c) (st, .bR 0) 0) ∗ (tok c (st, .bS 1) 0 ∗ tok (dnD c) (st, .bR 1) 0)
    ∗ (tok c (st, .cS 0) 0 ∗ tok c (st, .cS 1) 0 ∗ tok c (st, .cS 2) 0) ∗ (tok (nextD c st) (st, .cR 0) 0 ∗ tok (nextD c st) (st, .cR 1) 0 ∗ tok (nextD c st) (st, .cR 2) 0))
/-- The units to wait for, of a stream. -/
def crdsP (c : Dev nD) (st : Fin 16) : sProp 𝕄 :=
  iprop((crd c (st, .aR 0) N ∗ crd c (st, .aR 1) N ∗ crd c (st, .aR 2) N) ∗ (onP (0 < row c) (crd c (st, .bR 0) N) ∗ onP (row c < 3) (crd c (st, .bR 1) N))
    ∗ (crd c (st, .cr) 1 ∗ crd c (st, .cr) 1 ∗ crd c (st, .cr) 1) ∗ (crd c (st, .cR 0) N ∗ crd c (st, .cR 1) N ∗ crd c (st, .cR 2) N))
/-- A stream's ghost state. -/
def linP (c : Dev nD) (st : Fin 16) : sProp 𝕄 :=
  iprop((bigSep Finset.univ fun k : Kind => pos c (st, k)) ∗ toksP c st ∗ crdsP c st ∗ readerAt ES (c, st) 0 ∗ writeTok ES (nextD c st, st) 1)
/-- A stream's buffers once the neighbours have met. -/
def memP (c : Dev nD) (st : Fin 16) : sProp 𝕄 :=
  iprop(anyOf c (aMem st 0) fullShare ∗ slotsA (nextD c st) st ∗ onP (row c < 3) (anyOf (upD c) (preMem st) fullShare) ∗ onP (0 < row c) (anyOf (dnD c) (sufMem st) fullShare)
    ∗ onP (row c = 0) (anyOf c (preMem st) fullShare) ∗ onP (row c = 3) (owns (c : Thread nD τ) (sufMem st) fullShare (zero32 : V32 F)))

theorem freshFrom_all (c : Dev nD) (st : Fin 16) : (freshFrom c st 0 : sProp 𝕄)
    = iprop(fresh0 c st ∗ fresh1 c st ∗ fresh2 c st ∗ fresh3 c st ∗ fresh4 c st ∗ fresh5 c st ∗ fresh6 c st ∗ fresh7 c st ∗ fresh8 c st ∗ fresh9 c st) := by
  rw [freshFrom_step c st (show 0 < 10 by decide), freshFrom_step c st (show 0 + 1 < 10 by decide), freshFrom_step c st (show 0 + 1 + 1 < 10 by decide),
    freshFrom_step c st (show 0 + 1 + 1 + 1 < 10 by decide), freshFrom_step c st (show 0 + 1 + 1 + 1 + 1 < 10 by decide),
    freshFrom_step c st (show 0 + 1 + 1 + 1 + 1 + 1 < 10 by decide), freshFrom_step c st (show 0 + 1 + 1 + 1 + 1 + 1 + 1 < 10 by decide),
    freshFrom_step c st (show 0 + 1 + 1 + 1 + 1 + 1 + 1 + 1 < 10 by decide), freshFrom_step c st (show 0 + 1 + 1 + 1 + 1 + 1 + 1 + 1 + 1 < 10 by decide),
    show 0 + 1 + 1 + 1 + 1 + 1 + 1 + 1 + 1 + 1 = 9 from rfl, freshFrom_last]
  rfl

theorem fresh_intro (c : Dev nD) (st : Fin 16) : iprop(linP c st ∗ memP c st) ⊢ (freshFrom c st 0 : sProp 𝕄) := by
  rw [freshFrom_all]
  unfold linP memP toksP crdsP slotsA fresh0 fresh1 fresh2 fresh3 fresh4 fresh5 fresh6 fresh7 fresh8 fresh9
  rw [Kind.univ_bigSep]
  have hr := row_lt c
  rcases (by omega : row c = 0 ∨ mid c ∨ row c = 3) with h | h | h
  · have h1 : ¬row c = 3 := by omega
    have h2 : ¬mid c := fun hh => by have := hh.1; omega
    have h3 : row c < 3 := by omega
    have h4 : ¬0 < row c := by omega
    simp only [onP_pos h, onP_neg h1, onP_neg h2, onP_pos h3, onP_neg h4]
    iintro ⟨⟨⟨PaS0, PaS1, PaS2, PaR0, PaR1, PaR2, PbS0, PbS1, PbR0, PbR1, PcS0, PcS1, PcS2, PcR0, PcR1, PcR2, Pcr⟩,
      ⟨⟨T1, T2, T3⟩, ⟨T4, T5, T6⟩, T7, ⟨T8, T9⟩, ⟨T10, T11⟩, ⟨T12, T13, T14⟩, T15, T16, T17⟩,
      ⟨⟨C1, C2, C3⟩, ⟨C4, C5⟩, ⟨C6, C7, C8⟩, C9, C10, C11⟩, Rd, Wt⟩, Ma0, ⟨Ma1, Ma2, Ma3⟩, Mup, Mdn, Mpre, Msuf⟩
    iframe PaS0 PaS1 PaS2 PaR0 PaR1 PaR2 PbS0 PbS1 PbR0 PbR1 PcS0 PcS1 PcS2 PcR0 PcR1 PcR2 Pcr T1 T2 T3 T4 T5 T6 T7 T8 T9 T12 T13 T14 T15 T16 T17 C1 C2 C3 C5 C6 C7 C8 C9 C10 C11 Rd Wt Ma0 Ma1 Ma2 Ma3 Mup Mpre
    isplitr <;> iempintro
  · have h1 : ¬row c = 3 := by have := h.2; omega
    have h2 : ¬row c = 0 := by have := h.1; omega
    simp only [onP_pos h, onP_neg h1, onP_neg h2, onP_pos h.1, onP_pos h.2]
    iintro ⟨⟨⟨PaS0, PaS1, PaS2, PaR0, PaR1, PaR2, PbS0, PbS1, PbR0, PbR1, PcS0, PcS1, PcS2, PcR0, PcR1, PcR2, Pcr⟩,
      ⟨⟨T1, T2, T3⟩, ⟨T4, T5, T6⟩, T7, ⟨T8, T9⟩, ⟨T10, T11⟩, ⟨T12, T13, T14⟩, T15, T16, T17⟩,
      ⟨⟨C1, C2, C3⟩, ⟨C4, C5⟩, ⟨C6, C7, C8⟩, C9, C10, C11⟩, Rd, Wt⟩, Ma0, ⟨Ma1, Ma2, Ma3⟩, Mup, Mdn, Mpre, Msuf⟩
    iframe PaS0 PaS1 PaS2 PaR0 PaR1 PaR2 PbS0 PbS1 PbR0 PbR1 PcS0 PcS1 PcS2 PcR0 PcR1 PcR2 Pcr T1 T2 T3 T4 T5 T6 T7 T8 T9 T10 T11 T12 T13 T14 T15 T16 T17 C1 C2 C3 C4 C5 C6 C7 C8 C9 C10 C11 Rd Wt Ma0 Ma1 Ma2 Ma3 Mup Mdn
    isplitr <;> iempintro
  · have h1 : ¬row c = 0 := by omega
    have h2 : ¬mid c := fun hh => by have := hh.2; omega
    have h3 : ¬row c < 3 := by omega
    have h4 : 0 < row c := by omega
    simp only [onP_pos h, onP_neg h1, onP_neg h2, onP_neg h3, onP_pos h4]
    iintro ⟨⟨⟨PaS0, PaS1, PaS2, PaR0, PaR1, PaR2, PbS0, PbS1, PbR0, PbR1, PcS0, PcS1, PcS2, PcR0, PcR1, PcR2, Pcr⟩,
      ⟨⟨T1, T2, T3⟩, ⟨T4, T5, T6⟩, T7, ⟨T8, T9⟩, ⟨T10, T11⟩, ⟨T12, T13, T14⟩, T15, T16, T17⟩,
      ⟨⟨C1, C2, C3⟩, ⟨C4, C5⟩, ⟨C6, C7, C8⟩, C9, C10, C11⟩, Rd, Wt⟩, Ma0, ⟨Ma1, Ma2, Ma3⟩, Mup, Mdn, Mpre, Msuf⟩
    iframe PaS0 PaS1 PaS2 PaR0 PaR1 PaR2 PbS0 PbS1 PbR0 PbR1 PcS0 PcS1 PcS2 PcR0 PcR1 PcR2 Pcr T1 T2 T3 T4 T5 T6 T7 T10 T11 T12 T13 T14 T15 T16 T17 C1 C2 C3 C4 C6 C7 C8 C9 C10 C11 Rd Wt Ma0 Ma1 Ma2 Ma3 Mdn Msuf

/-! ## The suffix buffers set to zero -/

theorem runZero (c : Dev nD) (k : PT F) (Q : PUnit → sProp 𝕄) : ∀ n, n ≤ 16 →
    bigSep Finset.univ (fun s : Fin 16 => if s.val < 16 - n then owns (c : Thread nD τ) (sufMem s) fullShare (zero32 : V32 F) else anyOf c (sufMem s) fullShare)
      ⊢ iprop((bigSep Finset.univ (fun s : Fin 16 => owns (c : Thread nD τ) (sufMem s) fullShare (zero32 : V32 F)) -∗ WP c k Q) -∗ WP c (zeroFrom n k) Q)
  | 0, _ => by
    rw [bigSep_congr (s := Finset.univ) (fun (s : Fin 16) _ => show (if s.val < 16 - 0 then owns (c : Thread nD τ) (sufMem s) fullShare (zero32 : V32 F) else anyOf c (sufMem s) fullShare)
      = owns (c : Thread nD τ) (sufMem s) fullShare (zero32 : V32 F) from if_pos (by have := s.isLt; omega))]
    show _ ⊢ iprop(_ -∗ WP c k Q)
    iintro H Hk
    iapply Hk $$ H
  | n + 1, hn => by
    have hl : 15 - n < 16 := by omega
    have ih := runZero c k Q n (by omega)
    show _ ⊢ iprop(_ -∗ WP c (ldB bsuf ⟨15 - n, hl⟩ fun _ => stB ⟨15 - n, hl⟩ (mkB zero32) (zeroFrom n k)) Q)
    have e1 : bigSep Finset.univ (fun s : Fin 16 => if s.val < 16 - (n + 1) then owns (c : Thread nD τ) (sufMem s) fullShare (zero32 : V32 F) else anyOf c (sufMem s) fullShare)
        = iprop(anyOf c (sufMem ⟨15 - n, hl⟩) fullShare ∗ bigSep (Finset.univ.erase ⟨15 - n, hl⟩) (fun s : Fin 16 => if s.val < 16 - (n + 1) then owns (c : Thread nD τ) (sufMem s) fullShare (zero32 : V32 F) else anyOf c (sufMem s) fullShare)) := by
      refine (bigSep_univ_split ⟨15 - n, hl⟩).trans ?_
      rw [if_neg (by show ¬(15 - n < 16 - (n + 1)); omega)]; rfl
    have e2 : bigSep Finset.univ (fun s : Fin 16 => if s.val < 16 - n then owns (c : Thread nD τ) (sufMem s) fullShare (zero32 : V32 F) else anyOf c (sufMem s) fullShare)
        = iprop(owns (c : Thread nD τ) (sufMem ⟨15 - n, hl⟩) fullShare (zero32 : V32 F) ∗ bigSep (Finset.univ.erase ⟨15 - n, hl⟩) (fun s : Fin 16 => if s.val < 16 - (n + 1) then owns (c : Thread nD τ) (sufMem s) fullShare (zero32 : V32 F) else anyOf c (sufMem s) fullShare)) := by
      refine (bigSep_univ_split ⟨15 - n, hl⟩).trans ?_
      rw [if_pos (by show 15 - n < 16 - n; omega)]
      refine congrArg (BI.sep _) (bigSep_congr fun s hs => ?_)
      have hv : s.val ≠ 15 - n := fun h => Finset.ne_of_mem_erase hs (Fin.ext h)
      by_cases h : s.val < 15 - n
      · rw [if_pos (by omega), if_pos (by omega)]
      · rw [if_neg (by omega), if_neg (by omega)]
    rw [e1]
    rw [e2] at ih
    iintro ⟨H1, H2⟩ Hk
    icases (Entails.of_eq (show anyOf c (sufMem ⟨15 - n, hl⟩) fullShare = iprop(∃ v : V32 F, owns (c : Thread nD τ) (sufMem ⟨15 - n, hl⟩) fullShare v) from rfl)) $$ H1 with ⟨%v, H1⟩
    iapply (wp_ldSuf c ⟨15 - n, hl⟩ fullShare v _ Q) $$ H1
    iintro H1
    iapply (wp_stSuf c ⟨15 - n, hl⟩ v zero32 _ Q) $$ H1
    iintro H1
    iapply ih $$ [H1 H2] Hk
    isplitl [H1]; · iexact H1
    iexact H2

theorem onP_split (P P' : Prop) [Decidable P] [Decidable P'] (h : P ↔ ¬P') (X : sProp 𝕄) : X ⊢ iprop(onP P X ∗ onP P' X) := by
  by_cases hp : P'
  · rw [onP_neg (fun hh => h.mp hh hp), onP_pos hp]
    iintro H; isplitr; · iempintro
    iexact H
  · rw [onP_pos (h.mpr hp), onP_neg hp]
    iintro H; isplitl; · iexact H
    iempintro

theorem onP_none {P : Prop} [Decidable P] (h : ¬P) (X : Fin 16 → sProp 𝕄) : iprop(emp) ⊢ bigSep Finset.univ fun s => onP P (X s) := by
  have e : (bigSep Finset.univ fun s => onP P (X s)) = bigSep Finset.univ fun _ : Fin 16 => (iprop(emp) : sProp 𝕄) := bigSep_congr fun s _ => onP_neg h
  rw [e]
  exact Entails.of_eq (bigSep_emp_const _).symm
theorem onP_every {P : Prop} [Decidable P] (h : P) (X : Fin 16 → sProp 𝕄) : (bigSep Finset.univ fun s => X s) ⊢ bigSep Finset.univ fun s => onP P (X s) :=
  Entails.of_eq (bigSep_congr fun s _ => (onP_pos h).symm)

/-- The zeroing, where it happens: the lower planes' suffix buffers stay as they are. -/
theorem runZeroP (c : Dev nD) (k : PT F) (Q : PUnit → sProp 𝕄) :
    bigSep Finset.univ (fun s : Fin 16 => anyOf c (sufMem s) fullShare)
      ⊢ iprop((bigSep Finset.univ (fun s : Fin 16 => onP (row c = 3) (owns (c : Thread nD τ) (sufMem s) fullShare (zero32 : V32 F)))
          ∗ bigSep Finset.univ (fun s : Fin 16 => onP (row c < 3) (anyOf c (sufMem s) fullShare)) -∗ WP c k Q) -∗ WP c (whenP (cLast c) (zeroFrom 16) k) Q) := by
  have hr := row_lt c
  by_cases h : row c = 3
  · have h3 : ¬row c < 3 := by omega
    rw [whenP_pos ((cLast_iff c).mpr h)]
    have hz := runZero c k Q 16 (le_refl _)
    rw [bigSep_congr (s := Finset.univ) (fun (s : Fin 16) _ => show (if s.val < 16 - 16 then owns (c : Thread nD τ) (sufMem s) fullShare (zero32 : V32 F) else anyOf c (sufMem s) fullShare)
      = anyOf c (sufMem s) fullShare from if_neg (by omega))] at hz
    iintro H Hk
    iapply hz $$ H
    iintro H
    iapply Hk
    isplitl
    · iapply (onP_every h _) $$ H
    iapply (onP_none h3 _)
    iempintro
  · have h3 : row c < 3 := by omega
    rw [whenP_neg (fun hh => h ((cLast_iff c).mp hh))]
    iintro H Hk
    iapply Hk
    isplitr
    · iapply (onP_none h _)
      iempintro
    iapply (onP_every h3 _) $$ H

/-! ## The meeting -/

/-- What a device owes when it starts. -/
def O₀ (c : Dev nD) : CellTallies nD τ sig Unit :=
  (((∑ s, debtFrom c s 0) + tallyAt (cell (dnD c, none)) () 1) + tallyAt (cell (upD c, none)) () 1 + tallyAt (cell (rgtD c, none)) () 1) + tallyAt (cell (lftD c, none)) () 1

/-- The barrier's ghost state. -/
def barL (c : Dev nD) : sProp 𝕄 :=
  iprop((dutyTok ER (cell (lftD c, none)) 0 0 ∗ dutyTok ER (cell (rgtD c, none)) 0 1 ∗ dutyTok ER (cell (upD c, none)) 0 3 ∗ dutyTok ER (cell (dnD c, none)) 0 2)
    ∗ cred (tallyAt (cell (c, none)) () 4) ∗ atPos ER (cell (c, none)) 0 ∅ 0)

theorem debts_above (c : Dev nD) : Above 1 (∑ s, debtFrom c s 0) :=
  above_sum _ _ fun s _ => by
    rw [debtFrom_step c s (by decide : 0 < 9)]
    exact above_add (above_cell _ _ _ (by show 1 < 8 * tm s 0 + 4; omega)) (above_mono (by unfold tm; omega) (debtFrom_above c s 1))

theorem next_intro (c : Dev nD) (st : Fin 16) :
    iprop(onP (fwd st = true) (slotsA (rgtD c) st) ∗ onP (fwd st = false) (slotsA (lftD c) st)) ⊢ (slotsA (nextD c st) st : sProp 𝕄) := by
  unfold nextD
  cases h : fwd st
  · rw [onP_neg (by decide), onP_pos rfl, cond_false]
    iintro ⟨-, H⟩; iexact H
  · rw [onP_pos rfl, onP_neg (by decide), cond_true]
    iintro ⟨H, -⟩; iexact H

variable {A : Args F} {KC : Dev nD × Option SK → ℕ} {KS : Key → ℕ}

/-- The four signals and the wait: a device's buffers go to its neighbours, and it gets theirs. -/
theorem runMeet (c : Dev nD) (k : PT F) (Q : PUnit → sProp 𝕄) :
    iprop(recs A KC KS ∗ barL c ∗ owesE c (O₀ c)
        ∗ (bigSep Finset.univ fun st : Fin 16 => slots4 c st) ∗ (bigSep Finset.univ fun st : Fin 16 => anyOf c (preMem st) fullShare)
        ∗ (bigSep Finset.univ fun s : Fin 16 => onP (row c = 3) (owns (c : Thread nD τ) (sufMem s) fullShare (zero32 : V32 F)))
        ∗ (bigSep Finset.univ fun s : Fin 16 => onP (row c < 3) (anyOf c (sufMem s) fullShare)))
      ⊢ iprop((owesE c (∑ s, debtFrom c s 0) ∗ semVal (cell (c, none)) 0 ∗ (bigSep Finset.univ fun st : Fin 16 => memP c st) -∗ WP c k Q)
          -∗ WP c (signal (lftD c) barS 1#32 <| signal (rgtD c) barS 1#32 <| signal (upD c) barS 1#32 <| signal (dnD c) barS 1#32 <| await barS 4#32 k) Q) := by
  have hr := row_lt c
  have e4 : (bigSep Finset.univ fun st : Fin 16 => slots4 (F := F) c st)
      ⊢ iprop((bigSep Finset.univ fun st : Fin 16 => anyOf c (aMem st 0) fullShare) ∗ barPay (lftD c) 0 ∗ barPay (rgtD c) 1) := by
    refine BI.Entails.trans (bigSep_mono (Ψ := fun st : Fin 16 => iprop(anyOf c (aMem st 0) fullShare ∗ onP (fwd st = true) (slotsA c st) ∗ onP (fwd st = false) (slotsA c st))) fun st _ =>
      show slots4 c st ⊢ iprop(anyOf c (aMem st 0) fullShare ∗ onP (fwd st = true) (slotsA c st) ∗ onP (fwd st = false) (slotsA c st)) from
        sep_mono_right (onP_split _ _ (by cases fwd st <;> decide) (slotsA c st))) (raw_eq ?_)
    rw [bigSep_sep', bigSep_sep']
    unfold barPay
    simp only [rgt_lft, lft_rgt]
  have ep : (bigSep Finset.univ fun st : Fin 16 => anyOf (F := F) c (preMem st) fullShare)
      ⊢ iprop(barPay (dnD c) 2 ∗ (bigSep Finset.univ fun st : Fin 16 => onP (row c = 0) (anyOf c (preMem st) fullShare))) := by
    refine BI.Entails.trans (bigSep_mono (Ψ := fun st : Fin 16 => iprop(onP (row (dnD c) < 3) (anyOf c (preMem st) fullShare) ∗ onP (row c = 0) (anyOf c (preMem st) fullShare))) fun st _ =>
      onP_split _ _ (by
        constructor
        · intro h h'; rw [row_dn0 c h'] at h; omega
        · intro h; have := row_dn c (by omega); omega) _) (raw_eq ?_)
    rw [bigSep_sep']
    unfold barPay
    simp only [up_dn]
  have es : (bigSep Finset.univ fun s : Fin 16 => onP (row c < 3) (anyOf (F := F) c (sufMem s) fullShare)) ⊢ barPay (upD c) 3 := by
    refine raw_eq ?_
    unfold barPay
    simp only [dn_up]
    by_cases h : row c < 3
    · have h' : 0 < row (upD c) := by rw [row_up c h]; omega
      simp only [onP_pos h, onP_pos h']
    · have h' : ¬0 < row (upD c) := by rw [row_up3 c (by omega)]; omega
      simp only [onP_neg h, onP_neg h']
  have eb : iprop((bigSep Finset.univ fun st : Fin 16 => anyOf c (aMem st 0) fullShare) ∗ (barPay c 0 ∗ barPay c 1 ∗ barPay c 2 ∗ barPay c 3)
        ∗ (bigSep Finset.univ fun st : Fin 16 => onP (row c = 0) (anyOf c (preMem st) fullShare))
        ∗ (bigSep Finset.univ fun s : Fin 16 => onP (row c = 3) (owns (c : Thread nD τ) (sufMem s) fullShare (zero32 : V32 F))))
      ⊢ bigSep Finset.univ fun st : Fin 16 => memP c st := by
    unfold barPay memP
    rw [bigSep_sep', bigSep_sep', bigSep_sep', bigSep_sep', bigSep_sep']
    have en : iprop((bigSep Finset.univ fun st : Fin 16 => onP (fwd st = true) (slotsA (F := F) (rgtD c) st)) ∗ (bigSep Finset.univ fun st : Fin 16 => onP (fwd st = false) (slotsA (lftD c) st)))
        ⊢ bigSep Finset.univ fun st : Fin 16 => slotsA (nextD c st) st := by
      rw [← bigSep_sep']
      exact bigSep_mono fun st _ => next_intro c st
    iintro ⟨Ha, ⟨H0, H1, H2, H3⟩, Hp, Hs⟩
    ihave Hn := en $$ [H0 H1]
    · isplitl [H0]; · iexact H0
      iexact H1
    iframe Ha Hn H2 H3 Hp Hs
  unfold barL O₀
  iintro ⟨#Hr, ⟨⟨Tl, Tr, Tu, Td⟩, Hc, Hpos⟩, Ho, H4, Hp, Hz, Hs⟩ Hk
  icases e4 $$ H4 with ⟨Ha0, Hl, Hrt⟩
  icases ep $$ Hp with ⟨Hd, Hp0⟩
  ihave Hu := es $$ Hs
  iapply (wp_signalB A KC KS c (lftD c) 0 _ _ Q) $$ [Ho Tl Hl]
  · iframe Hr Ho Tl Hl
  iintro Ho
  iapply (wp_signalB A KC KS c (rgtD c) 1 _ _ Q) $$ [Ho Tr Hrt]
  · iframe Hr Ho Tr Hrt
  iintro Ho
  iapply (wp_signalB A KC KS c (upD c) 3 _ _ Q) $$ [Ho Tu Hu]
  · iframe Hr Ho Tu Hu
  iintro Ho
  iapply (wp_signalB A KC KS c (dnD c) 2 _ _ Q) $$ [Ho Td Hd]
  · iframe Hr Ho Td Hd
  iintro Ho
  iapply (wp_awaitB A KC KS c _ (debts_above c) k Q) $$ [Ho Hc Hpos]
  · iframe Hr Ho Hc Hpos
  iintro ⟨Ho, Hv, Hb⟩
  iapply Hk
  isplitl [Ho]; · iexact Ho
  isplitl [Hv]; · iexact Hv
  iapply eb
  iframe Ha0 Hb Hp0 Hz

/-! ## The first round -/

theorem round0_eq (d : Dev nD) (k : PT F) : roundFrom d 0 16 k = stage d 0 0 (stage d 1 0 k) := rfl

/-- A stream before the whole product is stored: it holds none of the result. -/
def pre0 (c : Dev nD) (st : Fin 16) (j : ℕ) : sProp 𝕄 := iprop((bif Nat.ble j 0 then iprop(emp) else hold1 c st) ∗ freshFrom c st j)

/-- The stages run so far when the first `m` streams have made their first transfer. -/
def firstP (m : ℕ) (st : Fin 16) : ℕ := if st.val < m then 1 else 0

theorem firstP_two : firstP 2 = posn 1 := by funext s; unfold firstP posn; split <;> omega

theorem runFirst (c : Dev nD) (st : Fin 16) (h2 : st.val < 2) (f : Buf (Elt F) ((c : Thread nD τ).loc cc0_stg2_0)) (k : PT F) (Q : PUnit → sProp 𝕄) :
    iprop(recs A KC KS ∗ outP c (qOut A c f) ∗ bigSep Finset.univ (fun s => pre0 c s (firstP st.val s)) ∗ owesE c (∑ s, debtFrom c s (firstP st.val s)))
      ⊢ iprop((outP c (qOut A c f) ∗ bigSep Finset.univ (fun s => pre0 c s (firstP (st.val + 1) s)) ∗ owesE c (∑ s, debtFrom c s (firstP (st.val + 1) s)) -∗ WP c k Q)
        -∗ WP c (stage c st 0 k) Q) := by
  have e0 : firstP st.val st = 0 := if_neg (Nat.lt_irrefl _)
  have e1 : firstP (st.val + 1) st = 1 := if_pos (Nat.lt_succ_self _)
  have ha := advance (A := A) (KC := KC) (KS := KS) c (pre0 c) (outP c (qOut A c f)) (firstP st.val) (firstP (st.val + 1)) st
    (by rw [e0]; decide) (fun s hs _ => by
      have hv : s.val ≠ st.val := fun h => hs (Fin.ext h)
      rw [e0]; unfold firstP tm
      split <;> omega) (by rw [e0, e1]) (fun s hs => by
      have hv : s.val ≠ st.val := fun h => hs (Fin.ext h)
      unfold firstP
      by_cases h : s.val < st.val
      · rw [if_pos h, if_pos (by omega)]
      · rw [if_neg h, if_neg (by omega)]) k Q
  rw [e0] at ha
  refine ha fun R _ => ?_
  unfold pre0
  rw [freshFrom_step c st (show 0 < 10 by decide), show Nat.ble 0 0 = true from rfl, show Nat.ble (0 + 1) 0 = false from rfl, cond_true, cond_false]
  have hf : (fresh c st 0 : sProp 𝕄) ⊢ fresh0 c st := BI.Entails.refl _
  iintro ⟨#Hr, HB, ⟨-, Hf, Hff⟩, Ho⟩ Hk
  ihave Hf := hf $$ Hf
  iapply (run0 c st (Uq A c st) (by
    show _ = unO (bif Nat.ble 2 st.val then U A c st (ob c st 0) else Uq A c st)
    rw [show Nat.ble 2 st.val = false from Bool.eq_false_iff.mpr fun h => by have := Nat.le_of_ble_eq_true h; omega]; rfl)
    (outP c (qOut A c f)) R k Q (fun k' => wp_ldQ A c st f k' Q)) $$ [HB Hf Ho]
  · isplitr; · iexact Hr
    isplitl [HB]; · iexact HB
    isplitl [Hf]; · iexact Hf
    iexact Ho
  iintro ⟨HB, Hh, Ho⟩
  iapply Hk
  iframe HB Hh Hff Ho

/-- With the product's blocks, the streams are where the rounds take them up. -/
theorem strms_intro (c : Dev nD) :
    iprop((bigSep Finset.univ fun st : Fin 16 => outU A c st) ∗ bigSep Finset.univ (fun s => pre0 c s (posn 1 s))) ⊢ bigSep Finset.univ (fun s => strm A c s (posn 1 s)) := by
  rw [← bigSep_sep']
  refine bigSep_mono fun s _ => ?_
  have h : iprop(outU A c s ∗ pre0 c s (posn 1 s)) ⊢ strm A c s (posn 1 s) := by
    unfold pre0 strm
    rcases (by unfold posn; omega : posn 1 s = 0 ∨ posn 1 s = 1) with h | h
    · rw [h]
      show iprop(outU A c s ∗ emp ∗ freshFrom c s 0) ⊢ iprop(outU A c s ∗ freshFrom c s 0)
      iintro ⟨H1, -, H2⟩
      iframe H1 H2
    · rw [h]
      show iprop(outU A c s ∗ hold1 c s ∗ freshFrom c s 1) ⊢ iprop((outU A c s ∗ hold1 c s) ∗ freshFrom c s 1)
      iintro ⟨H1, H3, H2⟩
      iframe H1 H2 H3
  exact h

/-! ## The whole body -/

/-- The scratch buffers, at some contents. -/
def scrP (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

theorem fin_split (c : Dev nD) (f0 : Buf (Elt F) ((c : Thread nD τ).loc cc0_scratch0)) (f1 : Buf (Elt F) ((c : Thread nD τ).loc cc0_scratch1)) (f2 : Buf (Elt F) ((c : Thread nD τ).loc cc0_scratch2)) :
    bigSep Finset.univ (fun s => fin A c s) ⊢ iprop((bigSep Finset.univ fun k : SK => done c k) ∗ scrP c ∗ outP c (resC A c)) := by
  have e : bigSep Finset.univ (fun s => fin A c s) = iprop((bigSep Finset.univ fun k : SK => done c k) ∗ (bigSep Finset.univ fun s : Fin 16 => slots4 c s)
      ∗ (bigSep Finset.univ fun s : Fin 16 => anyOf c (preMem s) fullShare) ∗ (bigSep Finset.univ fun s : Fin 16 => anyOf c (sufMem s) fullShare)
      ∗ bigSep Finset.univ fun s : Fin 16 => outT A c s) := by
    rw [bigSep_univ_prod (fun k : SK => done c k)]
    rw [← bigSep_sep', ← bigSep_sep', ← bigSep_sep', ← bigSep_sep']
    rfl
  rw [e]
  unfold scrP
  iintro ⟨Hd, Ha, Hp, Hs, Ho⟩
  isplitl [Hd]; · iexact Hd
  isplitl [Ha Hp Hs]
  · isplitl [Ha]; · iapply (join_a c f0) $$ Ha
    isplitl [Hp]; · iapply (join_pre c f1) $$ Hp
    iapply (join_suf c f2) $$ Hs
  iapply (join_out A c) $$ Ho

theorem runBody (c : Dev nD) (f : Buf (Elt F) ((c : Thread nD τ).loc cc0_stg2_0)) (Q : PUnit → sProp 𝕄) :
    iprop(recs A KC KS ∗ opsP A c ∗ outP c f ∗ scrP c ∗ barL c ∗ (bigSep Finset.univ fun st : Fin 16 => linP c st) ∗ owesE c (O₀ c))
      ⊢ iprop((opsP A c ∗ outP c (resC A c) ∗ scrP c ∗ (bigSep Finset.univ fun k : SK => done c k) ∗ semVal (cell (c, none)) 0 ∗ owesE c 0 -∗ Q ⟨⟩) -∗ WP c (bodyAt c) Q) := by
  unfold bodyAt prologue
  rw [round0_eq]
  iintro ⟨#Hr, Hops, Hout, Hscr, Hbar, Hlin, Ho⟩ Hk
  icases (Entails.of_eq (show scrP (F := F) c = iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)) from rfl)) $$ Hscr with ⟨⟨%f0, Ha⟩, ⟨%f1, Hp⟩, ⟨%f2, Hs⟩⟩
  ihave Ha := (split_a c f0) $$ Ha
  ihave Hp := (split_pre c f1) $$ Hp
  ihave Hs := (split_suf c f2) $$ Hs
  iapply (runQuarter A c f _ Q) $$ [Hops Hout]
  · iframe Hops Hout
  iintro ⟨Hops, Hout⟩
  iapply (runZeroP c _ Q) $$ Hs
  iintro ⟨Hz, Hs⟩
  iapply (runMeet (A := A) (KC := KC) (KS := KS) c _ Q) $$ [Hbar Ho Ha Hp Hz Hs]
  · isplitr; · iexact Hr
    iframe Hbar Ho Ha Hp Hz Hs
  iintro ⟨Ho, Hv, Hm⟩
  ihave Hf := (show iprop((bigSep Finset.univ fun st : Fin 16 => linP c st) ∗ (bigSep Finset.univ fun st : Fin 16 => memP c st)) ⊢ (bigSep Finset.univ fun s : Fin 16 => pre0 c s (firstP 0 s) : sProp 𝕄) by
    rw [← bigSep_sep']
    refine bigSep_mono fun s _ => ?_
    have h : iprop(linP (F := F) c s ∗ memP c s) ⊢ pre0 c s (firstP 0 s) := by
      rw [show firstP 0 s = 0 from if_neg (Nat.not_lt_zero _)]
      unfold pre0
      rw [show Nat.ble 0 0 = true from rfl, cond_true]
      iintro H
      isplitr; · iempintro
      iapply (fresh_intro c s) $$ H
    exact h) $$ [Hlin Hm]
  · iframe Hlin Hm
  iapply (runFirst (A := A) (KC := KC) (KS := KS) c 0 (by decide) f _ Q) $$ [Hout Hf Ho]
  · isplitr; · iexact Hr
    isplitl [Hout]; · iexact Hout
    isplitl [Hf]; · iexact Hf
    iapply (owes_eq c (show _ = _ from Finset.sum_congr rfl fun s _ => by rw [show firstP (0 : Fin 16).val s = 0 from if_neg (Nat.not_lt_zero _)])) $$ Ho
  iintro ⟨Hout, Hf, Ho⟩
  iapply (runFirst (A := A) (KC := KC) (KS := KS) c 1 (by decide) f _ Q) $$ [Hout Hf Ho]
  · isplitr; · iexact Hr
    isplitl [Hout]; · iexact Hout
    isplitl [Hf]; · iexact Hf
    iexact Ho
  iintro ⟨Hout, Hf, Ho⟩
  iapply (runProduct A c (qOut A c f) _ Q) $$ [Hops Hout]
  · iframe Hops Hout
  iintro ⟨Hops, Hout⟩
  ihave Hu := (split_out A c) $$ Hout
  ihave Hf := (Entails.of_eq (show bigSep Finset.univ (fun s => pre0 (F := F) c s (firstP ((1 : Fin 16).val + 1) s)) = bigSep Finset.univ (fun s => pre0 c s (posn 1 s)) by
    rw [← firstP_two]; rfl)) $$ Hf
  ihave Ho := (owes_eq c (show ∑ s, debtFrom c s (firstP ((1 : Fin 16).val + 1) s) = ∑ s, debtFrom c s (posn 1 s) by rw [← firstP_two]; rfl)) $$ Ho
  ihave Hst := (strms_intro (A := A) c) $$ [Hu Hf]
  · iframe Hu Hf
  iapply (runRounds (A := A) (KC := KC) (KS := KS) c _ Q 15 (le_refl _)) $$ [Hst Ho]
  · isplitr; · iexact Hr
    isplitl [Hst]; · iexact Hst
    iexact Ho
  iintro ⟨Hst, Ho⟩
  ihave Ho := (owes_eq c (show ∑ s : Fin 16, debtFrom c s 9 = 0 from Finset.sum_eq_zero fun s _ => debtFrom_end c s (le_refl _))) $$ Ho
  iapply (runLast (A := A) (KC := KC) (KS := KS) c _ Q 16 (le_refl _)) $$ [Hst Ho]
  · isplitr; · iexact Hr
    isplitl [Hst]
    · rw [bigSep_congr (s := Finset.univ) (fun (s : Fin 16) _ => show (if s.val < 16 - 16 then fin A c s else strm A c s 9) = strm A c s 9 from if_neg (by omega))]
      iexact Hst
    iexact Ho
  iintro ⟨Hfin, Ho⟩
  icases (fin_split (A := A) c f0 f1 f2) $$ Hfin with ⟨Hd, Hscr, Hout⟩
  have hret : iprop(|={Set.univ}=> Q ⟨⟩) ⊢ WP (F := F) c (.ret ⟨⟩) Q := BI.Entails.refl _
  iapply hret
  imodintro
  iapply Hk
  iframe Hops Hout Hscr Hd Hv Ho

end Cert.AllReduce
-- ==== Proof.Deal.lean ====
/-
What the launch deals: the credits against the devices' debts, and the tokens moved to who pays with them.
-/
module

public import proofs.«01_k».proof.Proof.Body

@[expose] public section

set_option maxRecDepth 20000

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig Unit (Elt F) ℕ UU ℕ

/-! ## The neighbours as bijections -/

def nextE (st : Fin 16) : Dev nD ≃ Dev nD := ⟨fun c => nextD c st, fun c => prevD c st, fun c => prev_next c st, fun c => next_prev c st⟩
def upE : Dev nD ≃ Dev nD := ⟨upD, dnD, dn_up, up_dn⟩
def rgtE : Dev nD ≃ Dev nD := ⟨rgtD, lftD, lft_rgt, rgt_lft⟩

/-! ## Credits -/

/-- The launch's credit of a cell, from what the devices owe it. -/
theorem launch_at (O : Dev nD → CellTallies nD τ sig Unit) (g : GSem nD τ sig) (n : ℕ) (h : ∑ d, O d g () = n) :
    tallyOn g (launchCredit (Pipeline.owing O) 0 g) = (tallyAt g () n : CellTallies nD τ sig Unit) := by
  unfold tallyAt; refine congrArg _ (Finsupp.ext fun u => ?_); cases u
  rw [Pipeline.launchCredit_owing, Finsupp.single_eq_same, h]

/-- Every device owes one cell of the device a bijection names. -/
theorem cred_of (e : Dev nD ≃ Dev nD) (k : Option SK) (a : Dev nD → ℕ) (c : Dev nD) :
    (Pipeline.launchCred (fun d => tallyAt (cell (e d, k)) () (a d)) c : sProp 𝕄) ⊢ cred (tallyAt (cell (c, k)) () (a (e.symm c))) := by
  have h := Pipeline.launchCred_elim (Name := ℕ) (U := UU) (Lvl := ℕ) (Val := Elt F) (fun d => tallyAt (cell (e d, k)) () (a d)) c (semOf' k)
  have e1 := launch_at (fun d => tallyAt (cell (e d, k)) () (a d)) (cell (c, k)) (a (e.symm c)) (by
    have e2 : ∀ d, (tallyAt (cell (e d, k)) () (a d) : CellTallies nD τ sig Unit) (cell (c, k)) () = if d = e.symm c then a d else 0 := fun d => by
      rw [tallyAt_apply]
      by_cases hd : d = e.symm c
      · rw [if_pos hd, if_pos ⟨by rw [hd, Equiv.apply_symm_apply], rfl⟩]
      · rw [if_neg hd, if_neg fun hh => hd (by
          have := congrArg Prod.fst (cell_inj hh.1)
          rw [show c = e d from this, Equiv.symm_apply_apply])]
    rw [Finset.sum_congr rfl fun d _ => e2 d, Finset.sum_ite_eq' Finset.univ (e.symm c) a, if_pos (Finset.mem_univ _)])
  refine BI.Entails.trans h (raw_eq ?_)
  show cred (tallyOn (cell (c, k)) (launchCredit (Pipeline.owing fun d => tallyAt (cell (e d, k)) () (a d)) 0 (cell (c, k)))) = _
  rw [e1]

theorem cred_if (e : Dev nD ≃ Dev nD) (k : SK) (P : Dev nD → Prop) [DecidablePred P] (n : ℕ) (c : Dev nD) :
    (Pipeline.launchCred (fun d => dIf (P d) (tallyAt (cell (e d, some k)) () n)) c : sProp 𝕄) ⊢ onP (P (e.symm c)) (crd c k n) := by
  have h := cred_of (F := F) e (some k) (fun d => if P d then n else 0) c
  rw [show (fun d => (tallyAt (cell (e d, some k)) () (if P d then n else 0) : CellTallies nD τ sig Unit)) = fun d => dIf (P d) (tallyAt (cell (e d, some k)) () n) from
    funext fun d => by
      unfold dIf
      by_cases hp : P d
      · rw [if_pos hp, if_pos hp]
      · rw [if_neg hp, if_neg hp, tallyAt_zero]] at h
  by_cases hp : P (e.symm c)
  · rw [onP_pos hp]; rw [if_pos hp] at h; exact h
  · rw [onP_neg hp]; iintro -; iempintro

theorem cred_sum {I : Type} [DecidableEq I] (D : I → Dev nD → CellTallies nD τ sig Unit) (c : Dev nD) (S : Finset I) :
    (Pipeline.launchCred (fun d => ∑ s ∈ S, D s d) c : sProp 𝕄) ⊢ bigSep S fun s => Pipeline.launchCred (D s) c := by
  induction S using Finset.induction_on with
  | empty => rw [bigSep_empty]; iintro -; iempintro
  | insert i S hi ih =>
    rw [bigSep_insert hi, show (fun d => ∑ s ∈ insert i S, D s d) = fun d => D i d + ∑ s ∈ S, D s d from funext fun d => Finset.sum_insert hi,
      Pipeline.launchCred_add]
    exact sep_mono_right ih

/-- The units a device waits for on a stream's cells. -/
theorem stream_cred (c : Dev nD) (s : Fin 16) : (Pipeline.launchCred (fun d => debtFrom d s 0) c : sProp 𝕄) ⊢ crdsP c s := by
  have e : (fun d => debtFrom d s 0) = fun d => dbt (nextD d s) s (.aR 0) N + (dbt (nextD d s) s (.aR 1) N + ((dbt (prevD d s) s .cr 3 + dbt (nextD d s) s (.aR 2) N)
      + ((dIf (row d = 3) (dbt (dnD d) s (.bR 1) N) + dIf (row d = 0) (dbt (upD d) s (.bR 0) N)) + (dIf (0 < row d ∧ row d < 3) (dbt (upD d) s (.bR 0) N)
      + ((dbt (nextD d s) s (.cR 0) N + dIf (0 < row d ∧ row d < 3) (dbt (dnD d) s (.bR 1) N)) + (dbt (nextD d s) s (.cR 1) N + dbt (nextD d s) s (.cR 2) N)))))) := funext fun d => by
    have h8 : debtFrom d s 8 = 0 := by rw [debtFrom_step d s (by decide : 8 < 9), debtFrom_end d s (le_refl _)]; exact add_zero _
    rw [debtFrom_step d s (by decide : 0 < 9), debtFrom_step d s (by decide : 0 + 1 < 9), debtFrom_step d s (by decide : 0 + 1 + 1 < 9), debtFrom_step d s (by decide : 0 + 1 + 1 + 1 < 9),
      debtFrom_step d s (by decide : 0 + 1 + 1 + 1 + 1 < 9), debtFrom_step d s (by decide : 0 + 1 + 1 + 1 + 1 + 1 < 9), debtFrom_step d s (by decide : 0 + 1 + 1 + 1 + 1 + 1 + 1 < 9),
      debtFrom_step d s (by decide : 0 + 1 + 1 + 1 + 1 + 1 + 1 + 1 < 9), show 0 + 1 + 1 + 1 + 1 + 1 + 1 + 1 + 1 = 8 from rfl, h8, add_zero]
    rfl
  have hN : ∀ k, (Pipeline.launchCred (fun d => dbt (nextD d s) s k N) c : sProp 𝕄) ⊢ crd c (s, k) N := fun k => cred_of (nextE s) (some (s, k)) (fun _ => N) c
  have hP : (Pipeline.launchCred (fun d => dbt (prevD d s) s .cr 3) c : sProp 𝕄) ⊢ iprop(crd c (s, .cr) 1 ∗ crd c (s, .cr) 1 ∗ crd c (s, .cr) 1) := by
    refine BI.Entails.trans (cred_of (F := F) (nextE s).symm (some (s, .cr)) (fun _ => 3) c) ?_
    have h3 : (tallyAt (cell (c, some (s, Kind.cr))) () 3 : CellTallies nD τ sig Unit)
        = tallyAt (cell (c, some (s, Kind.cr))) () 1 + (tallyAt (cell (c, some (s, Kind.cr))) () 1 + tallyAt (cell (c, some (s, Kind.cr))) () 1) := by
      rw [tallyAt_add, tallyAt_add]
    rw [h3]
    exact BI.Entails.trans (cred_add _ _).1 (sep_mono_right (cred_add _ _).1)
  have hU : ∀ (P : Dev nD → Prop) [DecidablePred P] k, (Pipeline.launchCred (fun d => dIf (P d) (dbt (upD d) s k N)) c : sProp 𝕄) ⊢ onP (P (dnD c)) (crd c (s, k) N) :=
    fun P _ k => cred_if upE (s, k) P N c
  have hD : ∀ (P : Dev nD → Prop) [DecidablePred P] k, (Pipeline.launchCred (fun d => dIf (P d) (dbt (dnD d) s k N)) c : sProp 𝕄) ⊢ onP (P (upD c)) (crd c (s, k) N) :=
    fun P _ k => cred_if upE.symm (s, k) P N c
  have hr := row_lt c
  have hb0 : iprop(onP (row (dnD c) = 0) (crd c (s, .bR 0) N) ∗ onP (0 < row (dnD c) ∧ row (dnD c) < 3) (crd c (s, .bR 0) N)) ⊢ (onP (0 < row c) (crd c (s, .bR 0) N) : sProp 𝕄) := by
    by_cases h : 0 < row c
    · have h' := row_dn c h
      rw [onP_pos h]
      by_cases h0 : row (dnD c) = 0
      · rw [onP_pos h0]; iintro ⟨H, -⟩; iexact H
      · rw [onP_pos (show 0 < row (dnD c) ∧ row (dnD c) < 3 by omega)]; iintro ⟨-, H⟩; iexact H
    · rw [onP_neg h]; iintro -; iempintro
  have hb1 : iprop(onP (row (upD c) = 3) (crd c (s, .bR 1) N) ∗ onP (0 < row (upD c) ∧ row (upD c) < 3) (crd c (s, .bR 1) N)) ⊢ (onP (row c < 3) (crd c (s, .bR 1) N) : sProp 𝕄) := by
    by_cases h : row c < 3
    · have h' := row_up c h
      rw [onP_pos h]
      by_cases h0 : row (upD c) = 3
      · rw [onP_pos h0]; iintro ⟨H, -⟩; iexact H
      · rw [onP_pos (show 0 < row (upD c) ∧ row (upD c) < 3 by omega)]; iintro ⟨-, H⟩; iexact H
    · rw [onP_neg h]; iintro -; iempintro
  rw [e]
  simp only [Pipeline.launchCred_add]
  unfold crdsP
  iintro ⟨H1, H2, ⟨H3, H4⟩, ⟨H5, H6⟩, H7, ⟨H8, H9⟩, H10, H11⟩
  ihave H1 := (hN _) $$ H1
  ihave H2 := (hN _) $$ H2
  ihave H3 := hP $$ H3
  ihave H4 := (hN _) $$ H4
  ihave H5 := (hD (fun d => row d = 3) _) $$ H5
  ihave H6 := (hU (fun d => row d = 0) _) $$ H6
  ihave H7 := (hU (fun d => 0 < row d ∧ row d < 3) _) $$ H7
  ihave H8 := (hN _) $$ H8
  ihave H9 := (hD (fun d => 0 < row d ∧ row d < 3) _) $$ H9
  ihave H10 := (hN _) $$ H10
  ihave H11 := (hN _) $$ H11
  ihave Hb0 := hb0 $$ [H6 H7]
  · isplitl [H6]; · iexact H6
    iexact H7
  ihave Hb1 := hb1 $$ [H5 H9]
  · isplitl [H5]; · iexact H5
    iexact H9
  iframe H1 H2 H4 Hb0 Hb1 H3 H8 H10 H11

/-- All the launch's credits. -/
theorem creds (c : Dev nD) : (Pipeline.launchCred O₀ c : sProp 𝕄) ⊢ iprop(cred (tallyAt (cell (c, none)) () 4) ∗ bigSep Finset.univ fun st : Fin 16 => crdsP c st) := by
  have h4 : (tallyAt (cell (c, none)) () 4 : CellTallies nD τ sig Unit)
      = tallyAt (cell (c, none)) () 1 + (tallyAt (cell (c, none)) () 1 + (tallyAt (cell (c, none)) () 1 + tallyAt (cell (c, none)) () 1)) := by
    rw [tallyAt_add, tallyAt_add, tallyAt_add]
  have hc : iprop(cred (tallyAt (cell (c, none)) () 1) ∗ cred (tallyAt (cell (c, none)) () 1) ∗ cred (tallyAt (cell (c, none)) () 1) ∗ cred (tallyAt (cell (c, none)) () 1))
      ⊢ (cred (tallyAt (cell (c, none)) () 4) : sProp 𝕄) := by
    rw [h4]
    iintro ⟨H1, H2, H3, H4⟩
    iapply ((cred_add _ _).2)
    isplitl [H1]; · iexact H1
    iapply ((cred_add _ _).2)
    isplitl [H2]; · iexact H2
    iapply ((cred_add _ _).2)
    isplitl [H3]; · iexact H3
    iexact H4
  have h1 : ∀ e : Dev nD ≃ Dev nD, (Pipeline.launchCred (fun d => tallyAt (cell (e d, none)) () 1) c : sProp 𝕄) ⊢ cred (tallyAt (cell (c, none)) () 1) :=
    fun e => cred_of e none (fun _ => 1) c
  have hs : (Pipeline.launchCred (fun d => ∑ s, debtFrom d s 0) c : sProp 𝕄) ⊢ bigSep Finset.univ fun st : Fin 16 => crdsP c st :=
    BI.Entails.trans (cred_sum (fun s d => debtFrom d s 0) c Finset.univ) (bigSep_mono fun s _ => stream_cred c s)
  have e : (O₀ : Dev nD → CellTallies nD τ sig Unit) = fun d => (((∑ s, debtFrom d s 0) + tallyAt (cell (upE.symm d, none)) () 1) + tallyAt (cell (upE d, none)) () 1
      + tallyAt (cell (rgtE d, none)) () 1) + tallyAt (cell (rgtE.symm d, none)) () 1 := rfl
  rw [e]
  simp only [Pipeline.launchCred_add]
  iintro ⟨⟨⟨⟨H1, H2⟩, H3⟩, H4⟩, H5⟩
  ihave H1 := hs $$ H1
  ihave H2 := (h1 _) $$ H2
  ihave H3 := (h1 _) $$ H3
  ihave H4 := (h1 _) $$ H4
  ihave H5 := (h1 _) $$ H5
  isplitl [H2 H3 H4 H5]
  · iapply hc
    iframe H2 H3 H4 H5
  iexact H1

/-! ## Tokens -/

/-- A cell's rights to pay, as the launch makes them. -/
def tok4 (ck : Dev nD × Option SK) : sProp 𝕄 := bigSep Finset.univ fun d : Fin 4 => dutyTok ER (cell ck) 0 d

theorem tok_one (ck : Dev nD × Option SK) (d : Fin 4) : (tok4 ck : sProp 𝕄) ⊢ dutyTok ER (cell ck) 0 d := elem (Finset.mem_univ d) _

/-- A device's own cells' rights, by who pays: itself, the device before it, the device after it, the planes' neighbours. -/
def tkO (c : Dev nD) (st : Fin 16) : sProp 𝕄 :=
  iprop((tok c (st, .aS 0) 0 ∗ tok c (st, .aS 1) 0 ∗ tok c (st, .aS 2) 0) ∗ (tok c (st, .bS 0) 0 ∗ tok c (st, .bS 1) 0) ∗ (tok c (st, .cS 0) 0 ∗ tok c (st, .cS 1) 0 ∗ tok c (st, .cS 2) 0))
def tkN (c : Dev nD) (st : Fin 16) : sProp 𝕄 :=
  iprop((tok c (st, .aR 0) 0 ∗ tok c (st, .aR 1) 0 ∗ tok c (st, .aR 2) 0) ∗ (tok c (st, .cR 0) 0 ∗ tok c (st, .cR 1) 0 ∗ tok c (st, .cR 2) 0))
def tkP (c : Dev nD) (st : Fin 16) : sProp 𝕄 := iprop(tok c (st, .cr) 0 ∗ tok c (st, .cr) 1 ∗ tok c (st, .cr) 2)

theorem tok_cut (c : Dev nD) (st : Fin 16) : (bigSep Finset.univ fun k : Kind => tok4 (F := F) (c, some (st, k)))
    ⊢ iprop(tkO c st ∗ tkN c st ∗ tkP c st ∗ tok c (st, .bR 0) 0 ∗ tok c (st, .bR 1) 0) := by
  have h1 : ∀ k : Kind, (tok4 (c, some (st, k)) : sProp 𝕄) ⊢ tok c (st, k) 0 := fun k => tok_one (c, some (st, k)) 0
  have h3 : (tok4 (c, some (st, .cr)) : sProp 𝕄) ⊢ tkP c st := by
    unfold tok4 tkP tok
    rw [bigSep_four]
    iintro ⟨H0, H1, H2, -⟩
    isplitl [H0]; · iexact H0
    isplitl [H1]; · iexact H1
    iexact H2
  rw [Kind.univ_bigSep]
  unfold tkO tkN
  iintro ⟨A0, A1, A2, R0, R1, R2, B0, B1, P0, P1, C0, C1, C2, D0, D1, D2, Hcr⟩
  ihave A0 := (h1 _) $$ A0
  ihave A1 := (h1 _) $$ A1
  ihave A2 := (h1 _) $$ A2
  ihave R0 := (h1 _) $$ R0
  ihave R1 := (h1 _) $$ R1
  ihave R2 := (h1 _) $$ R2
  ihave B0 := (h1 _) $$ B0
  ihave B1 := (h1 _) $$ B1
  ihave P0 := (h1 _) $$ P0
  ihave P1 := (h1 _) $$ P1
  ihave C0 := (h1 _) $$ C0
  ihave C1 := (h1 _) $$ C1
  ihave C2 := (h1 _) $$ C2
  ihave D0 := (h1 _) $$ D0
  ihave D1 := (h1 _) $$ D1
  ihave D2 := (h1 _) $$ D2
  ihave Hcr := h3 $$ Hcr
  iframe A0 A1 A2 B0 B1 C0 C1 C2 R0 R1 R2 D0 D1 D2 Hcr P0 P1

theorem tok_paste (c : Dev nD) (st : Fin 16) :
    iprop(tkO c st ∗ tkN (nextD c st) st ∗ tkP (prevD c st) st ∗ tok (upD c) (st, .bR 0) 0 ∗ tok (dnD c) (st, .bR 1) 0) ⊢ (toksP c st : sProp 𝕄) := by
  unfold tkO tkN tkP toksP
  iintro ⟨⟨HA, ⟨B0, B1⟩, HC⟩, ⟨HR, HD⟩, HP, U0, D1⟩
  iframe HA HR HP B0 U0 B1 D1 HC HD

/-- What the launch makes of a stream, on the device whose cells these are, and what it deals. -/
def raw0 (c : Dev nD) (st : Fin 16) : sProp 𝕄 :=
  iprop((bigSep Finset.univ fun k : Kind => pos c (st, k)) ∗ (bigSep Finset.univ fun k : Kind => tok4 (c, some (st, k))) ∗ readerAt ES (c, st) 0 ∗ writeTok ES (c, st) 1)
def lin0 (c : Dev nD) (st : Fin 16) : sProp 𝕄 :=
  iprop((bigSep Finset.univ fun k : Kind => pos c (st, k)) ∗ toksP c st ∗ readerAt ES (c, st) 0 ∗ writeTok ES (nextD c st, st) 1)

theorem stream_deal (st : Fin 16) : (bigSep Finset.univ fun c : Dev nD => raw0 (F := F) c st) ⊢ bigSep Finset.univ fun c : Dev nD => lin0 c st := by
  have h1 : (bigSep Finset.univ fun c : Dev nD => raw0 (F := F) c st) ⊢ bigSep Finset.univ fun c : Dev nD => iprop((bigSep Finset.univ fun k : Kind => pos c (st, k))
      ∗ tkO c st ∗ tkN c st ∗ tkP c st ∗ tok c (st, .bR 0) 0 ∗ tok c (st, .bR 1) 0 ∗ readerAt ES (c, st) 0 ∗ writeTok ES (c, st) 1) :=
    bigSep_mono fun c _ => by
      have h : raw0 (F := F) c st ⊢ iprop((bigSep Finset.univ fun k : Kind => pos c (st, k))
          ∗ tkO c st ∗ tkN c st ∗ tkP c st ∗ tok c (st, .bR 0) 0 ∗ tok c (st, .bR 1) 0 ∗ readerAt ES (c, st) 0 ∗ writeTok ES (c, st) 1) := by
        unfold raw0
        iintro ⟨Hp, Ht, Hr, Hw⟩
        icases (tok_cut c st) $$ Ht with ⟨H1, H2, H3, H4, H5⟩
        iframe Hp H1 H2 H3 H4 H5 Hr Hw
      exact h
  have h2 : (bigSep Finset.univ fun c : Dev nD => iprop((bigSep Finset.univ fun k : Kind => pos c (st, k))
      ∗ tkO c st ∗ tkN (nextD c st) st ∗ tkP (prevD c st) st ∗ tok (upD c) (st, .bR 0) 0 ∗ tok (dnD c) (st, .bR 1) 0 ∗ readerAt ES (c, st) 0 ∗ writeTok ES (nextD c st, st) 1))
      ⊢ bigSep Finset.univ fun c : Dev nD => lin0 (F := F) c st :=
    bigSep_mono fun c _ => by
      have h : iprop((bigSep Finset.univ fun k : Kind => pos c (st, k))
          ∗ tkO c st ∗ tkN (nextD c st) st ∗ tkP (prevD c st) st ∗ tok (upD c) (st, .bR 0) 0 ∗ tok (dnD c) (st, .bR 1) 0 ∗ readerAt ES (c, st) 0 ∗ writeTok ES (nextD c st, st) 1) ⊢ lin0 (F := F) c st := by
        unfold lin0
        iintro ⟨Hp, H1, H2, H3, H4, H5, Hr, Hw⟩
        ihave Ht := (tok_paste c st) $$ [H1 H2 H3 H4 H5]
        · iframe H1 H2 H3 H4 H5
        iframe Hp Ht Hr Hw
      exact h
  refine BI.Entails.trans h1 (BI.Entails.trans (raw_eq ?_) h2)
  simp only [bigSep_sep']
  rw [bigSep_univ_equiv (nextE st) (fun c : Dev nD => (tkN c st : sProp 𝕄)), bigSep_univ_equiv (nextE st).symm (fun c : Dev nD => (tkP c st : sProp 𝕄)),
    bigSep_univ_equiv upE (fun c : Dev nD => (tok c (st, .bR 0) 0 : sProp 𝕄)), bigSep_univ_equiv upE.symm (fun c : Dev nD => (tok c (st, .bR 1) 0 : sProp 𝕄)),
    bigSep_univ_equiv (nextE st) (fun c : Dev nD => (writeTok ES (c, st) 1 : sProp 𝕄))]
  rfl

theorem streams_deal : (bigSep Finset.univ fun c : Dev nD => bigSep Finset.univ fun st : Fin 16 => raw0 (F := F) c st)
    ⊢ bigSep Finset.univ fun c : Dev nD => bigSep Finset.univ fun st : Fin 16 => lin0 c st := by
  rw [bigSep_univ_comm (fun (c : Dev nD) (st : Fin 16) => raw0 (F := F) c st), bigSep_univ_comm (fun (c : Dev nD) (st : Fin 16) => lin0 (F := F) c st)]
  exact bigSep_mono fun st _ => stream_deal st

/-- The barrier's rights, to the neighbours. -/
def barT (c : Dev nD) : sProp 𝕄 :=
  iprop(dutyTok ER (cell (lftD c, none)) 0 0 ∗ dutyTok ER (cell (rgtD c, none)) 0 1 ∗ dutyTok ER (cell (upD c, none)) 0 3 ∗ dutyTok ER (cell (dnD c, none)) 0 2)

theorem bar_deal : (bigSep Finset.univ fun c : Dev nD => tok4 (F := F) (c, none)) ⊢ bigSep Finset.univ fun c : Dev nD => barT c := by
  unfold tok4 barT
  rw [bigSep_congr (s := Finset.univ) (fun (c : Dev nD) _ => bigSep_four fun d => (dutyTok ER (cell (c, none)) 0 d : sProp 𝕄))]
  simp only [bigSep_sep']
  rw [bigSep_univ_equiv rgtE.symm (fun c : Dev nD => (dutyTok ER (cell (c, none)) 0 0 : sProp 𝕄)), bigSep_univ_equiv rgtE (fun c : Dev nD => (dutyTok ER (cell (c, none)) 0 1 : sProp 𝕄)),
    bigSep_univ_equiv upE (fun c : Dev nD => (dutyTok ER (cell (c, none)) 0 3 : sProp 𝕄)), bigSep_univ_equiv upE.symm (fun c : Dev nD => (dutyTok ER (cell (c, none)) 0 2 : sProp 𝕄))]
  iintro ⟨H0, H1, H2, H3⟩
  isplitl [H0]; · iexact H0
  isplitl [H1]; · iexact H1
  isplitl [H3]; · iexact H3
  iexact H2

/-- A family over a device's cells: the barrier's, and the streams'. -/
theorem cells_split (Φ : Option SK → sProp 𝕄) : bigSep Finset.univ Φ = iprop(Φ none ∗ bigSep Finset.univ fun st : Fin 16 => bigSep Finset.univ fun k : Kind => Φ (some (st, k))) := by
  have e : (Finset.univ : Finset (Option SK)).erase none = Finset.univ.map ⟨some, Option.some_injective SK⟩ := by
    ext k; cases k <;> simp
  refine (bigSep_univ_split none).trans ?_
  rw [e, bigSep_map]
  exact congrArg (BI.sep _) (bigSep_univ_prod fun sk : SK => Φ (some sk))

end Cert.AllReduce
-- ==== Proof.Alloc.lean ====
/-
The ghost state of the launch: minted, put into the cells' and the slots' invariants, and dealt to the devices.
-/
module

public import proofs.«01_k».proof.Proof.Deal

@[expose] public section

set_option maxRecDepth 20000

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig Unit (Elt F) ℕ UU ℕ

variable (A : Args F)

/-! ## Minting -/

def allCells : Finset (GSem nD τ sig) := Finset.univ.map ⟨cell, cell_inj⟩

def mint (x : (Dev nD × Option SK) × Fin 4) : GSem nD τ sig × ℕ × Fin 4 := (cell x.1, 0, x.2)
theorem mint_inj : Function.Injective mint := fun x y h => by
  have h1 := cell_inj (congrArg Prod.fst h)
  have h2 := congrArg (fun z : GSem nD τ sig × ℕ × Fin 4 => z.2.2) h
  exact Prod.ext h1 h2
def allToks : Finset (GSem nD τ sig × ℕ × Fin 4) := Finset.univ.map ⟨mint, mint_inj⟩

/-- The launch's element. -/
def u₀ : UU := (initOf (Pipeline.cells cfgs cellOf_inj) (Pipeline.launchToks cfgs cellOf_inj), (initOf allCells allToks, initSlots Finset.univ 1))

/-- The slots' part, which the first device carries to the step that makes the invariants. -/
def slotsU : sProp 𝕄 := BI.own (ES (initSlots (Finset.univ : Finset Key) 1))
def first : Dev nD := ⟨0, by decide⟩

/-- What the launch's element deals a device. -/
def G (c : Dev nD) : sProp 𝕄 :=
  iprop((bigSep Finset.univ fun k : Option SK => roundState ER (Rd A) (cell (c, k)) 0) ∗ (bigSep Finset.univ fun k : Option SK => reached ER (cell (c, k)) 0)
    ∗ (bigSep Finset.univ fun k : Option SK => atPos ER (cell (c, k)) 0 ∅ 0) ∗ (bigSep Finset.univ fun k : Option SK => tok4 (c, k)) ∗ onP (c = first) slotsU)

theorem carry (X : sProp 𝕄) : X ⊢ bigSep Finset.univ fun c : Dev nD => onP (c = first) X := by
  have h : (bigSep (Finset.univ.erase first) fun c : Dev nD => onP (c = first) X) = bigSep (Finset.univ.erase first) fun c : Dev nD => (iprop(emp) : sProp 𝕄) :=
    bigSep_congr fun c hc => onP_neg (Finset.ne_of_mem_erase hc)
  have hz : (bigSep (Finset.univ.erase first) fun c : Dev nD => (iprop(emp) : sProp 𝕄)) = iprop(emp) := bigSep_emp_const _
  have e := bigSep_univ_split (Φ := fun c : Dev nD => onP (c = first) X) first
  rw [e, h, onP_pos rfl]
  show X ⊢ iprop(X ∗ bigSep (Finset.univ.erase first) fun c : Dev nD => (iprop(emp) : sProp 𝕄))
  iintro H
  isplitl [H]; · iexact H
  rw [hz]; iempintro

theorem fund_all : BI.own (EB (F := F) (initOf allCells allToks, initSlots Finset.univ 1)) ⊢ (|==> bigSep Finset.univ (G A) : sProp 𝕄) := by
  have hX (Φ : GSem nD τ sig → sProp 𝕄) : bigSep allCells Φ = bigSep Finset.univ fun c : Dev nD => bigSep Finset.univ fun k : Option SK => Φ (cell (c, k)) := by
    unfold allCells; rw [bigSep_map, bigSep_univ_prod]; rfl
  have hT : bigSep allToks (fun x => (dutyTok ER x.1 x.2.1 x.2.2 : sProp 𝕄)) = bigSep Finset.univ fun c : Dev nD => bigSep Finset.univ fun k : Option SK => tok4 (c, k) := by
    unfold allToks; rw [bigSep_map, bigSep_univ_prod, bigSep_univ_prod]; rfl
  iintro HX
  ihave H := (own_pair_emb (EB (F := F)) _ _) $$ HX
  icases H with ⟨HR, HS⟩
  have hs : BI.own (((Emb.inr : Emb _ UB).trans (EB (F := F))) (initSlots (Finset.univ : Finset Key) 1)) ⊢ (slotsU : sProp 𝕄) := BI.Entails.refl _
  ihave HS := hs $$ HS
  have hr : BI.own (((Emb.inl : Emb _ UB).trans (EB (F := F))) (initOf allCells allToks)) ⊢ (BI.own (ER (initOf allCells allToks)) : sProp 𝕄) := BI.Entails.refl _
  ihave HR := hr $$ HR
  imod (Rounds.fund ER (Rd A) allCells allToks) $$ HR with ⟨Hst, Hr, Hat, Htok⟩
  imodintro
  ihave Hst := (Entails.of_eq (hX fun g => roundState ER (Rd A) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  ihave HS := (carry _) $$ HS
  unfold G; simp only [bigSep_sep']
  iframe Hst Hr Hat Htok HS

/-! ## The counters -/

theorem semOf_scoped (k : SK) : (semOf k).isScoped .tc = true := by revert k; decide +kernel

theorem semOfs_inj : Function.Injective semOf := fun a b h => Option.some_injective _ (semOf'_inj (show semOf' (some a) = semOf' (some b) from h))

theorem ownSemFacts : Pipeline.OwnSemFacts cfg0.spec semOf := ⟨semOf_scoped, semOfs_inj, by decide +kernel⟩

theorem unscopedSems0_eq (c : Dev nD) : (unscopedSems0 c : sProp 𝕄) = semVal (cell (c, none)) 0 := by
  unfold unscopedSems0; rw [bigSep_eq_bigSepL_of_eq [SemLoc.reg barS] (by decide) (by decide +kernel)]; rfl

theorem sems0_eq (c : Dev nD) :
    iprop(Pipeline.ownSems0 (Ix := Unit) (Name := ℕ) (U := UU) (Lvl := ℕ) (Val := Elt F) (τ := τ) semOf c ∗ unscopedSems0 c)
      ⊢ (bigSep Finset.univ fun k : Option SK => semVal (cell (c, k)) 0 : sProp 𝕄) := by
  rw [unscopedSems0_eq, cells_split]
  unfold Pipeline.ownSems0
  rw [bigSep_univ_prod]
  iintro ⟨H, HB⟩
  isplitl [HB]; · iexact HB
  iexact H

/-! ## The invariants -/

/-- What the devices share. -/
def recs0 (KC : Dev nD × Option SK → ℕ) (KS : Key → ℕ) : sProp 𝕄 :=
  iprop((bigSep Finset.univ fun ck : Dev nD × Option SK => iprop(cellInv ER (Rd A) (KC ck) (cell ck) ∗ reached ER (cell ck) 0))
    ∗ bigSep Finset.univ fun k : Key => slotInv ES (KS k) k (slotS k))
instance recs0_persistent (KC : Dev nD × Option SK → ℕ) (KS : Key → ℕ) : BI.Persistent (recs0 A KC KS) := by unfold recs0; infer_instance

/-- What a device keeps. -/
def lin (c : Dev nD) : sProp 𝕄 := iprop(atPos ER (cell (c, none)) 0 ∅ 0 ∗ barT c ∗ bigSep Finset.univ fun st : Fin 16 => lin0 c st)

/-- What the step that makes the invariants deals a device. -/
def G' (c : Dev nD) : sProp 𝕄 := iprop(∃ KC KS, recs0 A KC KS ∗ lin c)

/-- A device's cells, their invariants made. -/
def cells1 (c : Dev nD) : sProp 𝕄 :=
  iprop((bigSep Finset.univ fun k : Option SK => iprop(∃ κ : ℕ, cellInv ER (Rd A) κ (cell (c, k)))) ∗ (bigSep Finset.univ fun k : Option SK => reached ER (cell (c, k)) 0)
    ∗ (bigSep Finset.univ fun k : Option SK => atPos ER (cell (c, k)) 0 ∅ 0) ∗ (bigSep Finset.univ fun k : Option SK => tok4 (c, k)) ∗ onP (c = first) slotsU)

theorem core_alloc (c : Dev nD) :
    iprop(Pipeline.ownSems0 (Ix := Unit) (Name := ℕ) (U := UU) (Lvl := ℕ) (Val := Elt F) (τ := τ) semOf c ∗ unscopedSems0 c ∗ G A c)
      ⊢ |={Set.univ}=> cells1 A c := by
  have hinv : iprop((bigSep Finset.univ fun k : Option SK => semVal (cell (c, k)) 0) ∗ bigSep Finset.univ fun k : Option SK => roundState ER (Rd A) (cell (c, k)) 0)
      ⊢ (|={Set.univ}=> bigSep Finset.univ fun k : Option SK => iprop(∃ κ : ℕ, cellInv ER (Rd A) κ (cell (c, k))) : sProp 𝕄) := by
    rw [← bigSep_sep']
    exact (bigSep_mono fun k _ => (Rounds.body_intro ER (Rd A) (cell (c, k))).trans inv_alloc).trans (bigSep_fupd _ _)
  unfold G
  iintro ⟨Hos, Hus, Hst, Hr, Hat, Htok, HS⟩
  ihave Hv := (sems0_eq (F := F) c) $$ [Hos Hus]
  · isplitl [Hos] <;> iassumption
  imod hinv $$ [Hv Hst] with Hinv
  · isplitl [Hv] <;> iassumption
  imodintro
  unfold cells1
  iframe Hinv Hr Hat Htok HS

theorem write_one (Φ : Key × ℕ → sProp 𝕄) : bigSep ((Finset.univ : Finset Key) ×ˢ Finset.range 1) Φ = bigSep Finset.univ fun k : Key => Φ (k, 0) := by
  have e : (Finset.univ : Finset Key) ×ˢ Finset.range 1 = Finset.univ.map ⟨fun k : Key => (k, 0), fun a b h => congrArg Prod.fst h⟩ := by
    ext ⟨k, n⟩
    refine ⟨fun h => Finset.mem_map.mpr ⟨k, Finset.mem_univ _, ?_⟩, fun h => Finset.mem_product.mpr ⟨Finset.mem_univ _, Finset.mem_range.mpr ?_⟩⟩
    · have h0 : n = 0 := Nat.lt_one_iff.mp (Finset.mem_range.mp (Finset.mem_product.mp h).2)
      rw [h0]; rfl
    · obtain ⟨a, -, h⟩ := Finset.mem_map.mp h
      have h0 : 0 = n := congrArg Prod.snd h
      show n < 1
      omega
  rw [e, bigSep_map]; rfl

theorem deal : iprop((bigSep Finset.univ fun c : Dev nD => bigSep Finset.univ fun k : Option SK => atPos ER (cell (c, k)) 0 ∅ 0)
      ∗ (bigSep Finset.univ fun c : Dev nD => bigSep Finset.univ fun k : Option SK => tok4 (c, k)) ∗ (bigSep Finset.univ fun k : Key => readerAt ES k 0)
      ∗ (bigSep Finset.univ fun k : Key => writeTok ES k 1)) ⊢ (bigSep Finset.univ fun c : Dev nD => lin (F := F) c) := by
  have h1 : (bigSep Finset.univ fun c : Dev nD => bigSep Finset.univ fun k : Option SK => (atPos ER (cell (c, k)) 0 ∅ 0 : sProp 𝕄))
      = iprop((bigSep Finset.univ fun c : Dev nD => atPos ER (cell (c, none)) 0 ∅ 0)
        ∗ bigSep Finset.univ fun c : Dev nD => bigSep Finset.univ fun st : Fin 16 => bigSep Finset.univ fun k : Kind => pos c (st, k)) := by
    rw [← bigSep_sep']
    exact bigSep_congr fun c _ => cells_split fun k => (atPos ER (cell (c, k)) 0 ∅ 0 : sProp 𝕄)
  have h2 : (bigSep Finset.univ fun c : Dev nD => bigSep Finset.univ fun k : Option SK => (tok4 (c, k) : sProp 𝕄))
      = iprop((bigSep Finset.univ fun c : Dev nD => tok4 (c, none))
        ∗ bigSep Finset.univ fun c : Dev nD => bigSep Finset.univ fun st : Fin 16 => bigSep Finset.univ fun k : Kind => tok4 (c, some (st, k))) := by
    rw [← bigSep_sep']
    exact bigSep_congr fun c _ => cells_split fun k => (tok4 (c, k) : sProp 𝕄)
  have h3 : iprop((bigSep Finset.univ fun c : Dev nD => bigSep Finset.univ fun st : Fin 16 => bigSep Finset.univ fun k : Kind => pos c (st, k))
      ∗ (bigSep Finset.univ fun c : Dev nD => bigSep Finset.univ fun st : Fin 16 => bigSep Finset.univ fun k : Kind => tok4 (c, some (st, k)))
      ∗ (bigSep Finset.univ fun c : Dev nD => bigSep Finset.univ fun st : Fin 16 => readerAt ES (c, st) 0)
      ∗ bigSep Finset.univ fun c : Dev nD => bigSep Finset.univ fun st : Fin 16 => writeTok ES (c, st) 1)
      ⊢ (bigSep Finset.univ fun c : Dev nD => bigSep Finset.univ fun st : Fin 16 => raw0 (F := F) c st) := by
    unfold raw0
    simp only [bigSep_sep']
    exact BI.Entails.refl _
  rw [h1, h2, bigSep_univ_prod (fun k : Key => (readerAt ES k 0 : sProp 𝕄)), bigSep_univ_prod (fun k : Key => (writeTok ES k 1 : sProp 𝕄))]
  iintro ⟨⟨Hpn, Hps⟩, ⟨Htn, Hts⟩, Hr, Hw⟩
  ihave Hb := bar_deal $$ Htn
  ihave H := h3 $$ [Hps Hts Hr Hw]
  · iframe Hps Hts Hr Hw
  ihave H := streams_deal $$ H
  unfold lin
  simp only [bigSep_sep']
  iframe Hpn Hb H

theorem lin_intro (KC : Dev nD × Option SK → ℕ) (KS : Key → ℕ) (c : Dev nD) : iprop(recs0 A KC KS ∗ lin c) ⊢ G' A c := by
  unfold G'
  iintro ⟨H1, H2⟩
  iexists KC, KS
  iframe H1 H2

theorem regroup : (bigSep Finset.univ fun c : Dev nD => cells1 A c) ⊢ |={Set.univ}=> bigSep Finset.univ (G' A) := by
  have hS : (bigSep Finset.univ fun c : Dev nD => onP (c = first) (slotsU (F := F))) ⊢ slotsU :=
    BI.Entails.trans (elem (Finset.mem_univ first) _) (raw_eq (onP_pos rfl))
  unfold cells1
  simp only [bigSep_sep']
  rw [← bigSep_univ_prod (fun ck : Dev nD × Option SK => iprop(∃ κ : ℕ, cellInv ER (Rd A) κ (cell ck))),
    ← bigSep_univ_prod (fun ck : Dev nD × Option SK => (reached ER (cell ck) 0 : sProp 𝕄))]
  iintro ⟨HI, HR, Hat, Htok, HS⟩
  ihave HS := hS $$ HS
  unfold slotsU
  imod (slots_init ES Finset.univ 1 slotS) $$ HS with ⟨%KS, -, HSI, Hrd, Hwr⟩
  ihave HK := (BI.bigSep_exists_pi Finset.univ (fun (ck : Dev nD × Option SK) (κ : ℕ) => (cellInv ER (Rd A) κ (cell ck) : sProp 𝕄))) $$ HI
  icases HK with ⟨%KC, HI⟩
  ihave Hwr := (Entails.of_eq (write_one fun x => (writeTok ES x.1 (x.2 + 1) : sProp 𝕄))) $$ Hwr
  ihave HL := (deal (F := F)) $$ [Hat Htok Hrd Hwr]
  · iframe Hat Htok Hrd Hwr
  imodintro
  iapply (bigSep_with_persistent (R := recs0 A KC KS) fun c _ => lin_intro A KC KS c)
  isplitl [HI HR HSI]
  · unfold recs0
    isplitl [HI HR]
    · rw [bigSep_sep']
      iframe HI HR
    iexact HSI
  iexact HL

/-- Every device's counters and ghost state at once: the invariants made, the tokens dealt. -/
theorem glob : (bigSep Finset.univ fun c => iprop(Pipeline.ownSems0 (Ix := Unit) (Name := ℕ) (U := UU) (Lvl := ℕ) (Val := Elt F) (τ := τ) semOf c ∗ unscopedSems0 c ∗ G A c) : sProp 𝕄)
    ⊢ |={Set.univ}=> bigSep Finset.univ (G' A) := by
  have h : (bigSep Finset.univ fun c => iprop(Pipeline.ownSems0 (Ix := Unit) (Name := ℕ) (U := UU) (Lvl := ℕ) (Val := Elt F) (τ := τ) semOf c ∗ unscopedSems0 c ∗ G A c) : sProp 𝕄)
      ⊢ |={Set.univ}=> bigSep Finset.univ fun c : Dev nD => cells1 A c := (bigSep_mono fun c _ => core_alloc A c).trans (bigSep_fupd _ _)
  iintro H
  imod h $$ H with H
  iapply (regroup A)
  iexact H

end Cert.AllReduce
-- ==== Proof.Walk.lean ====
/-
The printed body is the body written in stages.
-/
module

public import proofs.«01_k».proof.Proof.Prog

@[expose] public section

set_option maxRecDepth 65536

noncomputable section

namespace Cert.AllReduce

open Cert.KernelIdeal Cert.KernelIdeal.Gen
open Idealize.ShloMosaic Idealize.SL.Sem

variable {F : FTy → Type} [FloatOps F]

set_option maxHeartbeats 0 in
/-- The body as printed, its branches and operations in their printed order, is the list of stages of Prog.lean: each operation
    and each branch of the one is matched with that of the other. -/
theorem body_eq : cc0_body (F := F) x0 (Memref.isWhole_whole _) w0 (Memref.isWhole_whole _) out (Memref.isWhole_whole _) acomm (Memref.isWhole_whole _) bpre (Memref.isWhole_whole _)
      bsuf (Memref.isWhole_whole _) cc0_scratch3 cc0_scratch4 cc0_scratch5 cc0_scratch6 cc0_scratch7 cc0_scratch8 cc0_scratch9 =
    .op .deviceId fun d => bodyAt d := by
  refine op_step rfl (fun d => ?_)
  iterate 4 refine op_step rfl (fun v => ?_)
  refine dite_step2 ?_ (fun h => ?_)
  all_goals
    repeat' first
      | with_reducible rfl
      | refine op_step rfl (fun v => ?_)
      | refine dite_step2 ?_ (fun h => ?_)
      | refine dite_step1 ?_ (fun h => ?_)
      | refine dite_step0 ?_ (fun h => ?_)
      | rfl

end Cert.AllReduce
-- ==== Proof.Run.lean ====
/-
The run: the launch's conditions, and what every execution of the module leaves.
-/
module

public import proofs.«01_k».proof.Proof.Alloc
public import Idealize.ShloMosaic.Lib.Pipeline.CollectiveSegs
public import proofs.«01_k».proof.Proof.Walk

@[expose] public section

set_option maxRecDepth 20000

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig Unit (Elt F) ℕ UU ℕ

open Idealize.ShloMosaic.Pipeline (Dat BodyObligation)

variable (m : (l : Loc nD τ sig) → Buf (Elt F) l) (ρ : Dev nD → PrngReg)

/-- The memory at the start. -/
def s₀ : MemSt nD τ sig (Elt F) := ⟨m, fun _ => 0, ρ⟩

/-- The blocks the devices compute with. -/
def argsOf : Args F where
  x c := (win0_0.blk (0 : Fin 1)).view.read (Elt F) ((s₀ m ρ).mem ((c : Thread nD τ).loc main_arg0))
  w c := (win0_1.blk (0 : Fin 1)).view.read (Elt F) ((s₀ m ρ).mem ((c : Thread nD τ).loc main_arg1))

/-- What a device's body starts from. -/
def start (c : Dev nD) : sProp 𝕄 :=
  iprop(G' (argsOf m ρ) c ∗ levAts L lv ∗ cred (tallyAt (cell (c, none)) () 4) ∗ bigSep Finset.univ fun st : Fin 16 => crdsP c st)
def Φ₀ (c : Dev nD) : sProp 𝕄 := iprop(start m ρ c ∗ scrP c)
def Φ₁ (c : Dev nD) : sProp 𝕄 := iprop(scrP (F := F) c ∗ (bigSep Finset.univ fun k : SK => done c k) ∗ semVal (cell (c, none)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (argsOf m ρ).x c
    | ⟨1, _⟩ => (argsOf m ρ).w c
    | ⟨2, _⟩ => resC (argsOf m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer's contents. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 ((argsOf m ρ).x c) ∗ stg c cc0_stg1_0 ((argsOf m ρ).w c) ∗ stg c cc0_stg2_0 (resC (argsOf m ρ) c))

theorem before_x (c : Dev nD) (d) : (dats m ρ 0 c).before (0 : Fin 3) t0_0 d = (argsOf m ρ).x c := by
  unfold Dat.before; rw [if_pos (fetch_0 t0_0)]; rfl
theorem before_w (c : Dev nD) (d) : (dats m ρ 0 c).before (1 : Fin 3) t0_0 d = (argsOf m ρ).w c := by
  unfold Dat.before; rw [if_pos (fetch_1 t0_0)]; rfl

theorem owes_in (c : Dev nD) : (dats (F := F) m ρ 0 c).owesAt () t0_0.castSucc ⊢ owesE c (O₀ c) := by
  unfold Dat.owesAt Pipeline.owesWithin owesE
  rw [show (dats m ρ 0 c).owed t0_0.castSucc = O₀ c from rfl]
  iintro ⟨%W, -, H⟩
  iexists W; iexact H
theorem owes_out (c : Dev nD) : owesE c 0 ⊢ (dats (F := F) m ρ 0 c).owesAt () t0_0.succ := by
  unfold Dat.owesAt Pipeline.owesWithin owesE
  rw [show (dats m ρ 0 c).owed t0_0.succ = 0 from rfl]
  iintro ⟨%W, H⟩
  iexists W
  isplitr
  · ipureintro; exact fun _ _ => Or.inl trivial
  iexact H

theorem stg_intro (c : Dev nD) (b : Ref sig .tc) (X : b.ty.Contents (Elt F)) : (((c : Thread nD τ).loc b) ↦{fullShare} X) ⊢ (stg c b X : sProp 𝕄) := by
  unfold stg
  iintro H
  iexists X
  isplitr
  · ipureintro; rfl
  iexact H
theorem stg_elim (c : Dev nD) (b : Ref sig .tc) (X : b.ty.Contents (Elt F)) : (stg c b X : sProp 𝕄) ⊢ ((c : Thread nD τ).loc b) ↦{fullShare} X := by
  unfold stg
  iintro ⟨%f, %h, H⟩
  subst h
  iexact H

/-- The streams' ghost state from what was dealt and the credits. -/
theorem linP_intro (c : Dev nD) : iprop((bigSep Finset.univ fun st : Fin 16 => lin0 c st) ∗ bigSep Finset.univ fun st : Fin 16 => crdsP c st)
    ⊢ (bigSep Finset.univ fun st : Fin 16 => linP c st : sProp 𝕄) := by
  rw [← bigSep_sep']
  refine bigSep_mono fun st _ => ?_
  have h : iprop(lin0 c st ∗ crdsP c st) ⊢ (linP c st : sProp 𝕄) := by
    unfold lin0 linP
    iintro ⟨⟨H1, H2, H3, H4⟩, H5⟩
    iframe H1 H2 H5 H3 H4
  exact h

/-- The body of a device, from what the pipeline gives it to what it gives back. -/
theorem sound_body (c : Dev nD) : bodyPre m ρ c ⊢ WP (F := F) c (bodyAt c) fun _ => bodyPost m ρ c := by
  unfold bodyPre Φ₀ start G'
  iintro ⟨⟨⟨⟨%KC, %KS, #Hr, Hl⟩, #Hlev, Hc4, Hcs⟩, Hscr⟩, Ho, ⟨%d0, Hx⟩, ⟨%d1, Hw⟩, ⟨%d2, Hout⟩⟩
  ihave Hx := (stg_elim c cc0_stg0_0 _) $$ Hx
  ihave Hw := (stg_elim c cc0_stg1_0 _) $$ Hw
  ihave Hout := (stg_elim c cc0_stg2_0 _) $$ Hout
  rw [before_x m ρ c d0, before_w m ρ c d1]
  ihave Ho := (owes_in m ρ c) $$ Ho
  unfold lin
  icases Hl with ⟨Hp, Hb, Hl⟩
  ihave Hl := (linP_intro c) $$ [Hl Hcs]
  · isplitl [Hl]; · iexact Hl
    iexact Hcs
  iapply (runBody (A := argsOf m ρ) (KC := KC) (KS := KS) c _ fun _ => bodyPost m ρ c) $$ [Hr Hlev Hx Hw Hout Hscr Hp Hb Hc4 Hl Ho]
  · isplitr
    · unfold recs0 recs
      icases Hr with ⟨#H1, #H2⟩
      isplitr; · iexact H1
      isplitr; · iexact H2
      iexact Hlev
    isplitl [Hx Hw]
    · unfold opsP
      isplitl [Hx]; · iexact Hx
      iexact Hw
    isplitl [Hout]; · iexact Hout
    isplitl [Hscr]; · iexact Hscr
    isplitl [Hp Hb Hc4]
    · unfold barL barT
      isplitl [Hb]; · iexact Hb
      isplitl [Hc4]; · iexact Hc4
      iexact Hp
    isplitl [Hl]; · iexact Hl
    iexact Ho
  iintro ⟨Hops, Hout, Hscr, Hd, Hs, Ho⟩
  unfold opsP
  icases Hops with ⟨Hx, Hw⟩
  ihave Hx := (stg_intro c cc0_stg0_0 _) $$ Hx
  ihave Hw := (stg_intro c cc0_stg1_0 _) $$ Hw
  ihave Hout := (stg_intro c cc0_stg2_0 _) $$ Hout
  ihave Ho := (owes_out m ρ c) $$ Ho
  unfold bodyPost Φ₁
  iframe Hscr Hd Hs Ho Hx Hw Hout

/-- The library's obligation on a device's body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (F := F) x0 (Memref.isWhole_whole _) w0 (Memref.isWhole_whole _) out (Memref.isWhole_whole _) acomm (Memref.isWhole_whole _) bpre (Memref.isWhole_whole _)
      bsuf (Memref.isWhole_whole _) cc0_scratch3 cc0_scratch4 cc0_scratch5 cc0_scratch6 cc0_scratch7 cc0_scratch8 cc0_scratch9) (fun _ => bodyPost m ρ c)
  rw [body_eq, wp_deviceId]
  exact sound_body m ρ c

/-! ## The launch -/

theorem share_eq (c : Dev nD) (w : Fin cfg0.W) : (dats m ρ 0 c).share w = fullShare := by unfold Dat.share; split <;> rfl

theorem above_start (c : Dev nD) : Above 0 (O₀ c) := by
  have h1 : ∀ d : Dev nD, Above 0 (tallyAt (cell (d, none)) () 1) := fun d => above_cell d none 1 Nat.zero_lt_one
  unfold O₀
  exact above_add (above_add (above_add (above_add (above_mono (Nat.zero_le 1) (debts_above c)) (h1 _)) (h1 _)) (h1 _)) (h1 _)

theorem mayWait_stage (c : Dev nD) (sm : SemLoc sig) (h : skOf sm = none) (O : CellTallies nD τ sig Unit) (hO : O = O₀ c ∨ O = 0) :
    (levAts L lv : sProp 𝕄) ⊢ MayWait (c : Thread nD τ) sm () O := by
  have hl : lv ((c : Thread nD τ), sm) () ≤ 0 := by unfold lv; rw [h]
  rcases hO with rfl | rfl
  · exact mayWait c sm hl (above_start c)
  · exact mayWait c sm hl (above_zero 0)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argsOf m ρ) c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · iframe HG Hlev H1 HN
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrP
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 semOf c ∗ Pipeline.scopedRest cfg0.spec c) := by
  rw [show (dats m ρ 0 c).Φ (Fin.last cfg0.N) = Φ₁ c from rfl, scopedRest0_eq, unscopedSems0_eq]
  unfold Φ₁ scrP Pipeline.ownSems0 done
  iintro ⟨Hr, Hd, Hb⟩
  isplitl [Hb]; · iexact Hb
  isplitl [Hd]; · iexact Hd
  iexact Hr

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Over any float values, from any memory with zero counters: every fair execution of the module on the sixteen devices
    ends, each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (argsOf m ρ)) (G' := G' (argsOf m ρ)) (u₀ := u₀)
    (hu₀ := by
      unfold u₀
      iintro Hu
      ihave H := (ownU_pair _ _) $$ Hu
      icases H with ⟨HP, HX⟩
      imod (fund_all (argsOf m ρ)) $$ HX with HG
      imodintro
      isplitl [HP] <;> iassumption)
    (hglob := glob (argsOf m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands after the run hold what they held. -/
theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _

end Cert.AllReduce
-- ==== Proof.Frames.lean ====
/-
The frames: every program's executions end, its arguments unchanged and every counter at zero.
-/
module

public import proofs.«01_k».proof.Proof.Run
public import proofs.«01_k».proof.Defs
public import proofs.«01_k».proof.Proof.Gen.Kernel
public import proofs.«01_k».proof.Proof.Gen.ReferenceIdeal
public import proofs.«01_k».proof.Proof.Gen.ReferenceIdeal.Run

@[expose] public section

noncomputable section

namespace Cert.AllReduce

open Idealize.ShloMosaic Idealize.ShloMosaic.TcCoe Idealize.SL.Sem

/-- At any floats: every execution ends, the operands and the counters as they were. -/
theorem frame_any {F : FTy → Type} [FloatOps F] (m : (l : Loc Cert.KernelIdeal.nD Cert.KernelIdeal.τ Cert.KernelIdeal.sig) → Buf (Elt F) l) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c 0).trans (finalA_x m ρ c), (h.1 c 1).trans (finalA_w m ρ c)⟩, h.2⟩) (run_main (F := F) m ρ)

/-- The idealized kernel leaves its operands and its counters as they were. -/
theorem frame_ideal : Cert.quiescent_KernelIdeal (hKernelIdeal := Cert.KernelIdeal.Gen.facts) := fun m ρ _ => frame_any m ρ

/-- The kernel and the idealized kernel are one text: the same bodies, -/
theorem bodies_eq {F : FTy → Type} [FloatOps F] : Cert.Kernel.cc0_body (F := F) = Cert.KernelIdeal.cc0_body (F := F) := by
  delta Cert.Kernel.cc0_body Cert.KernelIdeal.cc0_body
  rfl

/-- the same table of labels, -/
theorem labels_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) =>
    show Cert.Kernel.cc0_body _ _ _ _ _ _ _ _ _ _ _ _ _ _ _ _ _ _ _ = _
    rw [bodies_eq]
  | ⟨_ + 1, h⟩, _ => exact absurd h (Nat.not_lt.2 (Nat.le_add_left _ _))

/-- and the same table of regions. -/
theorem defs_eq {F : FTy → Type} [FloatOps F] : Cert.Kernel.defs (F := F) = Cert.KernelIdeal.defs (F := F) := by
  unfold Cert.Kernel.defs Cert.KernelIdeal.defs
  rw [labels_eq]
  rfl

/-- The kernel at the machine's floats leaves its operands and its counters as they were. -/
theorem frame_kernel : Cert.quiescent_Kernel (hKernel := Cert.Kernel.Gen.facts) := fun m ρ _ => by
  rw [defs_eq]
  exact frame_any (F := Bits) m ρ

/-- The reference does too. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.AllReduce

end
-- ==== Proof.Sum.lean ====
/-
What a device's result holds at the extended reals: the sum over the sixteen devices of the products of their blocks.
-/
module

public import proofs.«01_k».proof.Proof.Buf
public import Idealize.ShloMosaic.Lib.MatmulPlain

@[expose] public section

set_option maxRecDepth 20000

noncomputable section

namespace Cert.AllReduce

open Cert.KernelIdeal Cert.KernelIdeal.Gen
open Idealize.ShloMosaic Idealize.ShloMosaic.TcCoe
open Idealize.ShloMosaic.ValueIdx
open scoped BigOperators

variable (A : Args Ideal)

/-! ## The local products -/

/-- The devices' blocks and products as arrays of extended reals. -/
abbrev xV (c : Dev nD) : FVec Ideal S2048x128 .f32 := A.x c
abbrev wV (c : Dev nD) : FVec Ideal S128x2048 .f32 := A.w c
abbrev pV (c : Dev nD) : FVec Ideal S2048x2048 .f32 := prodC A c

/-- An element of a device's product: the sum over its 128 columns. -/
theorem prodC_apply (c : Dev nD) (r : Fin 2048) (q : Fin 2048) :
    prodC A c (ix2 r q) = ∑ k : Fin 128, (xV A c (ix2 r k) * wV A c (ix2 k q) : EReal) := by
  show FloatOps.matmul (DotDims.plain 2048 128 2048) none (shapeCast S2048x128 (xV A c) shapeCasts_S2048x128_S2048x128)
    (shapeCast S128x2048 (wV A c) shapeCasts_S128x2048_S128x2048) (constant S2048x2048 .f32 0x00000000#32) (ix2 r q) = _
  rw [shapeCast_self, shapeCast_self, Ideal.matmul_plain_apply]
  show Ideal.ofBits .f32 0x00000000#32 + _ = _
  rw [Ideal.ofBits_zero_f32, zero_add]

theorem off1_eq : ∀ c : Dev nD, k0_off1 c 0 = 512 * (c.val % 4) ∧ k0_off1 c 1 = 0 := by decide +kernel

/-- The rows a device loads for its own quarter, read at an element. -/
theorem loaded_apply (c : Dev nD) (r : Fin 512) (k : Fin 128) (R : Fin 2048) (hR : R.val = 512 * (c.val % 4) + r.val) :
    (x0 : Memref sig .tc .vmem S2048x128 .f32).view.readAt (Elt Ideal) (Rect.unit (s := S2048x128) (k0_off1 c) S512x128.size (k0_off1_inb c)).toLoadRect (A.x c) (ix2 r k)
      = A.x c (ix2 R k) := by
  show A.x c ((Rect.unit (s := S2048x128) (k0_off1 c) S512x128.size (k0_off1_inb c)).emb (ix2 r k)) = _
  refine congrArg (A.x c) (funext fun a => Fin.ext ?_)
  fin_cases a
  · show k0_off1 c 0 + 1 * r.val = R.val
    rw [(off1_eq c).1]; omega
  · show k0_off1 c 1 + 1 * k.val = k.val
    rw [(off1_eq c).2]; omega

/-- An element of the product of a device's own quarter is the product's element in those rows. -/
theorem quarterC_apply (c : Dev nD) (r : Fin 512) (q : Fin 2048) (R : Fin 2048) (hR : R.val = 512 * (c.val % 4) + r.val) :
    quarterC A c (ix2 r q) = prodC A c (ix2 R q) := by
  rw [prodC_apply]
  show FloatOps.matmul (DotDims.plain 512 128 2048) none (shapeCast S512x128 _ shapeCasts_S512x128_S512x128)
    (shapeCast S128x2048 (wV A c) shapeCasts_S128x2048_S128x2048) (constant S512x2048 .f32 0x00000000#32) (ix2 r q) = _
  rw [shapeCast_self, shapeCast_self, Ideal.matmul_plain_apply]
  show Ideal.ofBits .f32 0x00000000#32 + _ = _
  rw [Ideal.ofBits_zero_f32, zero_add]
  exact Finset.sum_congr rfl fun k _ => congrArg (fun z : EReal => z * wV A c (ix2 k q)) (loaded_apply A c r k R hR)

/-- A stream's rows of a quarter of the product. -/
theorem U_apply (c : Dev nD) (st : Fin 16) (r : Fin 4) (j : S32x2048.Idx) : U A c st r j = prodC A c ((oBR (st, r)).emb j) := rfl

/-- The row of the result at a row of a stream's block. -/
def rowAt (st : Fin 16) (r : Fin 4) (j : S32x2048.Idx) : Fin 2048 :=
  ⟨512 * r.val + rowBase st + (j 0).val, by
    have := st.isLt; have := r.isLt; have hj : (j 0).val < 32 := (j 0).isLt
    rw [rowBase_eq]; omega⟩

theorem emb_oBR (st : Fin 16) (r : Fin 4) (j : S32x2048.Idx) : (oBR (st, r)).emb j = ix2 (rowAt st r j) (j 1) := by
  refine funext fun a => Fin.ext ?_
  fin_cases a
  · show 512 * r.val + rowBase st + 1 * (j 0).val = 512 * r.val + rowBase st + (j 0).val
    omega
  · show 0 + 1 * (j 1).val = (j 1).val
    omega

theorem ob_zero (c : Dev nD) (st : Fin 16) : (ob c st 0).val = c.val % 4 := by
  show (bif fwd st then c.val % 4 + 4 - 0 else c.val % 4 + 0) % 4 = c.val % 4
  cases fwd st <;> simp only [cond_true, cond_false] <;> omega

/-- The first two streams' rows of the own quarter are the product's rows. -/
theorem Uq_eq (c : Dev nD) (st : Fin 16) : Uq A c st = U A c st (ob c st 0) := by
  funext j
  have hj : (j 0).val < 32 := (j 0).isLt
  have hs := st.isLt
  have hr : rowBase st + (j 0).val < 512 := by rw [rowBase_eq]; omega
  have he : (Rect.unit (s := S512x2048) ![rowBase st, 0] S32x2048.size (qB_inb st)).emb j = ix2 (⟨rowBase st + (j 0).val, hr⟩ : Fin 512) (j 1) := by
    refine funext fun a => Fin.ext ?_
    fin_cases a
    · show rowBase st + 1 * (j 0).val = rowBase st + (j 0).val
      omega
    · show 0 + 1 * (j 1).val = (j 1).val
      omega
  rw [U_apply, emb_oBR]
  unfold Uq
  rw [he]
  refine quarterC_apply A c _ _ _ ?_
  show 512 * (ob c st 0).val + rowBase st + (j 0).val = 512 * (c.val % 4) + (rowBase st + (j 0).val)
  rw [ob_zero]; omega

/-! ## The sums along the rings and across the planes -/

theorem addf_apply' (a b : V32 Ideal) (j : S32x2048.Idx) : addf a b j = (a j : EReal) + b j := rfl

/-- The devices a stream has passed when a device has added its own rows. -/
def ringL (st : Fin 16) (c : Dev nD) : List (Dev nD) := [prevD (prevD (prevD c st) st) st, prevD (prevD c st) st, prevD c st, c]

/-- The quarter a stream is in, told by each device it has passed. -/
theorem ob_ring : ∀ (c : Dev nD) (st : Fin 16), ob (prevD (prevD (prevD c st) st) st) st 0 = ob c st 3 ∧ ob (prevD (prevD c st) st) st 1 = ob c st 3
    ∧ ob (prevD c st) st 2 = ob c st 3 := by decide +kernel

theorem Av_zero (c : Dev nD) (st : Fin 16) : Av A st 0 c = U A c st (ob c st 0) := by
  unfold Av unO
  rw [shapeCast_self, Uq_eq]
  cases Nat.ble 2 st.val <;> rfl

/-- A ring's sum: the rows of the four devices of a plane. -/
theorem Av_sum (c : Dev nD) (st : Fin 16) (j : S32x2048.Idx) :
    Av A st 3 c j = ((ringL st c).map fun d => (U A d st (ob c st 3) j : EReal)).sum := by
  obtain ⟨h0, h1, h2⟩ := ob_ring c st
  have e1 (d : Dev nD) (n : ℕ) : Av A st (n + 1) d j = (Av A st n (prevD d st) j : EReal) + U A d st (ob d st (Fin.ofNat 4 (n + 1))) j := by
    show addf (Av A st n (prevD d st)) (unO (U A d st (ob d st (Fin.ofNat 4 (n + 1))))) j = _
    rw [addf_apply', unO, shapeCast_self]
  rw [e1 c 2, e1 (prevD c st) 1, e1 (prevD (prevD c st) st) 0, Av_zero, h0]
  rw [show ob (prevD c st) st (Fin.ofNat 4 (1 + 1)) = ob c st 3 from h2, show ob (prevD (prevD c st) st) st (Fin.ofNat 4 (0 + 1)) = ob c st 3 from h1,
    show ob c st (Fin.ofNat 4 (2 + 1)) = ob c st 3 from rfl]
  simp only [ringL, List.map_cons, List.map_nil, List.sum_cons, List.sum_nil, add_zero, add_assoc]

/-- The devices of the planes below by `n` or less, and above. -/
def preL (st : Fin 16) : ℕ → Dev nD → List (Dev nD)
  | 0, c => ringL st c
  | n + 1, c => preL st n (dnD c) ++ ringL st c
def sufL (st : Fin 16) : ℕ → Dev nD → List (Dev nD)
  | 0, c => ringL st c
  | n + 1, c => sufL st n (upD c) ++ ringL st c

theorem ob_planes : ∀ (c : Dev nD) (st : Fin 16), ob (dnD c) st 3 = ob c st 3 ∧ ob (upD c) st 3 = ob c st 3 := by decide +kernel

theorem preN_sum (st : Fin 16) (j : S32x2048.Idx) : ∀ (n : ℕ) (c : Dev nD),
    preN A st n c j = ((preL st n c).map fun d => (U A d st (ob c st 3) j : EReal)).sum
  | 0, c => Av_sum A c st j
  | n + 1, c => by
    show addf (preN A st n (dnD c)) (Av A st 3 c) j = ((preL st n (dnD c) ++ ringL st c).map fun d => (U A d st (ob c st 3) j : EReal)).sum
    rw [addf_apply', preN_sum st j n (dnD c), Av_sum, (ob_planes c st).1, List.map_append, List.sum_append]
theorem sufN_sum (st : Fin 16) (j : S32x2048.Idx) : ∀ (n : ℕ) (c : Dev nD),
    sufN A st n c j = ((sufL st n c).map fun d => (U A d st (ob c st 3) j : EReal)).sum
  | 0, c => Av_sum A c st j
  | n + 1, c => by
    show addf (sufN A st n (upD c)) (Av A st 3 c) j = ((sufL st n (upD c) ++ ringL st c).map fun d => (U A d st (ob c st 3) j : EReal)).sum
    rw [addf_apply', sufN_sum st j n (upD c), Av_sum, (ob_planes c st).2, List.map_append, List.sum_append]

/-- The devices of a total. -/
def totL (st : Fin 16) (c : Dev nD) : List (Dev nD) :=
  preL st (row c) c ++ (if row c = 3 then [] else sufL st (3 - row (upD c)) (upD c))

/-- They are all the devices, once each. -/
theorem totL_perm : ∀ (c : Dev nD) (st : Fin 16), (totL st c).Perm (List.finRange 16) := by decide +kernel

/-- A total: the sum over all devices. -/
theorem tot_sum (c : Dev nD) (st : Fin 16) (j : S32x2048.Idx) : tot A c st j = ∑ d : Fin 16, (U A d st (ob c st 3) j : EReal) := by
  have h : tot A c st j = ((totL st c).map fun d => (U A d st (ob c st 3) j : EReal)).sum := by
    unfold tot totL preV sufIn
    rw [addf_apply', preN_sum, List.map_append, List.sum_append]
    refine congrArg (_ + ·) ?_
    by_cases h3 : row c = 3
    · rw [if_pos h3, if_pos h3]
      exact Ideal.ofBits_zero_f32
    · rw [if_neg h3, if_neg h3, sufV, sufN_sum, (ob_planes c st).2]
  rw [h, ((totL_perm c st).map _).sum_eq]
  exact (Fin.sum_univ_def _).symm

theorem ob_srcD : ∀ (c : Dev nD) (st : Fin 16) (r : Fin 4), ob (srcD c st r) st 3 = r := by decide +kernel

theorem emb_jI (i : S2048x2048.Idx) : (oBR (stI i, rI i)).emb (jI i) = i := by
  have h0 : (i 0).val < 2048 := (i 0).isLt
  refine funext fun a => Fin.ext ?_
  fin_cases a
  · show 512 * (rI i).val + rowBase (stI i) + 1 * ((i 0).val % 32) = (i 0).val
    rw [rowBase_eq]
    simp only [stI, rI]
    omega
  · show 0 + 1 * (i 1).val = (i 1).val
    omega

/-- A device's result as an array of extended reals. -/
abbrev rV (c : Dev nD) : FVec Ideal S2048x2048 .f32 := resC A c

/-- A device's result: the sum over all devices of their products. -/
theorem resC_sum (c : Dev nD) (i : S2048x2048.Idx) : rV A c i = ∑ d : Fin 16, (pV A d i : EReal) := by
  have h (d : Fin 16) : (U A d (stI i) (ob (srcD c (stI i) (rI i)) (stI i) 3) (jI i) : EReal) = pV A d i := by
    rw [ob_srcD, U_apply, emb_jI]
  exact (tot_sum A _ _ _).trans (Fintype.sum_congr _ _ h)

/-- Written out: the sum over the devices and over each one's columns. -/
theorem resC_apply (c : Dev nD) (r q : Fin 2048) :
    rV A c (ix2 r q) = ∑ d : Fin 16, ∑ k : Fin 128, (xV A d (ix2 r k) * wV A d (ix2 k q) : EReal) :=
  (resC_sum A c _).trans (Fintype.sum_congr _ _ fun d => prodC_apply A d r q)

/-! ## The cut of the contracted axis -/

/-- The place of column `k` of device `d` in the whole arrays. -/
def colAt (d : Fin 16) (k : Fin 128) : Fin 2048 := ⟨d.val * 128 + k.val, by omega⟩

/-- A sum over the whole axis is the sum over the devices of the sums over their parts of it. -/
theorem sum_cut (f : Fin 2048 → EReal) : ∑ n, f n = ∑ d : Fin 16, ∑ k : Fin 128, f (colAt d k) := by
  rw [← Fintype.sum_prod_type' (f := fun d k => f (colAt d k)), ← Equiv.sum_comp (finProdFinEquiv (m := 16) (n := 128)) (f : Fin (16 * 128) → EReal)]
  refine Finset.sum_congr rfl fun p _ => congrArg f (Fin.ext ?_)
  show p.2.val + 128 * p.1.val = p.1.val * 128 + p.2.val
  omega

end Cert.AllReduce

end
-- ==== Proof.Value.lean ====
/-
The values: at the extended reals the kernel and the reference compute one array.
-/
module

public import proofs.«01_k».proof.Proof.Frames
public import proofs.«01_k».proof.Proof.Sum

@[expose] public section

set_option maxRecDepth 20000

noncomputable section

namespace Cert.AllReduce

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

section
variable {F : FTy → Type} [FloatOps F] (m : (l : Loc nD τ sig) → Buf (Elt F) l) (ρ : Dev nD → PrngReg) (c : Dev nD)

/-! ## The windows are whole arrays -/

theorem blk_x (f : Buf (Elt F) ((c : Thread nD τ).loc main_arg0)) : (win0_0.blk (0 : Fin 1)).view.read (Elt F) f = f :=
  Memref.read_access_unit_zero (Elt F) main_arg0
    (show (fun a => (win0_0.index (0 : Fin 1)) a * main_arg0.ty.shape.size a) = fun _ => 0 from
      funext fun a => by fin_cases a <;> decide) (fun a => by fin_cases a <;> decide) f
theorem blk_w (f : Buf (Elt F) ((c : Thread nD τ).loc main_arg1)) : (win0_1.blk (0 : Fin 1)).view.read (Elt F) f = f :=
  Memref.read_access_unit_zero (Elt F) main_arg1
    (show (fun a => (win0_1.index (0 : Fin 1)) a * main_arg1.ty.shape.size a) = fun _ => 0 from
      funext fun a => by fin_cases a <;> decide) (fun a => by fin_cases a <;> decide) f
theorem blk_out (f : Buf (Elt F) ((c : Thread nD τ).loc main_v1)) : (win0_2.blk (0 : Fin 1)).view.read (Elt F) f = f :=
  Memref.read_access_unit_zero (Elt F) main_v1
    (show (fun a => (win0_2.index (0 : Fin 1)) a * main_v1.ty.shape.size a) = fun _ => 0 from
      funext fun a => by fin_cases a <;> decide) (fun a => by fin_cases a <;> decide) f

theorem argsOf_x : (argsOf m ρ).x c = m ((c : Thread nD τ).loc main_arg0) := blk_x (F := F) c (m ((c : Thread nD τ).loc main_arg0))
theorem argsOf_w : (argsOf m ρ).w c = m ((c : Thread nD τ).loc main_arg1) := blk_w (F := F) c (m ((c : Thread nD τ).loc main_arg1))

/-- The result array after the run is what the body left in its staging buffer. -/
theorem finalA_out : finalA m ρ c (2 : Fin 3) = resC (argsOf m ρ) c := by
  have hw : ((cfg0.win (2 : Fin 3)).blk t0_0).view.read (Elt F) ((dats m ρ 0 c).arrAt (2 : Fin 3) cfg0.N) = (dats m ρ 0 c).flushed (2 : Fin 3) t0_0 := by
    rw [show cfg0.N = t0_0.val + 1 from rfl, (dats m ρ 0 c).arrAt_succ (2 : Fin 3) t0_0, show (cfg0.win (2 : Fin 3)).flush t0_0 = true from rfl, if_pos rfl]
    exact View.read_write_univ _ _
  have hf : (dats m ρ 0 c).flushed (2 : Fin 3) t0_0 = resC (argsOf m ρ) c := rfl
  rw [hf] at hw
  exact (blk_out c _).symm.trans hw
end

/-! ## The claim -/

/-- The reference's product read at an element. -/
theorem ref_apply (x w : FVec Ideal S2048x2048 .f32) (r q : Fin 2048) :
    Host.dotGeneral (F := Ideal) Cert.ReferenceIdeal.dot_S2048x2048_S2048x2048_S2048x2048_1_0_0_1_n_n none x w (ix2 r q)
      = ∑ k : Fin 2048, (x (ix2 r k) * w (ix2 k q) : EReal) := by
  have h : Host.dotGeneral (F := Ideal) Cert.ReferenceIdeal.dot_S2048x2048_S2048x2048_S2048x2048_1_0_0_1_n_n none x w (ix2 r q)
      = FloatOps.matmul (F := Ideal) (DotDims.plain 2048 2048 2048) none x w (fun _ => (0 : EReal)) (ix2 r q) := rfl
  rw [h, Ideal.matmul_plain_apply]
  exact zero_add _

/-- If the devices hold the blocks of two arrays, every device's result is the arrays' product. -/
theorem res_eq (A : Args Ideal) (X W : FVec Ideal S2048x2048 .f32)
    (hx : ∀ c : Dev nD, A.x c = Layout.block ⟨2, ![2048, 128]⟩ ⟨2, ![2048, 2048]⟩ 1 16 c X)
    (hw : ∀ c : Dev nD, A.w c = Layout.block ⟨2, ![128, 2048]⟩ ⟨2, ![2048, 2048]⟩ 0 16 c W) (c : Dev nD) :
    resC A c = Host.dotGeneral (F := Ideal) Cert.ReferenceIdeal.dot_S2048x2048_S2048x2048_S2048x2048_1_0_0_1_n_n none X W := by
  funext i
  obtain ⟨r, q, rfl⟩ : ∃ (r q : Fin 2048), i = ix2 r q := ⟨i 0, i 1, eq_ix2 i⟩
  show rV A c (ix2 r q) = _
  rw [resC_apply, ref_apply, sum_cut]
  refine Finset.sum_congr rfl fun d _ => Finset.sum_congr rfl fun k _ => ?_
  have e1 : xV A d (ix2 r k) = X (ix2 r (colAt d k)) := by
    rw [xV, hx d, Layout.block_apply]
    refine congrArg X (funext fun a => Fin.ext ?_)
    fin_cases a <;> rfl
  have e2 : wV A d (ix2 k q) = W (ix2 (colAt d k) q) := by
    rw [wV, hw d, Layout.block_apply]
    refine congrArg W (funext fun a => Fin.ext ?_)
    fin_cases a <;> rfl
  rw [e1, e2]

/-- At the extended reals, on devices holding the blocks of the reference's arguments, every execution of the kernel leaves on
    every device the reference's result. -/
theorem algebraic : Cert.algebraic_KernelIdeal_ReferenceIdeal (hKernelIdeal := Cert.KernelIdeal.Gen.facts) (hReferenceIdeal := Cert.ReferenceIdeal.Gen.facts) := by
  intro m g m' g' _ hm
  refine ⟨_, (θ_run Cert.KernelIdeal.defs _ _).mono (fun r h c => ⟨(h.1 c 2).trans ((finalA_out m g c).trans
      (res_eq (argsOf m g) _ _ (fun d => (argsOf_x m g d).trans (hm d).1) (fun d => (argsOf_w m g d).trans (hm d).2) c)),
      (h.1 c 0).trans (finalA_x m g c), (h.1 c 1).trans (finalA_w m g c)⟩) (run_main (F := Ideal) m g),
    (θ_run Cert.ReferenceIdeal.defs _ _).mono (fun r h => h 0) (Cert.ReferenceIdeal.Value.run (F := Ideal) m' g')⟩

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The three programs' frames, the idealized kernel's text, and the kernel's value at the extended reals. -/
theorem claim : Cert.Claim := ⟨Cert.Kernel.Gen.facts, Cert.KernelIdeal.Gen.facts, Cert.ReferenceIdeal.Gen.facts,
  Cert.AllReduce.frame_kernel, Cert.AllReduce.frame_ideal, Cert.AllReduce.frame_reference, trivial, Cert.AllReduce.algebraic⟩

end Cert.Proof

end
